-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_router_finite [hPre_router_finite : Cert.Pre_router_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_router_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_router_finite [hPre_router_finite : Cert.Pre_router_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_router_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_router_finite [hKernel4Ideal : Cert.Kernel4Ideal.Facts] [hPre_router_finite : Cert.Pre_router_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_router_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_router_finite [hReference4Ideal : Cert.Reference4Ideal.Facts] [hPre_router_finite : Cert.Pre_router_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_router_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)) (v2 : (c : Dev Cert.KernelIdeal.nD) → Buf (Elt Ideal) ((c.tc : Thread Cert.KernelIdeal.nD Cert.KernelIdeal.τ).loc Cert.KernelIdeal.main_v75_2)) (v3 : (c : Dev Cert.KernelIdeal.nD) → Buf (Elt Ideal) ((c.tc : Thread Cert.KernelIdeal.nD Cert.KernelIdeal.τ).loc Cert.KernelIdeal.main_v75_3)) (v4 : (c : Dev Cert.KernelIdeal.nD) → Buf (Elt Ideal) ((c.tc : Thread Cert.KernelIdeal.nD Cert.KernelIdeal.τ).loc Cert.KernelIdeal.main_v75_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_v75_2) = v2 c
          ∧ r.2.mem ((c.tc : Thread Cert.KernelIdeal.nD Cert.KernelIdeal.τ).loc Cert.KernelIdeal.main_v75_3) = v3 c
          ∧ r.2.mem ((c.tc : Thread Cert.KernelIdeal.nD Cert.KernelIdeal.τ).loc Cert.KernelIdeal.main_v75_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v232) = v2 c
          ∧ r.2.mem ((c.tc : Thread Cert.ReferenceIdeal.nD Cert.ReferenceIdeal.τ).loc Cert.ReferenceIdeal.main_v234) = v3 c
          ∧ r.2.mem ((c.tc : Thread Cert.ReferenceIdeal.nD Cert.ReferenceIdeal.τ).loc Cert.ReferenceIdeal.main_v228) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_router_finite [hKernel4Ideal : Cert.Kernel4Ideal.Facts] [hReference4Ideal : Cert.Reference4Ideal.Facts] [hPre_router_finite : Cert.Pre_router_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_router_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v21_2)) (v1 : (c : Dev Cert.Kernel4Ideal.nD) → Buf (Elt Ideal) ((c.tc : Thread Cert.Kernel4Ideal.nD Cert.Kernel4Ideal.τ).loc Cert.Kernel4Ideal.main_v21_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_2) = v0 c
          ∧ r.2.mem ((c.tc : Thread Cert.Kernel4Ideal.nD Cert.Kernel4Ideal.τ).loc Cert.Kernel4Ideal.main_v21_3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_in_range : Cert.Pre_in_range.Facts) (hPre_router_finite : Cert.Pre_router_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_router_finite (hKernel4Ideal := hKernel4Ideal) (hPre_router_finite := hPre_router_finite)
    ∧ quiescent_Reference4Ideal (hReference4Ideal := hReference4Ideal)
    ∧ quiescent_Reference4Ideal_pre_router_finite (hReference4Ideal := hReference4Ideal) (hPre_router_finite := hPre_router_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_router_finite (hKernel4Ideal := hKernel4Ideal) (hReference4Ideal := hReference4Ideal) (hPre_router_finite := hPre_router_finite)
-- ==== Pre_finite.lean ====
abbrev S8x16x2048 : Shape := ⟨3, ![8, 16, 2048]⟩
abbrev S1x8x128x2x64 : Shape := ⟨5, ![1, 8, 128, 2, 64]⟩
abbrev S1x8x15x1024 : Shape := ⟨4, ![1, 8, 15, 1024]⟩
abbrev S1x2048 : Shape := ⟨2, ![1, 2048]⟩
abbrev S1x2048x6400 : Shape := ⟨3, ![1, 2048, 6400]⟩
abbrev S1x64 : Shape := ⟨2, ![1, 64]⟩
abbrev S1x16 : Shape := ⟨2, ![1, 16]⟩
abbrev S1x4x256x256 : Shape := ⟨4, ![1, 4, 256, 256]⟩
abbrev S1x1024 : Shape := ⟨2, ![1, 1024]⟩
abbrev S_ : Shape := ⟨0, ![]⟩

class Facts : Prop where
  bcast_S_S8x16x2048 : S_.BroadcastsInDim S8x16x2048 (![] : Fin 0 → Fin S8x16x2048.rank)
  reducesTo_S8x16x2048_S_d0_1_2 : S8x16x2048.ReducesTo [0, 1, 2] S_
  h_S_ : 0 < S_.numel
  bcast_S_S1x8x128x2x64 : S_.BroadcastsInDim S1x8x128x2x64 (![] : Fin 0 → Fin S1x8x128x2x64.rank)
  reducesTo_S1x8x128x2x64_S_d0_1_2_3_4 : S1x8x128x2x64.ReducesTo [0, 1, 2, 3, 4] S_
  bcast_S_S1x8x15x1024 : S_.BroadcastsInDim S1x8x15x1024 (![] : Fin 0 → Fin S1x8x15x1024.rank)
  reducesTo_S1x8x15x1024_S_d0_1_2_3 : S1x8x15x1024.ReducesTo [0, 1, 2, 3] S_
  bcast_S_S1x2048 : S_.BroadcastsInDim S1x2048 (![] : Fin 0 → Fin S1x2048.rank)
  reducesTo_S1x2048_S_d0_1 : S1x2048.ReducesTo [0, 1] S_
  bcast_S_S1x2048x6400 : S_.BroadcastsInDim S1x2048x6400 (![] : Fin 0 → Fin S1x2048x6400.rank)
  reducesTo_S1x2048x6400_S_d0_1_2 : S1x2048x6400.ReducesTo [0, 1, 2] S_
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_arg8 : FVec F S1x16 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  main_v38

def fn_part1 {F : FTy → Type} [FloatOps F] (main_arg5 : FVec F S1x2048x6400 .f32) (main_arg6 : FVec F S1x64 .f32) (main_arg7 : FVec F S1x64 .f32) (main_arg8 : FVec F S1x16 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048x6400 .f32 := Host.absf main_arg5
  let main_cst_6 : FVec F S_ .f32 := constant S_ .f32 0x7F800000#32
  let main_v20 : FVec F S1x2048x6400 .f32 := broadcastInDim S1x2048x6400 ![] bcast_S_S1x2048x6400 main_cst_6
  let main_v21 : IVec S1x2048x6400 1 := cmpf .olt main_v19 main_v20
  let main_c_7 : IVec S_ 1 := constantI S_ 1 1#1
  let main_v22 : IVec S_ 1 := (fun x v => Host.reduce IntOp.andi x v reducesTo_S1x2048x6400_S_d0_1_2 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg8 main_v33

def fn {F : FTy → Type} [FloatOps F] (main_arg0 : FVec F S8x16x2048 .f32) (main_arg1 : FVec F S1x8x128x2x64 .f32) (main_arg2 : FVec F S1x8x128x2x64 .f32) (main_arg3 : FVec F S1x8x15x1024 .f32) (main_arg4 : FVec F S1x2048 .f32) (main_arg5 : FVec F S1x2048x6400 .f32) (main_arg6 : FVec F S1x64 .f32) (main_arg7 : FVec F S1x64 .f32) (main_arg8 : FVec F S1x16 .f32) (main_arg9 : FVec F S1x4x256x256 .f32) (main_arg10 : FVec F S1x1024 .f32) : IVec S_ 1 :=
  let main_v0 : FVec F S8x16x2048 .f32 := Host.absf main_arg0
  let main_cst : FVec F S_ .f32 := constant S_ .f32 0x7F800000#32
  let main_v1 : FVec F S8x16x2048 .f32 := broadcastInDim S8x16x2048 ![] bcast_S_S8x16x2048 main_cst
  let main_v2 : IVec S8x16x2048 1 := cmpf .olt main_v0 main_v1
  let main_c : IVec S_ 1 := constantI S_ 1 1#1
  let main_v3 : IVec S_ 1 := (fun x v => Host.reduce IntOp.andi x v reducesTo_S8x16x2048_S_d0_1_2 h_S_) main_v2 main_c
  let main_v4 : FVec F S1x8x128x2x64 .f32 := Host.absf main_arg1
  let main_cst_0 : FVec F S_ .f32 := constant S_ .f32 0x7F800000#32
  let main_v5 : FVec F S1x8x128x2x64 .f32 := broadcastInDim S1x8x128x2x64 ![] bcast_S_S1x8x128x2x64 main_cst_0
  let main_v6 : IVec S1x8x128x2x64 1 := cmpf .olt main_v4 main_v5
  let main_c_1 : IVec S_ 1 := constantI S_ 1 1#1
  let main_v7 : IVec S_ 1 := (fun x v => Host.reduce IntOp.andi x v reducesTo_S1x8x128x2x64_S_d0_1_2_3_4 h_S_) main_v6 main_c_1
  let main_v8 : IVec S_ 1 := andi main_v3 main_v7
  let main_v9 : FVec F S1x8x15x1024 .f32 := Host.absf main_arg3
  let main_cst_2 : FVec F S_ .f32 := constant S_ .f32 0x7F800000#32
  let main_v10 : FVec F S1x8x15x1024 .f32 := broadcastInDim S1x8x15x1024 ![] bcast_S_S1x8x15x1024 main_cst_2
  let main_v11 : IVec S1x8x15x1024 1 := cmpf .olt main_v9 main_v10
  let main_c_3 : IVec S_ 1 := constantI S_ 1 1#1
  let main_v12 : IVec S_ 1 := (fun x v => Host.reduce IntOp.andi x v reducesTo_S1x8x15x1024_S_d0_1_2_3 h_S_) main_v11 main_c_3
  let main_v13 : IVec S_ 1 := andi main_v8 main_v12
  let main_v14 : FVec F S1x2048 .f32 := Host.absf main_arg4
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg5 main_arg6 main_arg7 main_arg8 main_v13 main_v16
-- ==== Pre_in_range.lean ====
abbrev S161 : Shape := ⟨1, ![161]⟩
abbrev S164864x2048 : Shape := ⟨2, ![164864, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S161 : S_.BroadcastsInDim S161 (![] : Fin 0 → Fin S161.rank)
  reducesTo_S161_S_d0 : S161.ReducesTo [0] S_
  h_S_ : 0 < S_.numel

variable [Facts]

def fn_part1 {F : FTy → Type} [FloatOps F] (main_arg2 : IVec S161 32) (main_v12 : IVec S_ 1) (main_v14 : IVec S161 1) (main_v15 : IVec S161 32) : IVec S_ 1 :=
  let main_v16 : IVec S161 1 := cmpi .slt main_arg2 main_v15
  let main_v17 : IVec S161 1 := andi main_v14 main_v16
  let main_c_7 : IVec S_ 1 := constantI S_ 1 1#1
  let main_v18 : IVec S_ 1 := (fun x v => Host.reduce IntOp.andi x v reducesTo_S161_S_d0 h_S_) main_v17 main_c_7
  let main_v19 : IVec S_ 1 := andi main_v12 main_v18
  main_v19

def fn {F : FTy → Type} [FloatOps F] (main_arg0 : IVec S161 32) (main_arg1 : IVec S161 32) (main_arg2 : IVec S161 32) (main_arg3 : FVec F S164864x2048 .bf16) (main_arg4 : FVec F S1x32x2048x4096 .f32) (main_arg5 : FVec F S1x32x4096 .f32) (main_arg6 : FVec F S1x32x2048x2048 .f32) (main_arg7 : FVec F S1x32x2048 .f32) : IVec S_ 1 :=
  let main_c : IVec S_ 32 := constantI S_ 32 0#32
  let main_v0 : IVec S161 32 := broadcastInDim S161 ![] bcast_S_S161 main_c
  let main_v1 : IVec S161 1 := cmpi .sge main_arg0 main_v0
  let main_c_0 : IVec S_ 32 := constantI S_ 32 32#32
  let main_v2 : IVec S161 32 := broadcastInDim S161 ![] bcast_S_S161 main_c_0
  let main_v3 : IVec S161 1 := cmpi .slt main_arg0 main_v2
  let main_v4 : IVec S161 1 := andi main_v1 main_v3
  let main_c_1 : IVec S_ 1 := constantI S_ 1 1#1
  let main_v5 : IVec S_ 1 := (fun x v => Host.reduce IntOp.andi x v reducesTo_S161_S_d0 h_S_) main_v4 main_c_1
  let main_c_2 : IVec S_ 32 := constantI S_ 32 0#32
  let main_v6 : IVec S161 32 := broadcastInDim S161 ![] bcast_S_S161 main_c_2
  let main_v7 : IVec S161 1 := cmpi .sge main_arg1 main_v6
  let main_c_3 : IVec S_ 32 := constantI S_ 32 1024#32
  let main_v8 : IVec S161 32 := broadcastInDim S161 ![] bcast_S_S161 main_c_3
  let main_v9 : IVec S161 1 := cmpi .sle main_arg1 main_v8
  let main_v10 : IVec S161 1 := andi main_v7 main_v9
  let main_c_4 : IVec S_ 1 := constantI S_ 1 1#1
  let main_v11 : IVec S_ 1 := (fun x v => Host.reduce IntOp.andi x v reducesTo_S161_S_d0 h_S_) main_v10 main_c_4
  let main_v12 : IVec S_ 1 := andi main_v5 main_v11
  let main_c_5 : IVec S_ 32 := constantI S_ 32 0#32
  let main_v13 : IVec S161 32 := broadcastInDim S161 ![] bcast_S_S161 main_c_5
  let main_v14 : IVec S161 1 := cmpi .sge main_arg2 main_v13
  let main_c_6 : IVec S_ 32 := constantI S_ 32 161#32
  let main_v15 : IVec S161 32 := broadcastInDim S161 ![] bcast_S_S161 main_c_6
  fn_part1 (F := F) main_arg2 main_v12 main_v14 main_v15
-- ==== Pre_router_finite.lean ====
abbrev S8x16x2048 : Shape := ⟨3, ![8, 16, 2048]⟩
abbrev S8x16x1024 : Shape := ⟨3, ![8, 16, 1024]⟩
abbrev S1x2048 : Shape := ⟨2, ![1, 2048]⟩
abbrev S1x2048x6400 : Shape := ⟨3, ![1, 2048, 6400]⟩
abbrev S1x1024x2048 : Shape := ⟨3, ![1, 1024, 2048]⟩
abbrev S1x2048x2048 : Shape := ⟨3, ![1, 2048, 2048]⟩
abbrev S1x2048x32 : Shape := ⟨3, ![1, 2048, 32]⟩
abbrev S1x32 : Shape := ⟨2, ![1, 32]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1x2048x32 : S_.BroadcastsInDim S1x2048x32 (![] : Fin 0 → Fin S1x2048x32.rank)
  reducesTo_S1x2048x32_S_d0_1_2 : S1x2048x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S8x16x2048 .f32) (main_arg1 : FVec F S8x16x1024 .bf16) (main_arg2 : FVec F S8x16x1024 .bf16) (main_arg3 : FVec F S1x2048 .f32) (main_arg4 : FVec F S1x2048x6400 .f32) (main_arg5 : FVec F S1x1024x2048 .f32) (main_arg6 : FVec F S1x1024x2048 .f32) (main_arg7 : FVec F S1x2048x2048 .f32) (main_arg8 : FVec F S1x2048 .f32) (main_arg9 : FVec F S1x2048x32 .f32) (main_arg10 : FVec F S1x32 .f32) : IVec S_ 1 :=
  let main_v0 : FVec F S1x2048 .f32 := Host.absf main_arg8
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048x32 .f32 := Host.absf main_arg9
  let main_cst_0 : FVec F S_ .f32 := constant S_ .f32 0x7F800000#32
  let main_v5 : FVec F S1x2048x32 .f32 := broadcastInDim S1x2048x32 ![] bcast_S_S1x2048x32 main_cst_0
  let main_v6 : IVec S1x2048x32 1 := cmpf .olt main_v4 main_v5
  let main_c_1 : IVec S_ 1 := constantI S_ 1 1#1
  let main_v7 : IVec S_ 1 := (fun x v => Host.reduce IntOp.andi x v reducesTo_S1x2048x32_S_d0_1_2 h_S_) main_v6 main_c_1
  let main_v8 : IVec S_ 1 := andi main_v3 main_v7
  let main_cst_2 : FVec F S_ .f32 := constant S_ .f32 0xFF800000#32
  let main_v9 : FVec F S1x32 .f32 := broadcastInDim S1x32 ![] bcast_S_S1x32 main_cst_2
  let main_v10 : IVec S1x32 1 := cmpf .ogt main_arg10 main_v9
  let main_c_3 : IVec S_ 1 := constantI S_ 1 1#1
  let main_v11 : IVec S_ 1 := (fun x v => Host.reduce IntOp.andi x v reducesTo_S1x32_S_d0_1 h_S_) main_v10 main_c_3
  let main_v12 : IVec S_ 1 := andi main_v8 main_v11
  main_v12
-- ==== Kernel.lean ====
abbrev S8x16x2048 : Shape := ⟨3, ![8, 16, 2048]⟩
abbrev S1x8x128x2x64 : Shape := ⟨5, ![1, 8, 128, 2, 64]⟩
abbrev S1x8x15x1024 : Shape := ⟨4, ![1, 8, 15, 1024]⟩
abbrev S1x2048 : Shape := ⟨2, ![1, 2048]⟩
abbrev S1x2048x6400 : Shape := ⟨3, ![1, 2048, 6400]⟩
abbrev S1x64 : Shape := ⟨2, ![1, 64]⟩
abbrev S1x16 : Shape := ⟨2, ![1, 16]⟩
abbrev S1x4x256x256 : Shape := ⟨4, ![1, 4, 256, 256]⟩
abbrev S1x1024 : Shape := ⟨2, ![1, 1024]⟩
abbrev S8x128x2x64 : Shape := ⟨4, ![8, 128, 2, 64]⟩
abbrev S8x15x1024 : Shape := ⟨3, ![8, 15, 1024]⟩
abbrev S2048 : Shape := ⟨1, ![2048]⟩
abbrev S2048x6400 : Shape := ⟨2, ![2048, 6400]⟩
abbrev S64 : Shape := ⟨1, ![64]⟩
abbrev S16 : Shape := ⟨1, ![16]⟩
abbrev S4x256x256 : Shape := ⟨3, ![4, 256, 256]⟩
abbrev S1024 : Shape := ⟨1, ![1024]⟩
abbrev S2048x2304 : Shape := ⟨2, ![2048, 2304]⟩
abbrev S16x64 : Shape := ⟨2, ![16, 64]⟩
abbrev S_ : Shape := ⟨0, ![]⟩
abbrev S2x64 : Shape := ⟨2, ![2, 64]⟩
abbrev S128 : Shape := ⟨1, ![128]⟩
abbrev S1152 : Shape := ⟨1, ![1152]⟩
abbrev S1x1152 : Shape := ⟨2, ![1, 1152]⟩
abbrev S1152x1 : Shape := ⟨2, ![1152, 1]⟩
abbrev S1x128 : Shape := ⟨2, ![1, 128]⟩
abbrev S1152x128 : Shape := ⟨2, ![1152, 128]⟩
abbrev S128x1152 : Shape := ⟨2, ![128, 1152]⟩
abbrev S8 : Shape := ⟨1, ![8]⟩
abbrev S16x1 : Shape := ⟨2, ![16, 1]⟩
abbrev S1x8 : Shape := ⟨2, ![1, 8]⟩
abbrev S16x8 : Shape := ⟨2, ![16, 8]⟩
abbrev S16x48 : Shape := ⟨2, ![16, 48]⟩
abbrev S1x16x1x64 : Shape := ⟨4, ![1, 16, 1, 64]⟩
abbrev S1x16x2x64 : Shape := ⟨4, ![1, 16, 2, 64]⟩
abbrev S16x128 : Shape := ⟨2, ![16, 128]⟩
abbrev S8x1x1024 : Shape := ⟨3, ![8, 1, 1024]⟩
abbrev S8x16x1024 : Shape := ⟨3, ![8, 16, 1024]⟩
abbrev S2x8 : Shape := ⟨2, ![2, 8]⟩
abbrev S2x8x16 : Shape := ⟨3, ![2, 8, 16]⟩
abbrev S2x128 : Shape := ⟨2, ![2, 128]⟩
abbrev S8x128x128 : Shape := ⟨3, ![8, 128, 128]⟩
abbrev S2x128x1 : Shape := ⟨3, ![2, 128, 1]⟩
abbrev S1x16x2048 : Shape := ⟨3, ![1, 16, 2048]⟩
abbrev S1x128x128 : Shape := ⟨3, ![1, 128, 128]⟩
abbrev S1x16x1024 : Shape := ⟨3, ![1, 16, 1024]⟩
abbrev S1x15x1024 : Shape := ⟨3, ![1, 15, 1024]⟩
abbrev S144x128 : Shape := ⟨2, ![144, 128]⟩
abbrev S32x1024 : Shape := ⟨2, ![32, 1024]⟩
abbrev S128x128 : Shape := ⟨2, ![128, 128]⟩
abbrev S16x1024 : Shape := ⟨2, ![16, 1024]⟩
abbrev S16x2048 : Shape := ⟨2, ![16, 2048]⟩
abbrev S16x2304 : Shape := ⟨2, ![16, 2304]⟩
abbrev S16x1152 : Shape := ⟨2, ![16, 1152]⟩
abbrev S144x64 : Shape := ⟨2, ![144, 64]⟩
abbrev S128x64 : Shape := ⟨2, ![128, 64]⟩
abbrev S128x144 : Shape := ⟨2, ![128, 144]⟩
abbrev S1x128x1 : Shape := ⟨3, ![1, 128, 1]⟩
abbrev S128x1 : Shape := ⟨2, ![128, 1]⟩
abbrev S1x16x64 : Shape := ⟨3, ![1, 16, 64]⟩
abbrev S16x256 : Shape := ⟨2, ![16, 256]⟩
abbrev S1x256x256 : Shape := ⟨3, ![1, 256, 256]⟩
abbrev S256x256 : Shape := ⟨2, ![256, 256]⟩
abbrev S1x256 : Shape := ⟨2, ![1, 256]⟩
abbrev S1x16x256 : Shape := ⟨3, ![1, 16, 256]⟩
abbrev S15x1024 : Shape := ⟨2, ![15, 1024]⟩

abbrev nBuf : Space → Nat
  | .hbm => 117
  | .vmem => 31
  | .smem => 0
  | _ => 0

abbrev bufTy : (tb : Table) → Fin (tcTables nBuf tb) → BufTy
  | .hbm, ⟨0, _⟩ => ⟨S8x16x2048, .f32⟩
  | .hbm, ⟨1, _⟩ => ⟨S1x8x128x2x64, .f32⟩
  | .hbm, ⟨2, _⟩ => ⟨S1x8x128x2x64, .f32⟩
  | .hbm, ⟨3, _⟩ => ⟨S1x8x15x1024, .f32⟩
  | .hbm, ⟨4, _⟩ => ⟨S1x2048, .f32⟩
  | .hbm, ⟨5, _⟩ => ⟨S1x2048x6400, .f32⟩
  | .hbm, ⟨6, _⟩ => ⟨S1x64, .f32⟩
  | .hbm, ⟨7, _⟩ => ⟨S1x64, .f32⟩
  | .hbm, ⟨8, _⟩ => ⟨S1x16, .f32⟩
  | .hbm, ⟨9, _⟩ => ⟨S1x4x256x256, .f32⟩
  | .hbm, ⟨10, _⟩ => ⟨S1x1024, .f32⟩
  | .hbm, ⟨11, _⟩ => ⟨S8x128x2x64, .f32⟩
  | .hbm, ⟨12, _⟩ => ⟨S8x128x2x64, .f32⟩
  | .hbm, ⟨13, _⟩ => ⟨S8x15x1024, .f32⟩
  | .hbm, ⟨14, _⟩ => ⟨S2048, .f32⟩
  | .hbm, ⟨15, _⟩ => ⟨S2048x6400, .f32⟩
  | .hbm, ⟨16, _⟩ => ⟨S64, .f32⟩
  | .hbm, ⟨17, _⟩ => ⟨S64, .f32⟩
  | .hbm, ⟨18, _⟩ => ⟨S16, .f32⟩
  | .hbm, ⟨19, _⟩ => ⟨S4x256x256, .f32⟩
  | .hbm, ⟨20, _⟩ => ⟨S1024, .f32⟩
  | .hbm, ⟨21, _⟩ => ⟨S2048x2304, .f32⟩
  | .hbm, ⟨22, _⟩ => ⟨S2048x2304, .bf16⟩
  | .hbm, ⟨23, _⟩ => ⟨S1x2048, .f32⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1152, .f32⟩
  | .hbm, ⟨34, _⟩ => ⟨S1x1152, .f32⟩
  | .hbm, ⟨35, _⟩ => ⟨S1152, .i32⟩
  | .hbm, ⟨36, _⟩ => ⟨S_, .i32⟩
  | .hbm, ⟨37, _⟩ => ⟨S_, .i32⟩
  | .hbm, ⟨38, _⟩ => ⟨S1152, .i32⟩
  | .hbm, ⟨39, _⟩ => ⟨S1152, .i32⟩
  | .hbm, ⟨40, _⟩ => ⟨S1152, .i32⟩
  | .hbm, ⟨41, _⟩ => ⟨S_, .i32⟩
  | .hbm, ⟨42, _⟩ => ⟨S1152, .i32⟩
  | .hbm, ⟨43, _⟩ => ⟨S1152, .i1⟩
  | .hbm, ⟨44, _⟩ => ⟨S1152, .i32⟩
  | .hbm, ⟨45, _⟩ => ⟨S1152, .i32⟩
  | .hbm, ⟨46, _⟩ => ⟨S_, .i32⟩
  | .hbm, ⟨47, _⟩ => ⟨S1152, .i32⟩
  | .hbm, ⟨48, _⟩ => ⟨S1152, .i1⟩
  | .hbm, ⟨49, _⟩ => ⟨S1152, .i1⟩
  | .hbm, ⟨50, _⟩ => ⟨S_, .i32⟩
  | .hbm, ⟨51, _⟩ => ⟨S1152, .i32⟩
  | .hbm, ⟨52, _⟩ => ⟨S1152, .i32⟩
  | .hbm, ⟨53, _⟩ => ⟨S1152, .i32⟩
  | .hbm, ⟨54, _⟩ => ⟨S1152x1, .i32⟩
  | .hbm, ⟨55, _⟩ => ⟨S128, .i32⟩
  | .hbm, ⟨56, _⟩ => ⟨S1x128, .i32⟩
  | .hbm, ⟨57, _⟩ => ⟨S1152x128, .i32⟩
  | .hbm, ⟨58, _⟩ => ⟨S1152x128, .i32⟩
  | .hbm, ⟨59, _⟩ => ⟨S1152x128, .i1⟩
  | .hbm, ⟨60, _⟩ => ⟨S1152x128, .bf16⟩
  | .hbm, ⟨61, _⟩ => ⟨S128x1152, .bf16⟩
  | .hbm, ⟨62, _⟩ => ⟨S4x256x256, .bf16⟩
  | .hbm, ⟨63, _⟩ => ⟨S1x1024, .f32⟩
  | .hbm, ⟨64, _⟩ => ⟨S16, .i32⟩
  | .hbm, ⟨65, _⟩ => ⟨S_, .i32⟩
  | .hbm, ⟨66, _⟩ => ⟨S16, .i32⟩
  | .hbm, ⟨67, _⟩ => ⟨S16, .i32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S16, .f32⟩
  | .hbm, ⟨83, _⟩ => ⟨S16x1, .f32⟩
  | .hbm, ⟨84, _⟩ => ⟨S1x8, .f32⟩
  | .hbm, ⟨85, _⟩ => ⟨S16x8, .f32⟩
  | .hbm, ⟨86, _⟩ => ⟨S16x8, .f32⟩
  | .hbm, ⟨87, _⟩ => ⟨S16x8, .f32⟩
  | .hbm, ⟨88, _⟩ => ⟨S16x8, .f32⟩
  | .hbm, ⟨89, _⟩ => ⟨S16x8, .f32⟩
  | .hbm, ⟨90, _⟩ => ⟨S_, .f32⟩
  | .hbm, ⟨91, _⟩ => ⟨S16x48, .f32⟩
  | .hbm, ⟨92, _⟩ => ⟨S16x64, .f32⟩
  | .hbm, ⟨93, _⟩ => ⟨S16x8, .f32⟩
  | .hbm, ⟨94, _⟩ => ⟨S_, .f32⟩
  | .hbm, ⟨95, _⟩ => ⟨S16x48, .f32⟩
  | .hbm, ⟨96, _⟩ => ⟨S16x64, .f32⟩
  | .hbm, ⟨97, _⟩ => ⟨S1x16x1x64, .f32⟩
  | .hbm, ⟨98, _⟩ => ⟨S1x16x2x64, .f32⟩
  | .hbm, ⟨99, _⟩ => ⟨S16x128, .f32⟩
  | .hbm, ⟨100, _⟩ => ⟨S1x16x1x64, .f32⟩
  | .hbm, ⟨101, _⟩ => ⟨S1x16x2x64, .f32⟩
  | .hbm, ⟨102, _⟩ => ⟨S16x128, .f32⟩
  | .hbm, ⟨103, _⟩ => ⟨S_, .f32⟩
  | .hbm, ⟨104, _⟩ => ⟨S8x1x1024, .f32⟩
  | .hbm, ⟨105, _⟩ => ⟨S8x16x1024, .f32⟩
  | .hbm, ⟨106, _⟩ => ⟨S2x8, .f32⟩
  | .hbm, ⟨107, _⟩ => ⟨S2x8x16, .f32⟩
  | .hbm, ⟨108, _⟩ => ⟨S2x128, .f32⟩
  | .hbm, ⟨109, _⟩ => ⟨S8x128x128, .f32⟩
  | .hbm, ⟨110, _⟩ => ⟨S8x128x128, .f32⟩
  | .hbm, ⟨111, _⟩ => ⟨S2x128x1, .f32⟩
  | .hbm, ⟨112, _⟩ => ⟨S8x16x1024, .bf16⟩
  | .hbm, ⟨113, _⟩ => ⟨S8x16x1024, .bf16⟩
  | .hbm, ⟨114, _⟩ => ⟨S8x128x128, .f32⟩
  | .hbm, ⟨115, _⟩ => ⟨S8x128x128, .f32⟩
  | .hbm, ⟨116, _⟩ => ⟨S8x15x1024, .f32⟩
  | .local _ .vmem, ⟨0, _⟩ => ⟨S1x16x2048, .f32⟩
  | .local _ .vmem, ⟨1, _⟩ => ⟨S1x16x2048, .f32⟩
  | .local _ .vmem, ⟨2, _⟩ => ⟨S1x2048, .f32⟩
  | .local _ .vmem, ⟨3, _⟩ => ⟨S2048x2304, .bf16⟩
  | .local _ .vmem, ⟨4, _⟩ => ⟨S1x1152, .f32⟩
  | .local _ .vmem, ⟨5, _⟩ => ⟨S2x128x1, .f32⟩
  | .local _ .vmem, ⟨6, _⟩ => ⟨S16x128, .f32⟩
  | .local _ .vmem, ⟨7, _⟩ => ⟨S16x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x16x1024, .f32⟩
  | .local _ .vmem, ⟨13, _⟩ => ⟨S1x16x1024, .f32⟩
  | .local _ .vmem, ⟨14, _⟩ => ⟨S1152x128, .bf16⟩
  | .local _ .vmem, ⟨15, _⟩ => ⟨S128x1152, .bf16⟩
  | .local _ .vmem, ⟨16, _⟩ => ⟨S4x256x256, .bf16⟩
  | .local _ .vmem, ⟨17, _⟩ => ⟨S1x1024, .f32⟩
  | .local _ .vmem, ⟨18, _⟩ => ⟨S1x16x1024, .bf16⟩
  | .local _ .vmem, ⟨19, _⟩ => ⟨S1x16x1024, .bf16⟩
  | .local _ .vmem, ⟨20, _⟩ => ⟨S1x16x1024, .bf16⟩
  | .local _ .vmem, ⟨21, _⟩ => ⟨S1x16x1024, .bf16⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x15x1024, .f32⟩
  | .local _ .vmem, ⟨27, _⟩ => ⟨S1x15x1024, .f32⟩
  | .local _ .vmem, ⟨28, _⟩ => ⟨S144x128, .f32⟩
  | .local _ .vmem, ⟨29, _⟩ => ⟨S144x128, .f32⟩
  | .local _ .vmem, ⟨30, _⟩ => ⟨S32x1024, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_0 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_1 : Ref sig .tc := ⟨.hbm, 69, rfl⟩
abbrev main_v39 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_3 : Ref sig .tc := ⟨.hbm, 76, rfl⟩
abbrev main_v44 : Ref sig .tc := ⟨.hbm, 77, rfl⟩
abbrev main_v45 : Ref sig .tc := ⟨.hbm, 78, rfl⟩
abbrev main_cst_4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_6 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75_0 : Ref sig .tc := ⟨.hbm, 112, rfl⟩
abbrev main_v75_1 : Ref sig .tc := ⟨.hbm, 113, rfl⟩
abbrev main_v75_2 : Ref sig .tc := ⟨.hbm, 114, rfl⟩
abbrev main_v75_3 : Ref sig .tc := ⟨.hbm, 115, rfl⟩
abbrev main_v75_4 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1152x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1152 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x15x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8x16x2048 : Shape := ⟨3, ![8, 16, 2048]⟩
abbrev S1x8x128x2x64 : Shape := ⟨5, ![1, 8, 128, 2, 64]⟩
abbrev S1x8x15x1024 : Shape := ⟨4, ![1, 8, 15, 1024]⟩
abbrev S1x2048 : Shape := ⟨2, ![1, 2048]⟩
abbrev S1x2048x6400 : Shape := ⟨3, ![1, 2048, 6400]⟩
abbrev S1x64 : Shape := ⟨2, ![1, 64]⟩
abbrev S1x16 : Shape := ⟨2, ![1, 16]⟩
abbrev S1x4x256x256 : Shape := ⟨4, ![1, 4, 256, 256]⟩
abbrev S1x1024 : Shape := ⟨2, ![1, 1024]⟩
abbrev S8x128x2x64 : Shape := ⟨4, ![8, 128, 2, 64]⟩
abbrev S8x15x1024 : Shape := ⟨3, ![8, 15, 1024]⟩
abbrev S2048 : Shape := ⟨1, ![2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S2048x6400 : Shape := ⟨2, ![2048, 6400]⟩
abbrev S8x16x6400 : Shape := ⟨3, ![8, 16, 6400]⟩
abbrev S8x16x1024 : Shape := ⟨3, ![8, 16, 1024]⟩
abbrev S8x16x128 : Shape := ⟨3, ![8, 16, 128]⟩
abbrev S16 : Shape := ⟨1, ![16]⟩
abbrev S8x16x16x64 : Shape := ⟨4, ![8, 16, 16, 64]⟩
abbrev S64 : Shape := ⟨1, ![64]⟩
abbrev S8x16x16 : Shape := ⟨3, ![8, 16, 16]⟩
abbrev S8x16x16x1 : Shape := ⟨4, ![8, 16, 16, 1]⟩
abbrev S1x1x1x64 : Shape := ⟨4, ![1, 1, 1, 64]⟩
abbrev S8 : Shape := ⟨1, ![8]⟩
abbrev S16x1 : Shape := ⟨2, ![16, 1]⟩
abbrev S1x8 : Shape := ⟨2, ![1, 8]⟩
abbrev S16x8 : Shape := ⟨2, ![16, 8]⟩
abbrev S16x1x8 : Shape := ⟨3, ![16, 1, 8]⟩
abbrev S8x16x16x16 : Shape := ⟨4, ![8, 16, 16, 16]⟩
abbrev S8x16x16x8 : Shape := ⟨4, ![8, 16, 16, 8]⟩
abbrev S1x16x1x8 : Shape := ⟨4, ![1, 16, 1, 8]⟩
abbrev S8x16x16x48 : Shape := ⟨4, ![8, 16, 16, 48]⟩
abbrev S8x16x2x64 : Shape := ⟨4, ![8, 16, 2, 64]⟩
abbrev S8x16x2 : Shape := ⟨3, ![8, 16, 2]⟩
abbrev S8x16x2x1 : Shape := ⟨4, ![8, 16, 2, 1]⟩
abbrev S8x16x2x16 : Shape := ⟨4, ![8, 16, 2, 16]⟩
abbrev S8x16x2x8 : Shape := ⟨4, ![8, 16, 2, 8]⟩
abbrev S8x16x2x48 : Shape := ⟨4, ![8, 16, 2, 48]⟩
abbrev S8x16x2x8x64 : Shape := ⟨5, ![8, 16, 2, 8, 64]⟩
abbrev S8x144x2x64 : Shape := ⟨4, ![8, 144, 2, 64]⟩
abbrev S8x2x144x16x8 : Shape := ⟨5, ![8, 2, 144, 16, 8]⟩
abbrev S8x2x8x16x144 : Shape := ⟨5, ![8, 2, 8, 16, 144]⟩
abbrev S2x8x1x1 : Shape := ⟨4, ![2, 8, 1, 1]⟩
abbrev S8x2x8x16 : Shape := ⟨4, ![8, 2, 8, 16]⟩
abbrev S8x2x8x16x1 : Shape := ⟨5, ![8, 2, 8, 16, 1]⟩
abbrev S1x2x8x1x1 : Shape := ⟨5, ![1, 2, 8, 1, 1]⟩
abbrev S8x2x64x8x16 : Shape := ⟨5, ![8, 2, 64, 8, 16]⟩
abbrev S4x256x256 : Shape := ⟨3, ![4, 256, 256]⟩
abbrev S1024 : Shape := ⟨1, ![1024]⟩
abbrev S8x31x1024 : Shape := ⟨3, ![8, 31, 1024]⟩
abbrev S8x1x1024 : Shape := ⟨3, ![8, 1, 1024]⟩
abbrev S8x32x1024 : Shape := ⟨3, ![8, 32, 1024]⟩
abbrev S8x16x256 : Shape := ⟨3, ![8, 16, 256]⟩
abbrev S1x16x1 : Shape := ⟨3, ![1, 16, 1]⟩
abbrev S8x16x4x256 : Shape := ⟨4, ![8, 16, 4, 256]⟩
abbrev S4x256x8x16 : Shape := ⟨4, ![4, 256, 8, 16]⟩
abbrev S1x1x1024 : Shape := ⟨3, ![1, 1, 1024]⟩
abbrev S8x128x128 : Shape := ⟨3, ![8, 128, 128]⟩

abbrev nBuf : Space → Nat
  | .hbm => 278
  | .vmem => 0
  | .smem => 0
  | _ => 0

abbrev hbmTy0_0 (i : Nat) : BufTy := match i % 128 with
  | 0 => ⟨S8x16x2048, .f32⟩
  | 1 => ⟨S1x8x128x2x64, .f32⟩
  | 2 => ⟨S1x8x128x2x64, .f32⟩
  | 3 => ⟨S1x8x15x1024, .f32⟩
  | 4 => ⟨S1x2048, .f32⟩
  | 5 => ⟨S1x2048x6400, .f32⟩
  | 6 => ⟨S1x64, .f32⟩
  | 7 => ⟨S1x64, .f32⟩
  | 8 => ⟨S1x16, .f32⟩
  | 9 => ⟨S1x4x256x256, .f32⟩
  | 10 => ⟨S1x1024, .f32⟩
  | 11 => ⟨S8x128x2x64, .f32⟩
  | 12 => ⟨S8x128x2x64, .f32⟩
  | 13 => ⟨S8x15x1024, .f32⟩
  | 14 => ⟨S2048, .f32⟩
  | 15 => ⟨S8x16x2048, .f32⟩
  | 16 => ⟨S_, .f32⟩
  | 17 => ⟨S8x16, .f32⟩
  | 18 => ⟨S8x16x1, .f32⟩
  | 19 => ⟨S_, .f32⟩
  | 20 => ⟨S8x16x1, .f32⟩
  | 21 => ⟨S8x16x1, .f32⟩
  | 22 => ⟨S_, .f32⟩
  | 23 => ⟨S8x16x1, .f32⟩
  | 24 => ⟨S8x16x1, .f32⟩
  | 25 => ⟨S8x16x1, .f32⟩
  | 26 => ⟨S8x16x2048, .f32⟩
  | 27 => ⟨S8x16x2048, .f32⟩
  | 28 => ⟨S1x1x2048, .f32⟩
  | 29 => ⟨S8x16x2048, .f32⟩
  | 30 => ⟨S8x16x2048, .f32⟩
  | 31 => ⟨S2048x6400, .f32⟩
  | 32 => ⟨S8x16x6400, .f32⟩
  | 33 => ⟨S8x16x1024, .f32⟩
  | 34 => ⟨S8x16x128, .f32⟩
  | 35 => ⟨S8x16x128, .f32⟩
  | 36 => ⟨S8x16x1024, .f32⟩
  | 37 => ⟨S8x16x2048, .f32⟩
  | 38 => ⟨S8x16x2048, .f32⟩
  | 39 => ⟨S16, .i32⟩
  | 40 => ⟨S_, .i32⟩
  | 41 => ⟨S16, .i32⟩
  | 42 => ⟨S16, .i32⟩
  | 43 => ⟨S8x16x16x64, .f32⟩
  | 44 => ⟨S64, .f32⟩
  | 45 => ⟨S8x16x16x64, .f32⟩
  | 46 => ⟨S_, .f32⟩
  | 47 => ⟨S8x16x16, .f32⟩
  | 48 => ⟨S8x16x16x1, .f32⟩
  | 49 => ⟨S_, .f32⟩
  | 50 => ⟨S8x16x16x1, .f32⟩
  | 51 => ⟨S8x16x16x1, .f32⟩
  | 52 => ⟨S_, .f32⟩
  | 53 => ⟨S8x16x16x1, .f32⟩
  | 54 => ⟨S8x16x16x1, .f32⟩
  | 55 => ⟨S8x16x16x1, .f32⟩
  | 56 => ⟨S8x16x16x64, .f32⟩
  | 57 => ⟨S8x16x16x64, .f32⟩
  | 58 => ⟨S1x1x1x64, .f32⟩
  | 59 => ⟨S8x16x16x64, .f32⟩
  | 60 => ⟨S8x16x16x64, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S16, .f32⟩
  | 76 => ⟨S16x1, .f32⟩
  | 77 => ⟨S1x8, .f32⟩
  | 78 => ⟨S16x8, .f32⟩
  | 79 => ⟨S16x8, .f32⟩
  | 80 => ⟨S16x8, .f32⟩
  | 81 => ⟨S16x8, .f32⟩
  | 82 => ⟨S16x1x8, .f32⟩
  | 83 => ⟨S16x8, .f32⟩
  | 84 => ⟨S16x1x8, .f32⟩
  | 85 => ⟨S8x16x16x16, .f32⟩
  | 86 => ⟨S8x16x16x8, .f32⟩
  | 87 => ⟨S8x16x16x8, .f32⟩
  | 88 => ⟨S1x16x1x8, .f32⟩
  | 89 => ⟨S8x16x16x8, .f32⟩
  | 90 => ⟨S8x16x16x8, .f32⟩
  | 91 => ⟨S1x16x1x8, .f32⟩
  | 92 => ⟨S8x16x16x8, .f32⟩
  | 93 => ⟨S8x16x16x8, .f32⟩
  | 94 => ⟨S8x16x16x8, .f32⟩
  | 95 => ⟨S1x16x1x8, .f32⟩
  | 96 => ⟨S8x16x16x8, .f32⟩
  | 97 => ⟨S8x16x16x8, .f32⟩
  | 98 => ⟨S1x16x1x8, .f32⟩
  | 99 => ⟨S8x16x16x8, .f32⟩
  | 100 => ⟨S8x16x16x8, .f32⟩
  | 101 => ⟨S8x16x16x8, .f32⟩
  | 102 => ⟨S8x16x16x16, .f32⟩
  | 103 => ⟨S8x16x16x48, .f32⟩
  | 104 => ⟨S8x16x16x64, .f32⟩
  | 105 => ⟨S8x16x2x64, .f32⟩
  | 106 => ⟨S64, .f32⟩
  | 107 => ⟨S8x16x2x64, .f32⟩
  | 108 => ⟨S_, .f32⟩
  | 109 => ⟨S8x16x2, .f32⟩
  | 110 => ⟨S8x16x2x1, .f32⟩
  | 111 => ⟨S_, .f32⟩
  | 112 => ⟨S8x16x2x1, .f32⟩
  | 113 => ⟨S8x16x2x1, .f32⟩
  | 114 => ⟨S_, .f32⟩
  | 115 => ⟨S8x16x2x1, .f32⟩
  | 116 => ⟨S8x16x2x1, .f32⟩
  | 117 => ⟨S8x16x2x1, .f32⟩
  | 118 => ⟨S8x16x2x64, .f32⟩
  | 119 => ⟨S8x16x2x64, .f32⟩
  | 120 => ⟨S1x1x1x64, .f32⟩
  | 121 => ⟨S8x16x2x64, .f32⟩
  | 122 => ⟨S8x16x2x64, .f32⟩
  | 123 => ⟨S8, .f32⟩
  | 124 => ⟨S_, .f32⟩
  | 125 => ⟨S8, .f32⟩
  | 126 => ⟨S8, .f32⟩
  | 127 => ⟨S_, .f32⟩
  | _ => ⟨S8x16x2048, .f32⟩

abbrev hbmTy0_1 (i : Nat) : BufTy := match i % 128 with
  | 0 => ⟨S8, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S16, .f32⟩
  | 10 => ⟨S16x1, .f32⟩
  | 11 => ⟨S1x8, .f32⟩
  | 12 => ⟨S16x8, .f32⟩
  | 13 => ⟨S16x8, .f32⟩
  | 14 => ⟨S16x8, .f32⟩
  | 15 => ⟨S16x8, .f32⟩
  | 16 => ⟨S16x1x8, .f32⟩
  | 17 => ⟨S16x8, .f32⟩
  | 18 => ⟨S16x1x8, .f32⟩
  | 19 => ⟨S8x16x2x16, .f32⟩
  | 20 => ⟨S8x16x2x8, .f32⟩
  | 21 => ⟨S8x16x2x8, .f32⟩
  | 22 => ⟨S1x16x1x8, .f32⟩
  | 23 => ⟨S8x16x2x8, .f32⟩
  | 24 => ⟨S8x16x2x8, .f32⟩
  | 25 => ⟨S1x16x1x8, .f32⟩
  | 26 => ⟨S8x16x2x8, .f32⟩
  | 27 => ⟨S8x16x2x8, .f32⟩
  | 28 => ⟨S8x16x2x8, .f32⟩
  | 29 => ⟨S1x16x1x8, .f32⟩
  | 30 => ⟨S8x16x2x8, .f32⟩
  | 31 => ⟨S8x16x2x8, .f32⟩
  | 32 => ⟨S1x16x1x8, .f32⟩
  | 33 => ⟨S8x16x2x8, .f32⟩
  | 34 => ⟨S8x16x2x8, .f32⟩
  | 35 => ⟨S8x16x2x8, .f32⟩
  | 36 => ⟨S8x16x2x16, .f32⟩
  | 37 => ⟨S8x16x2x48, .f32⟩
  | 38 => ⟨S8x16x2x64, .f32⟩
  | 39 => ⟨S8x16x2x8x64, .f32⟩
  | 40 => ⟨S8x16x2x64, .f32⟩
  | 41 => ⟨S8x144x2x64, .f32⟩
  | 42 => ⟨S8x144x2x64, .f32⟩
  | 43 => ⟨S16, .f32⟩
  | 44 => ⟨S8x2x144x16x8, .f32⟩
  | 45 => ⟨S8x2x8x16x144, .f32⟩
  | 46 => ⟨S_, .f32⟩
  | 47 => ⟨S8x2x8x16x144, .f32⟩
  | 48 => ⟨S8x2x8x16x144, .f32⟩
  | 49 => ⟨S2x8x1x1, .f32⟩
  | 50 => ⟨S_, .f32⟩
  | 51 => ⟨S8x2x8x16, .f32⟩
  | 52 => ⟨S8x2x8x16x1, .f32⟩
  | 53 => ⟨S1x2x8x1x1, .f32⟩
  | 54 => ⟨S8x2x8x16x1, .f32⟩
  | 55 => ⟨S8x2x8x16x1, .f32⟩
  | 56 => ⟨S8x2x8x16x144, .f32⟩
  | 57 => ⟨S8x2x8x16x144, .f32⟩
  | 58 => ⟨S8x2x8x16x144, .f32⟩
  | 59 => ⟨S_, .f32⟩
  | 60 => ⟨S8x2x8x16, .f32⟩
  | 61 => ⟨S8x2x8x16x1, .f32⟩
  | 62 => ⟨S1x2x8x1x1, .f32⟩
  | 63 => ⟨S8x2x8x16x1, .f32⟩
  | 64 => ⟨S8x2x8x16x1, .f32⟩
  | 65 => ⟨S8x2x8x16x1, .f32⟩
  | 66 => ⟨S8x2x8x16x1, .f32⟩
  | 67 => ⟨S8x2x8x16x144, .f32⟩
  | 68 => ⟨S8x2x8x16x144, .f32⟩
  | 69 => ⟨S8x2x64x8x16, .f32⟩
  | 70 => ⟨S8x16x2x8x64, .f32⟩
  | 71 => ⟨S8x16x1024, .f32⟩
  | 72 => ⟨S4x256x256, .f32⟩
  | 73 => ⟨S1024, .f32⟩
  | 74 => ⟨S8x31x1024, .f32⟩
  | 75 => ⟨S_, .f32⟩
  | 76 => ⟨S8x1x1024, .f32⟩
  | 77 => ⟨S8x32x1024, .f32⟩
  | 78 => ⟨S_, .f32⟩
  | 79 => ⟨S_, .f32⟩
  | 80 => ⟨S8x32x1024, .f32⟩
  | 81 => ⟨S8x16x1024, .f32⟩
  | 82 => ⟨S8x16x256, .f32⟩
  | 83 => ⟨S_, .i32⟩
  | 84 => ⟨S16, .i32⟩
  | 85 => ⟨S16, .i32⟩
  | 86 => ⟨S_, .i32⟩
  | 87 => ⟨S16, .i32⟩
  | 88 => ⟨S16, .i32⟩
  | 89 => ⟨S16, .f32⟩
  | 90 => ⟨S1x16x1, .f32⟩
  | 91 => ⟨S8x16x256, .f32⟩
  | 92 => ⟨S8x16x256, .f32⟩
  | 93 => ⟨S8x16x256, .f32⟩
  | 94 => ⟨S8x16x256, .f32⟩
  | 95 => ⟨S8x16x256, .f32⟩
  | 96 => ⟨S_, .i32⟩
  | 97 => ⟨S16, .i32⟩
  | 98 => ⟨S16, .i32⟩
  | 99 => ⟨S_, .i32⟩
  | 100 => ⟨S16, .i32⟩
  | 101 => ⟨S16, .i32⟩
  | 102 => ⟨S16, .f32⟩
  | 103 => ⟨S1x16x1, .f32⟩
  | 104 => ⟨S8x16x256, .f32⟩
  | 105 => ⟨S8x16x256, .f32⟩
  | 106 => ⟨S8x16x256, .f32⟩
  | 107 => ⟨S8x16x256, .f32⟩
  | 108 => ⟨S8x16x256, .f32⟩
  | 109 => ⟨S_, .i32⟩
  | 110 => ⟨S16, .i32⟩
  | 111 => ⟨S16, .i32⟩
  | 112 => ⟨S_, .i32⟩
  | 113 => ⟨S16, .i32⟩
  | 114 => ⟨S16, .i32⟩
  | 115 => ⟨S16, .f32⟩
  | 116 => ⟨S1x16x1, .f32⟩
  | 117 => ⟨S8x16x256, .f32⟩
  | 118 => ⟨S8x16x256, .f32⟩
  | 119 => ⟨S8x16x256, .f32⟩
  | 120 => ⟨S8x16x256, .f32⟩
  | 121 => ⟨S8x16x256, .f32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S8x16x2048, .f32⟩

abbrev hbmTy0_2 (i : Nat) : BufTy := match i % 128 with
  | 0 => ⟨S16, .f32⟩
  | 1 => ⟨S1x16x1, .f32⟩
  | 2 => ⟨S8x16x256, .f32⟩
  | 3 => ⟨S8x16x256, .f32⟩
  | 4 => ⟨S8x16x256, .f32⟩
  | 5 => ⟨S8x16x256, .f32⟩
  | 6 => ⟨S8x16x1024, .f32⟩
  | 7 => ⟨S8x16x1024, .f32⟩
  | 8 => ⟨S8x16x4x256, .f32⟩
  | 9 => ⟨S4x256x8x16, .f32⟩
  | 10 => ⟨S8x16x4x256, .f32⟩
  | 11 => ⟨S8x16x1024, .f32⟩
  | 12 => ⟨S1x1x1024, .f32⟩
  | 13 => ⟨S8x16x1024, .f32⟩
  | 14 => ⟨S8x16x1024, .f32⟩
  | 15 => ⟨S8x15x1024, .f32⟩
  | 16 => ⟨S8x16x1024, .bf16⟩
  | 17 => ⟨S8x16x1024, .bf16⟩
  | 18 => ⟨S8x128x2x64, .f32⟩
  | 19 => ⟨S8x128x128, .f32⟩
  | 20 => ⟨S8x128x2x64, .f32⟩
  | 21 => ⟨S8x128x128, .f32⟩
  | _ => ⟨S8x16x2048, .f32⟩

abbrev hbmTy (i : Nat) : BufTy := match i / 128 with
  | 0 => hbmTy0_0 i
  | 1 => hbmTy0_1 i
  | 2 => hbmTy0_2 i
  | _ => ⟨S8x16x2048, .f32⟩

abbrev bufTy : (tb : Table) → Fin (tcTables nBuf tb) → BufTy
  | .hbm, ⟨i, _⟩ => hbmTy i
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_cst_11 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_12 : Ref sig .tc := ⟨.hbm, 124, rfl⟩
abbrev main_v99 : Ref sig .tc := ⟨.hbm, 125, rfl⟩
abbrev main_v100 : Ref sig .tc := ⟨.hbm, 126, rfl⟩
abbrev main_cst_13 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_v104 : Ref sig .tc := ⟨.hbm, 132, rfl⟩
abbrev main_v105 : Ref sig .tc := ⟨.hbm, 133, rfl⟩
abbrev main_cst_15 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_16 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_17 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_18 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_cst_19 : Ref sig .tc := ⟨.hbm, 203, rfl⟩
abbrev main_v171 : Ref sig .tc := ⟨.hbm, 204, rfl⟩
abbrev main_v172 : Ref sig .tc := ⟨.hbm, 205, rfl⟩
abbrev main_call0_call0_cst : Ref sig .tc := ⟨.hbm, 206, rfl⟩
abbrev main_call0_call0_v0 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_c_20 : Ref sig .tc := ⟨.hbm, 211, rfl⟩
abbrev main_v176 : Ref sig .tc := ⟨.hbm, 212, rfl⟩
abbrev main_v177 : Ref sig .tc := ⟨.hbm, 213, rfl⟩
abbrev main_c_21 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_c_22 : Ref sig .tc := ⟨.hbm, 224, rfl⟩
abbrev main_v187 : Ref sig .tc := ⟨.hbm, 225, rfl⟩
abbrev main_v188 : Ref sig .tc := ⟨.hbm, 226, rfl⟩
abbrev main_c_23 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_c_24 : Ref sig .tc := ⟨.hbm, 237, rfl⟩
abbrev main_v198 : Ref sig .tc := ⟨.hbm, 238, rfl⟩
abbrev main_v199 : Ref sig .tc := ⟨.hbm, 239, rfl⟩
abbrev main_c_25 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_c_26 : Ref sig .tc := ⟨.hbm, 250, rfl⟩
abbrev main_v209 : Ref sig .tc := ⟨.hbm, 251, rfl⟩
abbrev main_v210 : Ref sig .tc := ⟨.hbm, 252, rfl⟩
abbrev main_c_27 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩

abbrev nD : Nat := 1
abbrev τ : Topo := Topo.v7x

variable {F : FTy → Type} [FloatOps F]
-- ==== Kernel2.lean ====
abbrev S161 : Shape := ⟨1, ![161]⟩
abbrev S164864x2048 : Shape := ⟨2, ![164864, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S1024x2048 : Shape := ⟨2, ![1024, 2048]⟩
abbrev S1 : Shape := ⟨1, ![1]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S512x512 : Shape := ⟨2, ![512, 512]⟩
abbrev S1x512 : Shape := ⟨2, ![1, 512]⟩
abbrev S1x2048 : Shape := ⟨2, ![1, 2048]⟩

abbrev nBuf : Space → Nat
  | .hbm => 12
  | .vmem => 16
  | .smem => 3
  | _ => 0

abbrev bufTy : (tb : Table) → Fin (tcTables nBuf tb) → BufTy
  | .hbm, ⟨0, _⟩ => ⟨S164864x2048, .bf16⟩
  | .hbm, ⟨1, _⟩ => ⟨S1x32x2048x4096, .f32⟩
  | .hbm, ⟨2, _⟩ => ⟨S1x32x4096, .f32⟩
  | .hbm, ⟨3, _⟩ => ⟨S1x32x2048x2048, .f32⟩
  | .hbm, ⟨4, _⟩ => ⟨S1x32x2048, .f32⟩
  | .hbm, ⟨5, _⟩ => ⟨S32x2048x4096, .f32⟩
  | .hbm, ⟨6, _⟩ => ⟨S32x4096, .f32⟩
  | .hbm, ⟨7, _⟩ => ⟨S32x2048x2048, .f32⟩
  | .hbm, ⟨8, _⟩ => ⟨S32x2048, .f32⟩
  | .hbm, ⟨9, _⟩ => ⟨S32x1x4096, .f32⟩
  | .hbm, ⟨10, _⟩ => ⟨S32x1x2048, .f32⟩
  | .hbm, ⟨11, _⟩ => ⟨S164864x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .f32⟩
  | .local _ .vmem, ⟨11, _⟩ => ⟨S1x512x2048, .f32⟩
  | .local _ .vmem, ⟨12, _⟩ => ⟨S1x1x2048, .f32⟩
  | .local _ .vmem, ⟨13, _⟩ => ⟨S1x1x2048, .f32⟩
  | .local _ .vmem, ⟨14, _⟩ => ⟨S1024x2048, .f32⟩
  | .local _ .vmem, ⟨15, _⟩ => ⟨S1024x2048, .f32⟩
  | .local _ .smem, ⟨0, _⟩ => ⟨S161, .i32⟩
  | .local _ .smem, ⟨1, _⟩ => ⟨S161, .i32⟩
  | .local _ .smem, ⟨2, _⟩ => ⟨S161, .i32⟩
  | _, _ => ⟨S164864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![161, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let c0_i32 : BitVec 32 := 0#32
  let v2 : BitVec 1 := Scalar.cmpi .sgt v1 c0_i32
  let c512_i32 : BitVec 32 := 512#32
  let v3 : BitVec 1 := Scalar.cmpi .sle v1 c512_i32
  let v4 : BitVec 1 := Scalar.andi v2 v3
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_cond2 (i : grid0.Coords) (v1 : BitVec 32) : BitVec 1 :=
  let c0_i32 : BitVec 32 := 0#32
  let v2 : BitVec 1 := Scalar.cmpi .sgt v1 c0_i32
  let c512_i32 : BitVec 32 := 512#32
  let v3 : BitVec 1 := Scalar.cmpi .sle v1 c512_i32
  let v4 : BitVec 1 := Scalar.andi v2 v3
  let arg1 : BitVec 32 := BitVec.ofNat 32 (i 1).val
  let c0_i32_2 : BitVec 32 := 0#32
  let v9 : BitVec 1 := Scalar.cmpi .sgt arg1 c0_i32_2
  let v10 : BitVec 1 := Scalar.andi v4 v9
  let v11 : BitVec 32 := Scalar.extui v10
  let c0_i32_3 : BitVec 32 := 0#32
  let v12 : BitVec 1 := Scalar.cmpi .ne v11 c0_i32_3
  v12

def k0_cond3 (i : grid0.Coords) (v1 : BitVec 32) : BitVec 1 :=
  let c512_i32_4 : BitVec 32 := 512#32
  let v13 : BitVec 1 := Scalar.cmpi .sgt v1 c512_i32_4
  let c1024_i32 : BitVec 32 := 1024#32
  let v14 : BitVec 1 := Scalar.cmpi .sle v1 c1024_i32
  let v15 : BitVec 1 := Scalar.andi v13 v14
  let arg1 : BitVec 32 := BitVec.ofNat 32 (i 1).val
  let c0_i32_5 : BitVec 32 := 0#32
  let v16 : BitVec 1 := Scalar.cmpi .eq arg1 c0_i32_5
  let v17 : BitVec 1 := Scalar.andi v15 v16
  let v18 : BitVec 32 := Scalar.extui v17
  let c0_i32_6 : BitVec 32 := 0#32
  let v19 : BitVec 1 := Scalar.cmpi .ne v18 c0_i32_6
  v19

def k0_cond4 (i : grid0.Coords) (v1 : BitVec 32) : BitVec 1 :=
  let c512_i32_4 : BitVec 32 := 512#32
  let v13 : BitVec 1 := Scalar.cmpi .sgt v1 c512_i32_4
  let c1024_i32 : BitVec 32 := 1024#32
  let v14 : BitVec 1 := Scalar.cmpi .sle v1 c1024_i32
  let v15 : BitVec 1 := Scalar.andi v13 v14
  let arg1 : BitVec 32 := BitVec.ofNat 32 (i 1).val
  let c0_i32_7 : BitVec 32 := 0#32
  let v20 : BitVec 1 := Scalar.cmpi .sgt arg1 c0_i32_7
  let v21 : BitVec 1 := Scalar.andi v15 v20
  let v22 : BitVec 32 := Scalar.extui v21
  let c0_i32_8 : BitVec 32 := 0#32
  let v23 : BitVec 1 := Scalar.cmpi .ne v22 c0_i32_8
  v23

def k0_cond5 (i : grid0.Coords) (v1 : BitVec 32) : BitVec 1 :=
  let c0_i32_9 : BitVec 32 := 0#32
  let v24 : BitVec 1 := Scalar.cmpi .eq v1 c0_i32_9
  let arg1 : BitVec 32 := BitVec.ofNat 32 (i 1).val
  let c0_i32_10 : BitVec 32 := 0#32
  let v25 : BitVec 1 := Scalar.cmpi .eq arg1 c0_i32_10
  let v26 : BitVec 1 := Scalar.andi v24 v25
  let v27 : BitVec 32 := Scalar.extui v26
  let c0_i32_11 : BitVec 32 := 0#32
  let v28 : BitVec 1 := Scalar.cmpi .ne v27 c0_i32_11
  v28

def cc0_transform_0 (k0_off1_inb : ∀ i : grid0.Coords, ∀ a, (k0_off1 i) a + S1.size a ≤ S161.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S161) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c4_i32 : BitVec 32 := 4#32
  let v2 : BitVec 32 := Scalar.addi c4_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c4_i32 : BitVec 32 := 4#32
  let v2 : BitVec 32 := Scalar.addi c4_i32 arg1
  let c0_i32 : BitVec 32 := 0#32
  let c0_i32_0 : BitVec 32 := 0#32
  ![v1.toNat, c0_i32.toNat, v2.toNat]

def cc0_transform_5 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  ![v1.toNat, arg1.toNat, c0_i32.toNat]

def cc0_transform_6 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S161 : Shape := ⟨1, ![161]⟩
abbrev S164864x2048 : Shape := ⟨2, ![164864, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S161x1024x2048 : Shape := ⟨3, ![161, 1024, 2048]⟩
abbrev S161x1 : Shape := ⟨2, ![161, 1]⟩
abbrev S32x2048x4096 : Shape := ⟨3, ![32, 2048, 4096]⟩
abbrev S161x2048x4096 : Shape := ⟨3, ![161, 2048, 4096]⟩
abbrev S161x1024x4096 : Shape := ⟨3, ![161, 1024, 4096]⟩
abbrev S32x4096 : Shape := ⟨2, ![32, 4096]⟩
abbrev S161x4096 : Shape := ⟨2, ![161, 4096]⟩
abbrev S161x1x4096 : Shape := ⟨3, ![161, 1, 4096]⟩
abbrev S_ : Shape := ⟨0, ![]⟩
abbrev S32x2048x2048 : Shape := ⟨3, ![32, 2048, 2048]⟩
abbrev S161x2048x2048 : Shape := ⟨3, ![161, 2048, 2048]⟩
abbrev S32x2048 : Shape := ⟨2, ![32, 2048]⟩
abbrev S161x2048 : Shape := ⟨2, ![161, 2048]⟩
abbrev S161x1x2048 : Shape := ⟨3, ![161, 1, 2048]⟩
abbrev S1024 : Shape := ⟨1, ![1024]⟩
abbrev S1x1024 : Shape := ⟨2, ![1, 1024]⟩
abbrev S161x1024 : Shape := ⟨2, ![161, 1024]⟩
abbrev S161x1024x1 : Shape := ⟨3, ![161, 1024, 1]⟩

abbrev nBuf : Space → Nat
  | .hbm => 83
  | .vmem => 0
  | .smem => 0
  | _ => 0

abbrev bufTy : (tb : Table) → Fin (tcTables nBuf tb) → BufTy
  | .hbm, ⟨0, _⟩ => ⟨S161, .i32⟩
  | .hbm, ⟨1, _⟩ => ⟨S161, .i32⟩
  | .hbm, ⟨2, _⟩ => ⟨S161, .i32⟩
  | .hbm, ⟨3, _⟩ => ⟨S164864x2048, .bf16⟩
  | .hbm, ⟨4, _⟩ => ⟨S1x32x2048x4096, .f32⟩
  | .hbm, ⟨5, _⟩ => ⟨S1x32x4096, .f32⟩
  | .hbm, ⟨6, _⟩ => ⟨S1x32x2048x2048, .f32⟩
  | .hbm, ⟨7, _⟩ => ⟨S1x32x2048, .f32⟩
  | .hbm, ⟨8, _⟩ => ⟨S164864x2048, .f32⟩
  | .hbm, ⟨9, _⟩ => ⟨S161x1024x2048, .f32⟩
  | .hbm, ⟨10, _⟩ => ⟨S161x1, .i32⟩
  | .hbm, ⟨11, _⟩ => ⟨S161x1024x2048, .f32⟩
  | .hbm, ⟨12, _⟩ => ⟨S32x2048x4096, .f32⟩
  | .hbm, ⟨13, _⟩ => ⟨S161x1, .i32⟩
  | .hbm, ⟨14, _⟩ => ⟨S161x2048x4096, .f32⟩
  | .hbm, ⟨15, _⟩ => ⟨S161x1024x4096, .f32⟩
  | .hbm, ⟨16, _⟩ => ⟨S32x4096, .f32⟩
  | .hbm, ⟨17, _⟩ => ⟨S161x1, .i32⟩
  | .hbm, ⟨18, _⟩ => ⟨S161x4096, .f32⟩
  | .hbm, ⟨19, _⟩ => ⟨S161x1x4096, .f32⟩
  | .hbm, ⟨20, _⟩ => ⟨S161x1024x4096, .f32⟩
  | .hbm, ⟨21, _⟩ => ⟨S161x1024x4096, .f32⟩
  | .hbm, ⟨22, _⟩ => ⟨S161x1024x2048, .f32⟩
  | .hbm, ⟨23, _⟩ => ⟨S_, .f32⟩
  | .hbm, ⟨24, _⟩ => ⟨S161x1024x2048, .f32⟩
  | .hbm, ⟨25, _⟩ => ⟨S161x1024x2048, .f32⟩
  | .hbm, ⟨26, _⟩ => ⟨S161x1024x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S161x1024x2048, .f32⟩
  | .hbm, ⟨31, _⟩ => ⟨S161x1024x2048, .f32⟩
  | .hbm, ⟨32, _⟩ => ⟨S_, .f32⟩
  | .hbm, ⟨33, _⟩ => ⟨S161x1024x2048, .f32⟩
  | .hbm, ⟨34, _⟩ => ⟨S161x1024x2048, .f32⟩
  | .hbm, ⟨35, _⟩ => ⟨S_, .f32⟩
  | .hbm, ⟨36, _⟩ => ⟨S161x1024x2048, .f32⟩
  | .hbm, ⟨37, _⟩ => ⟨S161x1024x2048, .f32⟩
  | .hbm, ⟨38, _⟩ => ⟨S161x1024x2048, .f32⟩
  | .hbm, ⟨39, _⟩ => ⟨S161x1024x2048, .f32⟩
  | .hbm, ⟨40, _⟩ => ⟨S_, .f32⟩
  | .hbm, ⟨41, _⟩ => ⟨S161x1024x2048, .f32⟩
  | .hbm, ⟨42, _⟩ => ⟨S161x1024x2048, .f32⟩
  | .hbm, ⟨43, _⟩ => ⟨S_, .f32⟩
  | .hbm, ⟨44, _⟩ => ⟨S161x1024x2048, .f32⟩
  | .hbm, ⟨45, _⟩ => ⟨S161x1024x2048, .f32⟩
  | .hbm, ⟨46, _⟩ => ⟨S161x1024x2048, .f32⟩
  | .hbm, ⟨47, _⟩ => ⟨S_, .f32⟩
  | .hbm, ⟨48, _⟩ => ⟨S161x1024x2048, .f32⟩
  | .hbm, ⟨49, _⟩ => ⟨S161x1024x2048, .f32⟩
  | .hbm, ⟨50, _⟩ => ⟨S161x1024x2048, .f32⟩
  | .hbm, ⟨51, _⟩ => ⟨S32x2048x2048, .f32⟩
  | .hbm, ⟨52, _⟩ => ⟨S161x1, .i32⟩
  | .hbm, ⟨53, _⟩ => ⟨S161x2048x2048, .f32⟩
  | .hbm, ⟨54, _⟩ => ⟨S161x1024x2048, .f32⟩
  | .hbm, ⟨55, _⟩ => ⟨S32x2048, .f32⟩
  | .hbm, ⟨56, _⟩ => ⟨S161x1, .i32⟩
  | .hbm, ⟨57, _⟩ => ⟨S161x2048, .f32⟩
  | .hbm, ⟨58, _⟩ => ⟨S161x1x2048, .f32⟩
  | .hbm, ⟨59, _⟩ => ⟨S161x1024x2048, .f32⟩
  | .hbm, ⟨60, _⟩ => ⟨S161x1024x2048, .f32⟩
  | .hbm, ⟨61, _⟩ => ⟨S1024, .i32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S1x1024, .i32⟩
  | .hbm, ⟨71, _⟩ => ⟨S161x1, .i32⟩
  | .hbm, ⟨72, _⟩ => ⟨S1x1024, .i32⟩
  | .hbm, ⟨73, _⟩ => ⟨S161x1024, .i32⟩
  | .hbm, ⟨74, _⟩ => ⟨S161x1024, .i32⟩
  | .hbm, ⟨75, _⟩ => ⟨S161x1024, .i1⟩
  | .hbm, ⟨76, _⟩ => ⟨S161x1024x1, .i1⟩
  | .hbm, ⟨77, _⟩ => ⟨S_, .f32⟩
  | .hbm, ⟨78, _⟩ => ⟨S_, .f32⟩
  | .hbm, ⟨79, _⟩ => ⟨S161x1024x2048, .i1⟩
  | .hbm, ⟨80, _⟩ => ⟨S161x1024x2048, .f32⟩
  | .hbm, ⟨81, _⟩ => ⟨S161x1024x2048, .f32⟩
  | .hbm, ⟨82, _⟩ => ⟨S164864x2048, .f32⟩
  | _, _ => ⟨S161, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c : Ref sig .tc := ⟨.hbm, 62, rfl⟩
abbrev main_v42 : Ref sig .tc := ⟨.hbm, 63, rfl⟩
abbrev main_v43 : Ref sig .tc := ⟨.hbm, 64, rfl⟩
abbrev main_c_6 : Ref sig .tc := ⟨.hbm, 65, rfl⟩
abbrev main_c_7 : Ref sig .tc := ⟨.hbm, 66, rfl⟩
abbrev main_call1_v0 : Ref sig .tc := ⟨.hbm, 67, rfl⟩
abbrev main_call1_v1 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_8 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Kernel3.lean ====
abbrev S8x16x2048 : Shape := ⟨3, ![8, 16, 2048]⟩
abbrev S8x16x1024 : Shape := ⟨3, ![8, 16, 1024]⟩
abbrev S1x2048 : Shape := ⟨2, ![1, 2048]⟩
abbrev S1x2048x6400 : Shape := ⟨3, ![1, 2048, 6400]⟩
abbrev S1x1024x2048 : Shape := ⟨3, ![1, 1024, 2048]⟩
abbrev S1x2048x2048 : Shape := ⟨3, ![1, 2048, 2048]⟩
abbrev S1x2048x32 : Shape := ⟨3, ![1, 2048, 32]⟩
abbrev S1x32 : Shape := ⟨2, ![1, 32]⟩
abbrev S2048x6400 : Shape := ⟨2, ![2048, 6400]⟩
abbrev S2048x4096 : Shape := ⟨2, ![2048, 4096]⟩
abbrev S2048 : Shape := ⟨1, ![2048]⟩
abbrev S1024x2048 : Shape := ⟨2, ![1024, 2048]⟩
abbrev S2048x2048 : Shape := ⟨2, ![2048, 2048]⟩
abbrev S2048x32 : Shape := ⟨2, ![2048, 32]⟩
abbrev S32x2048 : Shape := ⟨2, ![32, 2048]⟩
abbrev S32 : Shape := ⟨1, ![32]⟩
abbrev S32x1 : Shape := ⟨2, ![32, 1]⟩
abbrev S128x2048 : Shape := ⟨2, ![128, 2048]⟩
abbrev S128x1024 : Shape := ⟨2, ![128, 1024]⟩
abbrev S4x128 : Shape := ⟨2, ![4, 128]⟩
abbrev S128 : Shape := ⟨1, ![128]⟩
abbrev S128x1 : Shape := ⟨2, ![128, 1]⟩
abbrev S32x128 : Shape := ⟨2, ![32, 128]⟩
abbrev S1x128 : Shape := ⟨2, ![1, 128]⟩

abbrev nBuf : Space → Nat
  | .hbm => 36
  | .vmem => 15
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S1x2048, .f32⟩
  | .hbm, ⟨4, _⟩ => ⟨S1x2048x6400, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S2048x6400, .f32⟩
  | .hbm, ⟨12, _⟩ => ⟨S2048x4096, .f32⟩
  | .hbm, ⟨13, _⟩ => ⟨S2048x4096, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .bf16⟩
  | .hbm, ⟨20, _⟩ => ⟨S1024x2048, .f32⟩
  | .hbm, ⟨21, _⟩ => ⟨S1024x2048, .bf16⟩
  | .hbm, ⟨22, _⟩ => ⟨S2048x2048, .f32⟩
  | .hbm, ⟨23, _⟩ => ⟨S2048x2048, .bf16⟩
  | .hbm, ⟨24, _⟩ => ⟨S2048x32, .f32⟩
  | .hbm, ⟨25, _⟩ => ⟨S32x2048, .f32⟩
  | .hbm, ⟨26, _⟩ => ⟨S32x2048, .bf16⟩
  | .hbm, ⟨27, _⟩ => ⟨S32, .f32⟩
  | .hbm, ⟨28, _⟩ => ⟨S32x1, .f32⟩
  | .hbm, ⟨29, _⟩ => ⟨S128x2048, .f32⟩
  | .hbm, ⟨30, _⟩ => ⟨S128x1024, .bf16⟩
  | .hbm, ⟨31, _⟩ => ⟨S128x1024, .bf16⟩
  | .hbm, ⟨32, _⟩ => ⟨S128x2048, .f32⟩
  | .hbm, ⟨33, _⟩ => ⟨S128x2048, .f32⟩
  | .hbm, ⟨34, _⟩ => ⟨S4x128, .i32⟩
  | .hbm, ⟨35, _⟩ => ⟨S4x128, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S1x2048, .f32⟩
  | .local _ .vmem, ⟨4, _⟩ => ⟨S2048x4096, .bf16⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S32x2048, .bf16⟩
  | .local _ .vmem, ⟨10, _⟩ => ⟨S32x1, .f32⟩
  | .local _ .vmem, ⟨11, _⟩ => ⟨S128x2048, .f32⟩
  | .local _ .vmem, ⟨12, _⟩ => ⟨S128x2048, .f32⟩
  | .local _ .vmem, ⟨13, _⟩ => ⟨S4x128, .i32⟩
  | .local _ .vmem, ⟨14, _⟩ => ⟨S4x128, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c1_i32_0 : BitVec 32 := 1#32
  let v3 : BitVec 1 := Scalar.cmpi .slt arg0 c1_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![c0_i32_0.toNat, v0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference3Ideal.lean ====
abbrev S8x16x2048 : Shape := ⟨3, ![8, 16, 2048]⟩
abbrev S8x16x1024 : Shape := ⟨3, ![8, 16, 1024]⟩
abbrev S1x2048 : Shape := ⟨2, ![1, 2048]⟩
abbrev S1x2048x6400 : Shape := ⟨3, ![1, 2048, 6400]⟩
abbrev S1x1024x2048 : Shape := ⟨3, ![1, 1024, 2048]⟩
abbrev S1x2048x2048 : Shape := ⟨3, ![1, 2048, 2048]⟩
abbrev S1x2048x32 : Shape := ⟨3, ![1, 2048, 32]⟩
abbrev S1x32 : Shape := ⟨2, ![1, 32]⟩
abbrev S2048 : Shape := ⟨1, ![2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S2048x6400 : Shape := ⟨2, ![2048, 6400]⟩
abbrev S8x16x6400 : Shape := ⟨3, ![8, 16, 6400]⟩
abbrev S8x16x128 : Shape := ⟨3, ![8, 16, 128]⟩
abbrev S1024x2048 : Shape := ⟨2, ![1024, 2048]⟩
abbrev S2048x2048 : Shape := ⟨2, ![2048, 2048]⟩
abbrev S128x2048 : Shape := ⟨2, ![128, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S1x2048, .f32⟩
  | .hbm, ⟨4, _⟩ => ⟨S1x2048x6400, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S2048, .f32⟩
  | .hbm, ⟨12, _⟩ => ⟨S8x16x2048, .f32⟩
  | .hbm, ⟨13, _⟩ => ⟨S_, .f32⟩
  | .hbm, ⟨14, _⟩ => ⟨S8x16, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S_, .f32⟩
  | .hbm, ⟨20, _⟩ => ⟨S8x16x1, .f32⟩
  | .hbm, ⟨21, _⟩ => ⟨S8x16x1, .f32⟩
  | .hbm, ⟨22, _⟩ => ⟨S8x16x1, .f32⟩
  | .hbm, ⟨23, _⟩ => ⟨S8x16x2048, .f32⟩
  | .hbm, ⟨24, _⟩ => ⟨S8x16x2048, .f32⟩
  | .hbm, ⟨25, _⟩ => ⟨S1x1x2048, .f32⟩
  | .hbm, ⟨26, _⟩ => ⟨S8x16x2048, .f32⟩
  | .hbm, ⟨27, _⟩ => ⟨S8x16x2048, .f32⟩
  | .hbm, ⟨28, _⟩ => ⟨S2048x6400, .f32⟩
  | .hbm, ⟨29, _⟩ => ⟨S8x16x6400, .f32⟩
  | .hbm, ⟨30, _⟩ => ⟨S8x16x1024, .f32⟩
  | .hbm, ⟨31, _⟩ => ⟨S8x16x128, .f32⟩
  | .hbm, ⟨32, _⟩ => ⟨S8x16x128, .f32⟩
  | .hbm, ⟨33, _⟩ => ⟨S8x16x1024, .f32⟩
  | .hbm, ⟨34, _⟩ => ⟨S8x16x2048, .f32⟩
  | .hbm, ⟨35, _⟩ => ⟨S8x16x2048, .f32⟩
  | .hbm, ⟨36, _⟩ => ⟨S8x16x2048, .f32⟩
  | .hbm, ⟨37, _⟩ => ⟨S8x16x2048, .f32⟩
  | .hbm, ⟨38, _⟩ => ⟨S_, .f32⟩
  | .hbm, ⟨39, _⟩ => ⟨S8x16x2048, .f32⟩
  | .hbm, ⟨40, _⟩ => ⟨S8x16x2048, .f32⟩
  | .hbm, ⟨41, _⟩ => ⟨S_, .f32⟩
  | .hbm, ⟨42, _⟩ => ⟨S8x16x2048, .f32⟩
  | .hbm, ⟨43, _⟩ => ⟨S8x16x2048, .f32⟩
  | .hbm, ⟨44, _⟩ => ⟨S8x16x1024, .f32⟩
  | .hbm, ⟨45, _⟩ => ⟨S1024x2048, .f32⟩
  | .hbm, ⟨46, _⟩ => ⟨S8x16x2048, .f32⟩
  | .hbm, ⟨47, _⟩ => ⟨S8x16x2048, .f32⟩
  | .hbm, ⟨48, _⟩ => ⟨S8x16x2048, .f32⟩
  | .hbm, ⟨49, _⟩ => ⟨S8x16x2048, .f32⟩
  | .hbm, ⟨50, _⟩ => ⟨S_, .f32⟩
  | .hbm, ⟨51, _⟩ => ⟨S8x16x2048, .f32⟩
  | .hbm, ⟨52, _⟩ => ⟨S8x16x2048, .f32⟩
  | .hbm, ⟨53, _⟩ => ⟨S_, .f32⟩
  | .hbm, ⟨54, _⟩ => ⟨S8x16x2048, .f32⟩
  | .hbm, ⟨55, _⟩ => ⟨S8x16x2048, .f32⟩
  | .hbm, ⟨56, _⟩ => ⟨S8x16x1024, .f32⟩
  | .hbm, ⟨57, _⟩ => ⟨S1024x2048, .f32⟩
  | .hbm, ⟨58, _⟩ => ⟨S8x16x2048, .f32⟩
  | .hbm, ⟨59, _⟩ => ⟨S8x16x2048, .f32⟩
  | .hbm, ⟨60, _⟩ => ⟨S8x16x2048, .f32⟩
  | .hbm, ⟨61, _⟩ => ⟨S2048x2048, .f32⟩
  | .hbm, ⟨62, _⟩ => ⟨S8x16x2048, .f32⟩
  | .hbm, ⟨63, _⟩ => ⟨S8x16x2048, .f32⟩
  | .hbm, ⟨64, _⟩ => ⟨S2048, .f32⟩
  | .hbm, ⟨65, _⟩ => ⟨S8x16x2048, .f32⟩
  | .hbm, ⟨66, _⟩ => ⟨S_, .f32⟩
  | .hbm, ⟨67, _⟩ => ⟨S8x16, .f32⟩
  | .hbm, ⟨68, _⟩ => ⟨S8x16x1, .f32⟩
  | .hbm, ⟨69, _⟩ => ⟨S_, .f32⟩
  | .hbm, ⟨70, _⟩ => ⟨S8x16x1, .f32⟩
  | .hbm, ⟨71, _⟩ => ⟨S8x16x1, .f32⟩
  | .hbm, ⟨72, _⟩ => ⟨S_, .f32⟩
  | .hbm, ⟨73, _⟩ => ⟨S8x16x1, .f32⟩
  | .hbm, ⟨74, _⟩ => ⟨S8x16x1, .f32⟩
  | .hbm, ⟨75, _⟩ => ⟨S8x16x1, .f32⟩
  | .hbm, ⟨76, _⟩ => ⟨S8x16x2048, .f32⟩
  | .hbm, ⟨77, _⟩ => ⟨S8x16x2048, .f32⟩
  | .hbm, ⟨78, _⟩ => ⟨S1x1x2048, .f32⟩
  | .hbm, ⟨79, _⟩ => ⟨S8x16x2048, .f32⟩
  | .hbm, ⟨80, _⟩ => ⟨S8x16x2048, .f32⟩
  | .hbm, ⟨81, _⟩ => ⟨S128x2048, .f32⟩
  | .hbm, ⟨82, _⟩ => ⟨S128x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel4.lean ====
abbrev S8x16x2048 : Shape := ⟨3, ![8, 16, 2048]⟩
abbrev S8x16x1024 : Shape := ⟨3, ![8, 16, 1024]⟩
abbrev S1x2048 : Shape := ⟨2, ![1, 2048]⟩
abbrev S1x2048x6400 : Shape := ⟨3, ![1, 2048, 6400]⟩
abbrev S1x1024x2048 : Shape := ⟨3, ![1, 1024, 2048]⟩
abbrev S1x2048x2048 : Shape := ⟨3, ![1, 2048, 2048]⟩
abbrev S1x2048x32 : Shape := ⟨3, ![1, 2048, 32]⟩
abbrev S1x32 : Shape := ⟨2, ![1, 32]⟩
abbrev S2048x6400 : Shape := ⟨2, ![2048, 6400]⟩
abbrev S2048x4096 : Shape := ⟨2, ![2048, 4096]⟩
abbrev S2048 : Shape := ⟨1, ![2048]⟩
abbrev S1024x2048 : Shape := ⟨2, ![1024, 2048]⟩
abbrev S2048x2048 : Shape := ⟨2, ![2048, 2048]⟩
abbrev S2048x32 : Shape := ⟨2, ![2048, 32]⟩
abbrev S32x2048 : Shape := ⟨2, ![32, 2048]⟩
abbrev S32 : Shape := ⟨1, ![32]⟩
abbrev S32x1 : Shape := ⟨2, ![32, 1]⟩
abbrev S128x2048 : Shape := ⟨2, ![128, 2048]⟩
abbrev S128x1024 : Shape := ⟨2, ![128, 1024]⟩
abbrev S4x128 : Shape := ⟨2, ![4, 128]⟩
abbrev S128 : Shape := ⟨1, ![128]⟩
abbrev S128x1 : Shape := ⟨2, ![128, 1]⟩
abbrev S32x128 : Shape := ⟨2, ![32, 128]⟩
abbrev S1x128 : Shape := ⟨2, ![1, 128]⟩

abbrev nBuf : Space → Nat
  | .hbm => 36
  | .vmem => 15
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S1x2048, .f32⟩
  | .hbm, ⟨4, _⟩ => ⟨S1x2048x6400, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S2048x6400, .f32⟩
  | .hbm, ⟨12, _⟩ => ⟨S2048x4096, .f32⟩
  | .hbm, ⟨13, _⟩ => ⟨S2048x4096, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1024x2048, .f32⟩
  | .hbm, ⟨19, _⟩ => ⟨S1024x2048, .bf16⟩
  | .hbm, ⟨20, _⟩ => ⟨S1024x2048, .f32⟩
  | .hbm, ⟨21, _⟩ => ⟨S1024x2048, .bf16⟩
  | .hbm, ⟨22, _⟩ => ⟨S2048x2048, .f32⟩
  | .hbm, ⟨23, _⟩ => ⟨S2048x2048, .bf16⟩
  | .hbm, ⟨24, _⟩ => ⟨S2048x32, .f32⟩
  | .hbm, ⟨25, _⟩ => ⟨S32x2048, .f32⟩
  | .hbm, ⟨26, _⟩ => ⟨S32x2048, .bf16⟩
  | .hbm, ⟨27, _⟩ => ⟨S32, .f32⟩
  | .hbm, ⟨28, _⟩ => ⟨S32x1, .f32⟩
  | .hbm, ⟨29, _⟩ => ⟨S128x2048, .f32⟩
  | .hbm, ⟨30, _⟩ => ⟨S128x1024, .bf16⟩
  | .hbm, ⟨31, _⟩ => ⟨S128x1024, .bf16⟩
  | .hbm, ⟨32, _⟩ => ⟨S128x2048, .f32⟩
  | .hbm, ⟨33, _⟩ => ⟨S128x2048, .f32⟩
  | .hbm, ⟨34, _⟩ => ⟨S4x128, .i32⟩
  | .hbm, ⟨35, _⟩ => ⟨S4x128, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S1x2048, .f32⟩
  | .local _ .vmem, ⟨4, _⟩ => ⟨S2048x4096, .bf16⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S32x2048, .bf16⟩
  | .local _ .vmem, ⟨10, _⟩ => ⟨S32x1, .f32⟩
  | .local _ .vmem, ⟨11, _⟩ => ⟨S128x2048, .f32⟩
  | .local _ .vmem, ⟨12, _⟩ => ⟨S128x2048, .f32⟩
  | .local _ .vmem, ⟨13, _⟩ => ⟨S4x128, .i32⟩
  | .local _ .vmem, ⟨14, _⟩ => ⟨S4x128, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c1_i32_0 : BitVec 32 := 1#32
  let v3 : BitVec 1 := Scalar.cmpi .slt arg0 c1_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![c0_i32_0.toNat, v0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference4Ideal.lean ====
abbrev S8x16x2048 : Shape := ⟨3, ![8, 16, 2048]⟩
abbrev S8x16x1024 : Shape := ⟨3, ![8, 16, 1024]⟩
abbrev S1x2048 : Shape := ⟨2, ![1, 2048]⟩
abbrev S1x2048x6400 : Shape := ⟨3, ![1, 2048, 6400]⟩
abbrev S1x1024x2048 : Shape := ⟨3, ![1, 1024, 2048]⟩
abbrev S1x2048x2048 : Shape := ⟨3, ![1, 2048, 2048]⟩
abbrev S1x2048x32 : Shape := ⟨3, ![1, 2048, 32]⟩
abbrev S1x32 : Shape := ⟨2, ![1, 32]⟩
abbrev S2048 : Shape := ⟨1, ![2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S2048x6400 : Shape := ⟨2, ![2048, 6400]⟩
abbrev S8x16x6400 : Shape := ⟨3, ![8, 16, 6400]⟩
abbrev S8x16x128 : Shape := ⟨3, ![8, 16, 128]⟩
abbrev S1024x2048 : Shape := ⟨2, ![1024, 2048]⟩
abbrev S2048x2048 : Shape := ⟨2, ![2048, 2048]⟩
abbrev S128x2048 : Shape := ⟨2, ![128, 2048]⟩
abbrev S2048x32 : Shape := ⟨2, ![2048, 32]⟩
abbrev S128x32 : Shape := ⟨2, ![128, 32]⟩
abbrev S32 : Shape := ⟨1, ![32]⟩
abbrev S128x4 : Shape := ⟨2, ![128, 4]⟩
abbrev S4x128 : Shape := ⟨2, ![4, 128]⟩
abbrev S128 : Shape := ⟨1, ![128]⟩
abbrev S128x1 : Shape := ⟨2, ![128, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S1x2048, .f32⟩
  | .hbm, ⟨4, _⟩ => ⟨S1x2048x6400, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S1x2048, .f32⟩
  | .hbm, ⟨9, _⟩ => ⟨S1x2048x32, .f32⟩
  | .hbm, ⟨10, _⟩ => ⟨S1x32, .f32⟩
  | .hbm, ⟨11, _⟩ => ⟨S2048, .f32⟩
  | .hbm, ⟨12, _⟩ => ⟨S8x16x2048, .f32⟩
  | .hbm, ⟨13, _⟩ => ⟨S_, .f32⟩
  | .hbm, ⟨14, _⟩ => ⟨S8x16, .f32⟩
  | .hbm, ⟨15, _⟩ => ⟨S8x16x1, .f32⟩
  | .hbm, ⟨16, _⟩ => ⟨S_, .f32⟩
  | .hbm, ⟨17, _⟩ => ⟨S8x16x1, .f32⟩
  | .hbm, ⟨18, _⟩ => ⟨S8x16x1, .f32⟩
  | .hbm, ⟨19, _⟩ => ⟨S_, .f32⟩
  | .hbm, ⟨20, _⟩ => ⟨S8x16x1, .f32⟩
  | .hbm, ⟨21, _⟩ => ⟨S8x16x1, .f32⟩
  | .hbm, ⟨22, _⟩ => ⟨S8x16x1, .f32⟩
  | .hbm, ⟨23, _⟩ => ⟨S8x16x2048, .f32⟩
  | .hbm, ⟨24, _⟩ => ⟨S8x16x2048, .f32⟩
  | .hbm, ⟨25, _⟩ => ⟨S1x1x2048, .f32⟩
  | .hbm, ⟨26, _⟩ => ⟨S8x16x2048, .f32⟩
  | .hbm, ⟨27, _⟩ => ⟨S8x16x2048, .f32⟩
  | .hbm, ⟨28, _⟩ => ⟨S2048x6400, .f32⟩
  | .hbm, ⟨29, _⟩ => ⟨S8x16x6400, .f32⟩
  | .hbm, ⟨30, _⟩ => ⟨S8x16x1024, .f32⟩
  | .hbm, ⟨31, _⟩ => ⟨S8x16x128, .f32⟩
  | .hbm, ⟨32, _⟩ => ⟨S8x16x128, .f32⟩
  | .hbm, ⟨33, _⟩ => ⟨S8x16x1024, .f32⟩
  | .hbm, ⟨34, _⟩ => ⟨S8x16x2048, .f32⟩
  | .hbm, ⟨35, _⟩ => ⟨S8x16x2048, .f32⟩
  | .hbm, ⟨36, _⟩ => ⟨S8x16x2048, .f32⟩
  | .hbm, ⟨37, _⟩ => ⟨S8x16x2048, .f32⟩
  | .hbm, ⟨38, _⟩ => ⟨S_, .f32⟩
  | .hbm, ⟨39, _⟩ => ⟨S8x16x2048, .f32⟩
  | .hbm, ⟨40, _⟩ => ⟨S8x16x2048, .f32⟩
  | .hbm, ⟨41, _⟩ => ⟨S_, .f32⟩
  | .hbm, ⟨42, _⟩ => ⟨S8x16x2048, .f32⟩
  | .hbm, ⟨43, _⟩ => ⟨S8x16x2048, .f32⟩
  | .hbm, ⟨44, _⟩ => ⟨S8x16x1024, .f32⟩
  | .hbm, ⟨45, _⟩ => ⟨S1024x2048, .f32⟩
  | .hbm, ⟨46, _⟩ => ⟨S8x16x2048, .f32⟩
  | .hbm, ⟨47, _⟩ => ⟨S8x16x2048, .f32⟩
  | .hbm, ⟨48, _⟩ => ⟨S8x16x2048, .f32⟩
  | .hbm, ⟨49, _⟩ => ⟨S8x16x2048, .f32⟩
  | .hbm, ⟨50, _⟩ => ⟨S_, .f32⟩
  | .hbm, ⟨51, _⟩ => ⟨S8x16x2048, .f32⟩
  | .hbm, ⟨52, _⟩ => ⟨S8x16x2048, .f32⟩
  | .hbm, ⟨53, _⟩ => ⟨S_, .f32⟩
  | .hbm, ⟨54, _⟩ => ⟨S8x16x2048, .f32⟩
  | .hbm, ⟨55, _⟩ => ⟨S8x16x2048, .f32⟩
  | .hbm, ⟨56, _⟩ => ⟨S8x16x1024, .f32⟩
  | .hbm, ⟨57, _⟩ => ⟨S1024x2048, .f32⟩
  | .hbm, ⟨58, _⟩ => ⟨S8x16x2048, .f32⟩
  | .hbm, ⟨59, _⟩ => ⟨S8x16x2048, .f32⟩
  | .hbm, ⟨60, _⟩ => ⟨S8x16x2048, .f32⟩
  | .hbm, ⟨61, _⟩ => ⟨S2048x2048, .f32⟩
  | .hbm, ⟨62, _⟩ => ⟨S8x16x2048, .f32⟩
  | .hbm, ⟨63, _⟩ => ⟨S8x16x2048, .f32⟩
  | .hbm, ⟨64, _⟩ => ⟨S2048, .f32⟩
  | .hbm, ⟨65, _⟩ => ⟨S8x16x2048, .f32⟩
  | .hbm, ⟨66, _⟩ => ⟨S_, .f32⟩
  | .hbm, ⟨67, _⟩ => ⟨S8x16, .f32⟩
  | .hbm, ⟨68, _⟩ => ⟨S8x16x1, .f32⟩
  | .hbm, ⟨69, _⟩ => ⟨S_, .f32⟩
  | .hbm, ⟨70, _⟩ => ⟨S8x16x1, .f32⟩
  | .hbm, ⟨71, _⟩ => ⟨S8x16x1, .f32⟩
  | .hbm, ⟨72, _⟩ => ⟨S_, .f32⟩
  | .hbm, ⟨73, _⟩ => ⟨S8x16x1, .f32⟩
  | .hbm, ⟨74, _⟩ => ⟨S8x16x1, .f32⟩
  | .hbm, ⟨75, _⟩ => ⟨S8x16x1, .f32⟩
  | .hbm, ⟨76, _⟩ => ⟨S8x16x2048, .f32⟩
  | .hbm, ⟨77, _⟩ => ⟨S8x16x2048, .f32⟩
  | .hbm, ⟨78, _⟩ => ⟨S1x1x2048, .f32⟩
  | .hbm, ⟨79, _⟩ => ⟨S8x16x2048, .f32⟩
  | .hbm, ⟨80, _⟩ => ⟨S8x16x2048, .f32⟩
  | .hbm, ⟨81, _⟩ => ⟨S128x2048, .f32⟩
  | .hbm, ⟨82, _⟩ => ⟨S128x2048, .f32⟩
  | .hbm, ⟨83, _⟩ => ⟨S2048x32, .f32⟩
  | .hbm, ⟨84, _⟩ => ⟨S128x32, .f32⟩
  | .hbm, ⟨85, _⟩ => ⟨S32, .f32⟩
  | .hbm, ⟨86, _⟩ => ⟨S1x32, .f32⟩
  | .hbm, ⟨87, _⟩ => ⟨S128x32, .f32⟩
  | .hbm, ⟨88, _⟩ => ⟨S128x32, .f32⟩
  | .hbm, ⟨89, _⟩ => ⟨S128x4, .f32⟩
  | .hbm, ⟨90, _⟩ => ⟨S128x4, .i32⟩
  | .hbm, ⟨91, _⟩ => ⟨S4x128, .i32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128x1, .f32⟩
  | .hbm, ⟨98, _⟩ => ⟨S128x4, .f32⟩
  | .hbm, ⟨99, _⟩ => ⟨S128x4, .f32⟩
  | .hbm, ⟨100, _⟩ => ⟨S128x4, .f32⟩
  | .hbm, ⟨101, _⟩ => ⟨S_, .f32⟩
  | .hbm, ⟨102, _⟩ => ⟨S128, .f32⟩
  | .hbm, ⟨103, _⟩ => ⟨S128x1, .f32⟩
  | .hbm, ⟨104, _⟩ => ⟨S128x4, .f32⟩
  | .hbm, ⟨105, _⟩ => ⟨S128x4, .f32⟩
  | .hbm, ⟨106, _⟩ => ⟨S4x128, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_values : Ref sig .tc := ⟨.hbm, 89, rfl⟩
abbrev main_indices : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Proof.K.RunA.lean ====
/- The run of `Kernel`'s kernel body at a grid point: what its stores leave in each output's block and in the
   scratch buffers, with the proof that the body does so. The text is the generated module's of the same name, with a
   larger budget for the one definition. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body's triple: on whole staging memrefs — the inputs' at their contents,
    the FORGOTTEN outputs' (14, 15, 16, 17, 18) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.K.Frame.lean ====
/- The frame of `Kernel`: from the body's run at each grid point to the launch of the whole program. The text is the
   generated module's of the same name over the run in `K/RunA.lean`. -/
module

public import proofs.«01_k».proof.Proof.K.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (14, 15, 16, 17, 18): nothing reads what the kernel leaves in them, so nothing
    of it is named (Lib/Pipeline/Dat.lean `Dat.toRForget`). -/
def forgets0 : Fin 19 → Bool := fun w => w.val == 14 || w.val == 15 || w.val == 16 || w.val == 17 || w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, H11, H12, H13, H14, H15, H16, H17, H18, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 14, 15, 16, 17, 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.arr_in c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Gen

end
-- ==== Proof.Num.lean ====
/-
  Numbers among the extended reals: which operations keep a value a number, and the constant factors that may be
  moved through a sum of extended reals.
-/
module

public import Idealize.ShloMosaic.Lib.IdealHost
public import Idealize.ShloMosaic.Lib.Pointwise

@[expose] public section

noncomputable section

namespace Cert.Front

open Idealize.ShloMosaic

/-- The value is a real number. -/
def IsNum (x : EReal) : Prop := ∃ r : ℝ, x = (r : EReal)

theorem isNum_coe (r : ℝ) : IsNum (r : EReal) := ⟨r, rfl⟩
theorem isNum_zero : IsNum 0 := ⟨0, by simp⟩
theorem isNum_one : IsNum 1 := ⟨1, by simp⟩

theorem IsNum.add {x y : EReal} : IsNum x → IsNum y → IsNum (x + y) := by
  rintro ⟨a, rfl⟩ ⟨b, rfl⟩; exact ⟨a + b, (EReal.coe_add a b).symm⟩
theorem IsNum.neg {x : EReal} : IsNum x → IsNum (-x) := by
  rintro ⟨a, rfl⟩; exact ⟨-a, (EReal.coe_neg a).symm⟩
theorem IsNum.sub {x y : EReal} : IsNum x → IsNum y → IsNum (x - y) := by
  rintro ⟨a, rfl⟩ ⟨b, rfl⟩; exact ⟨a - b, (EReal.coe_sub a b).symm⟩
theorem IsNum.mul {x y : EReal} : IsNum x → IsNum y → IsNum (x * y) := by
  rintro ⟨a, rfl⟩ ⟨b, rfl⟩; exact ⟨a * b, (EReal.coe_mul a b).symm⟩
theorem IsNum.max {x y : EReal} (hx : IsNum x) (hy : IsNum y) : IsNum (max x y) := by
  rcases max_choice x y with h | h <;> rw [h] <;> assumption
theorem IsNum.sum {ι : Type} [Fintype ι] {f : ι → EReal} (h : ∀ i, IsNum (f i)) : IsNum (∑ i, f i) := by
  classical
  refine Finset.induction_on (motive := fun s => IsNum (∑ i ∈ s, f i)) Finset.univ (by simpa using isNum_zero) ?_
  intro i s hi hs; rw [Finset.sum_insert hi]; exact (h i).add hs
theorem IsNum.sub_self {x : EReal} : IsNum x → x - x = 0 := by
  rintro ⟨a, rfl⟩; rw [← EReal.coe_sub]; simp
theorem IsNum.add_sub_cancel {x y : EReal} (hy : IsNum y) : x + y - y = x := by
  obtain ⟨b, rfl⟩ := hy; exact EReal.add_sub_cancel_right
theorem isNum_of_abs {x : EReal} (h : max x (-x) < ⊤) : IsNum x := by
  induction x with
  | bot => simp at h
  | top => simp at h
  | coe r => exact ⟨r, rfl⟩

/-- The sum of numbers is the sum of the reals. -/
theorem coe_sum {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) Finset.univ (by simp) ?_
  intro i s hi hs; rw [Finset.sum_insert hi, Finset.sum_insert hi, hs, EReal.coe_add]

/-- A factor that is a nonnegative number moves through a sum. -/
theorem sum_mul_num {ι : Type} [Fintype ι] (f : ι → EReal) {c : ℝ} (hc : 0 ≤ c) :
    (∑ i, f i) * (c : EReal) = ∑ i, f i * (c : EReal) := by
  classical
  refine Finset.induction_on (motive := fun s => (∑ i ∈ s, f i) * (c : EReal) = ∑ i ∈ s, f i * (c : EReal)) Finset.univ (by simp) ?_
  intro i s hi hs
  rw [Finset.sum_insert hi, Finset.sum_insert hi, ← hs]
  exact EReal.right_distrib_of_nonneg_of_ne_top (by exact_mod_cast hc) (EReal.coe_ne_top c) _ _

theorem add_mul_num (x y : EReal) {c : ℝ} (hc : 0 ≤ c) : (x + y) * (c : EReal) = x * c + y * c :=
  EReal.right_distrib_of_nonneg_of_ne_top (by exact_mod_cast hc) (EReal.coe_ne_top c) _ _

theorem isNum_exp {x : EReal} : IsNum x → IsNum (Ideal.exp x) := by
  rintro ⟨a, rfl⟩; exact ⟨Real.exp a, rfl⟩
theorem isNum_cos {x : EReal} : IsNum x → IsNum (Ideal.cos x) := by
  rintro ⟨a, rfl⟩; exact ⟨Real.cos a, rfl⟩
theorem isNum_sin {x : EReal} : IsNum x → IsNum (Ideal.sin x) := by
  rintro ⟨a, rfl⟩; exact ⟨Real.sin a, rfl⟩
theorem isNum_pow {x y : EReal} : IsNum x → IsNum y → IsNum (Ideal.pow x y) := by
  rintro ⟨a, rfl⟩ ⟨b, rfl⟩; exact ⟨Real.rpow a b, rfl⟩
theorem isNum_div_coe {x : EReal} {b : ℝ} (h : b ≠ 0) (hx : IsNum x) : IsNum (Ideal.div x (b : EReal)) := by
  rw [Ideal.div_coe h]; exact hx.mul ⟨_, rfl⟩
theorem isNum_rsqrt {a : ℝ} (h : 0 < a) : IsNum (Ideal.rsqrt (a : EReal)) := by
  refine ⟨(Real.sqrt a)⁻¹, ?_⟩
  show (if a < 0 then (⊥ : EReal) else if a = 0 then ⊤ else (((Real.sqrt a)⁻¹ : ℝ) : EReal)) = _
  rw [if_neg (not_lt.mpr h.le), if_neg h.ne']

/-! The constants of the two programs. -/

theorem isNum_bits {b : BitVec 32} (h : ∃ r : ℝ, Ideal.ofBits .f32 b = r) : IsNum (Ideal.ofBits .f32 b) := h

theorem bits_2048 : Ideal.ofBits .f32 0x45000000#32 = ((2048 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_64th : Ideal.ofBits .f32 0x3C800000#32 = (((1 : ℝ) / 64 : ℝ) : EReal) := by
  simp [Ideal.ofBits, Ideal.ieee, -EReal.coe_mul]; norm_num
theorem bits_8th : Ideal.ofBits .f32 0x3E000000#32 = (((1 : ℝ) / 8 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_4 : Ideal.ofBits .f32 0x40800000#32 = ((4 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_theta : Ideal.ofBits .f32 0x48F42400#32 = ((500000 : ℝ) : EReal) := by
  simp [Ideal.ofBits, Ideal.ieee, -EReal.coe_mul]; norm_num
theorem bits_negInf : Ideal.ofBits .f32 0xFF800000#32 = ⊥ := by
  simp [Ideal.ofBits, Ideal.ieee]
theorem bits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Front
-- ==== Proof.Spec.lean ====
/-
  What the front call computes, in the order of reference.py: the normed projection, the head norms, the rotary
  embedding, the attention over the cached and the new keys with a sink, and the pooling of the last rows.
  Every entry is an extended real, written by coordinates.
-/
module

public import proofs.«01_k».proof.Proof.Num

@[expose] public section

noncomputable section

namespace Cert.Front

open Idealize.ShloMosaic Idealize.ShloMosaic.Pointwise

/-- An array of f32 entries of the given shape. -/
abbrev Arr (s : Shape) : Type := Vec Ideal s .f32

/-- The shapes of the arguments. -/
abbrev Sx : Shape := ⟨3, ![8, 16, 2048]⟩
abbrev Sc : Shape := ⟨5, ![1, 8, 128, 2, 64]⟩
abbrev Sp : Shape := ⟨4, ![1, 8, 15, 1024]⟩
abbrev Sg : Shape := ⟨2, ![1, 2048]⟩
abbrev Sw : Shape := ⟨3, ![1, 2048, 6400]⟩
abbrev Sh : Shape := ⟨2, ![1, 64]⟩
abbrev Ss : Shape := ⟨2, ![1, 16]⟩
abbrev Swp : Shape := ⟨4, ![1, 4, 256, 256]⟩
abbrev Sps : Shape := ⟨2, ![1, 1024]⟩

/-- A row normed by its root mean square, weighted, times a column of the projection. -/
def proj (X G W : Fin 2048 → EReal) : EReal :=
  ∑ x, X x * Ideal.rsqrt (Ideal.div (∑ x, X x * X x) (Ideal.ofBits .f32 0x45000000#32) + Ideal.ofBits .f32 0x3727C5AC#32)
    * G x * W x

/-- The factor of one head's norm. -/
def headScale (Z : Fin 64 → EReal) : EReal :=
  Ideal.rsqrt (Ideal.div (∑ x, Z x * Z x) (Ideal.ofBits .f32 0x42800000#32) + Ideal.ofBits .f32 0x3727C5AC#32)

/-- One head normed by its root mean square and weighted. -/
def headNorm (Z g : Fin 64 → EReal) (d : Fin 64) : EReal := Z d * headScale Z * g d

/-- The angle of token `t`'s rotation number `p`. -/
def angle (t : Fin 16) (p : Fin 8) : EReal :=
  FloatOps.sitofp (F := Ideal) .f32 (IntOp.addi (2048#32) (BitVec.ofNat 32 t.val)) *
    Ideal.pow (Ideal.ofBits .f32 0x48F42400#32)
      (Ideal.div (-(Ideal.ofBits .f32 0x40000000#32 * FloatOps.sitofp (F := Ideal) .f32 (BitVec.ofNat 32 p.val)))
        (Ideal.ofBits .f32 0x41800000#32))

/-- One head rotated: lanes `p` and `8 + p` by the angle `p`, the lanes from 16 on as they are. -/
def rope (C S : Fin 8 → EReal) (Q : Fin 64 → EReal) (d : Fin 64) : EReal :=
  if h : d.val < 16 then
    if h2 : d.val < 8 then Q d * C ⟨d.val, h2⟩ - Q ⟨8 + d.val, by omega⟩ * S ⟨d.val, h2⟩
    else Q ⟨8 + (d.val - 8), by omega⟩ * C ⟨d.val - 8, by omega⟩ + Q ⟨d.val - 8, by omega⟩ * S ⟨d.val - 8, by omega⟩
  else Q ⟨16 + (d.val - 16), by omega⟩

/-- The largest of the scores and the sink. -/
def top (s : Fin 144 → EReal) (k : EReal) : EReal :=
  max (Finset.univ.fold max (Ideal.ofBits .f32 0xFF800000#32) s) k

/-- The weights' denominator: the scores' and the sink's exponentials. -/
def denom (s : Fin 144 → EReal) (k : EReal) : EReal :=
  ∑ j, Ideal.exp (s j - top s k) + Ideal.exp (k - top s k)

/-- One attention output: the values weighted by the softmax with a sink. -/
def attend (s : Fin 144 → EReal) (k : EReal) (v : Fin 144 → EReal) : EReal :=
  ∑ j, v j * Ideal.div (Ideal.exp (s j - top s k)) (denom s k)

/-- The sum of the `w` entries that end at `i`. -/
def winSum (X : ℕ → EReal) (i w : ℕ) : EReal := ∑ k ∈ Finset.range w, X (i - k)

variable (x0 : Arr Sx) (x1 x2 : Arr Sc) (x3 : Arr Sp) (x4 : Arr Sg) (x5 : Arr Sw) (x6 x7 : Arr Sh) (x8 : Arr Ss)
  (x9 : Arr Swp) (x10 : Arr Sps)

/-- Column `n` of the projection of token `t` of sample `b`. -/
def z (b : Fin 8) (t : Fin 16) (n : Fin 6400) : EReal :=
  proj (fun x => x0 (ix3 b t x)) (fun x => x4 (ix2 0 x)) (fun x => x5 (ix3 0 x n))

/-- Head `h` of the queries, projected. -/
def zq (b : Fin 8) (t : Fin 16) (h : Fin 16) (d : Fin 64) : EReal := z x0 x4 x5 b t ⟨h.val * 64 + d.val, by omega⟩
/-- Head `h` of the keys, projected. -/
def zk (b : Fin 8) (t : Fin 16) (h : Fin 2) (d : Fin 64) : EReal := z x0 x4 x5 b t ⟨1024 + (h.val * 64 + d.val), by omega⟩

/-- The queries, normed and rotated. -/
def qrot (b : Fin 8) (t : Fin 16) (h : Fin 16) (d : Fin 64) : EReal :=
  rope (fun p => Ideal.cos (angle t p)) (fun p => Ideal.sin (angle t p))
    (headNorm (zq x0 x4 x5 b t h) (fun d => x6 (ix2 0 d))) d
/-- The new keys, normed and rotated. -/
def krot (b : Fin 8) (t : Fin 16) (h : Fin 2) (d : Fin 64) : EReal :=
  rope (fun p => Ideal.cos (angle t p)) (fun p => Ideal.sin (angle t p))
    (headNorm (zk x0 x4 x5 b t h) (fun d => x7 (ix2 0 d))) d

/-- All the keys: the cached ones, then the new ones. -/
def keys (b : Fin 8) (j : Fin 144) (h : Fin 2) (d : Fin 64) : EReal :=
  if h1 : j.val < 128 then x1 (ix5 0 b ⟨j.val, h1⟩ h d) else krot x0 x4 x5 x7 b ⟨j.val - 128, by omega⟩ h d
/-- All the values: the cached ones, then the new ones. -/
def vals (b : Fin 8) (j : Fin 144) (h : Fin 2) (d : Fin 64) : EReal :=
  if h1 : j.val < 128 then x2 (ix5 0 b ⟨j.val, h1⟩ h d)
  else z x0 x4 x5 b ⟨j.val - 128, by omega⟩ ⟨1152 + (h.val * 64 + d.val), by omega⟩

/-- The score of key `j` for head `h` of group `g`, token `t`. -/
def score (b : Fin 8) (g : Fin 2) (h : Fin 8) (t : Fin 16) (j : Fin 144) : EReal :=
  (∑ d, keys x0 x1 x4 x5 x7 b j g d * qrot x0 x4 x5 x6 b t ⟨g.val * 8 + h.val, by omega⟩ d) * Ideal.ofBits .f32 0x3E000000#32

/-- The attention's output of head `h` of group `g`. -/
def attOut (b : Fin 8) (t : Fin 16) (g : Fin 2) (h : Fin 8) (d : Fin 64) : EReal :=
  attend (score x0 x1 x4 x5 x6 x7 b g h t) (x8 (ix2 0 ⟨g.val * 8 + h.val, by omega⟩)) (fun j => vals x0 x2 x4 x5 b j g d)

/-- The rows that the pooling sums: a row of zeros, the 15 rows of history, the 16 new rows. -/
def urow (b : Fin 8) (c : Fin 1024) (r : ℕ) : EReal :=
  if h : r < 1 then 0
  else if h1 : r - 1 < 15 then x3 (ix4 0 b ⟨r - 1, h1⟩ c)
  else if h2 : r - 1 - 15 < 16 then z x0 x4 x5 b ⟨r - 1 - 15, h2⟩ ⟨1280 + c.val, by omega⟩ else 0

/-- The window of a column: 2, 4, 8 or 16 rows. -/
def win (c : Fin 1024) : ℕ := 2 ^ (c.val / 256 + 1)

/-- The mean of the last rows less the row itself. -/
def pooled (b : Fin 8) (t : Fin 16) (c : Fin 1024) : EReal :=
  Ideal.div (winSum (urow x0 x3 x4 x5 b c) (16 + t.val) (win c)) ((win c : ℝ) : EReal)
    - z x0 x4 x5 b t ⟨1280 + c.val, by omega⟩

/-- The pooling's output. -/
def poolOut (b : Fin 8) (t : Fin 16) (c : Fin 1024) : EReal :=
  (∑ x : Fin 256, x9 (ix4 0 ⟨c.val / 256, by omega⟩ x ⟨c.val % 256, by omega⟩)
    * pooled x0 x3 x4 x5 b t ⟨c.val / 256 * 256 + x.val, by omega⟩) * x10 (ix2 0 c)

end Cert.Front
-- ==== Proof.Arrays.lean ====
/-
  The five result arrays, as functions of the arguments.
-/
module

public import proofs.«01_k».proof.Proof.Spec

@[expose] public section

noncomputable section

namespace Cert.Front

open Idealize.ShloMosaic Idealize.ShloMosaic.Pointwise

/-- The attention output. -/
def attArr (X0 : Arr Sx) (X1 : Arr Sc) (X2 : Arr Sc) (X4 : Arr Sg) (X5 : Arr Sw) (X6 : Arr Sh) (X7 : Arr Sh) (X8 : Arr Ss) (i : (⟨3, ![8, 16, 1024]⟩ : Shape).Idx) : EReal :=
  attOut X0 X1 X2 X4 X5 X6 X7 X8 (i 0) (i 1) ⟨(i 2).val / 512, by have : (i 2).val < 1024 := (i 2).isLt; omega⟩ ⟨(i 2).val / 64 % 8, by omega⟩ ⟨(i 2).val % 64, by omega⟩

/-- The pooling output. -/
def poolArr (X0 : Arr Sx) (X3 : Arr Sp) (X4 : Arr Sg) (X5 : Arr Sw) (X9 : Arr Swp) (X10 : Arr Sps) (i : (⟨3, ![8, 16, 1024]⟩ : Shape).Idx) : EReal :=
  poolOut X0 X3 X4 X5 X9 X10 (i 0) (i 1) (i 2)

/-- The last 128 keys. -/
def keyArr (X0 : Arr Sx) (X1 : Arr Sc) (X4 : Arr Sg) (X5 : Arr Sw) (X7 : Arr Sh) (i : (⟨3, ![8, 128, 128]⟩ : Shape).Idx) : EReal :=
  keys X0 X1 X4 X5 X7 (i 0) ⟨16 + (i 1).val, by have : (i 1).val < 128 := (i 1).isLt; omega⟩ ⟨(i 2).val / 64, by have : (i 2).val < 128 := (i 2).isLt; omega⟩ ⟨(i 2).val % 64, by omega⟩

/-- The last 128 values. -/
def valArr (X0 : Arr Sx) (X2 : Arr Sc) (X4 : Arr Sg) (X5 : Arr Sw) (i : (⟨3, ![8, 128, 128]⟩ : Shape).Idx) : EReal :=
  vals X0 X2 X4 X5 (i 0) ⟨16 + (i 1).val, by have : (i 1).val < 128 := (i 1).isLt; omega⟩ ⟨(i 2).val / 64, by have : (i 2).val < 128 := (i 2).isLt; omega⟩ ⟨(i 2).val % 64, by omega⟩

/-- The last 15 pooled rows. -/
def rowArr (X0 : Arr Sx) (X3 : Arr Sp) (X4 : Arr Sg) (X5 : Arr Sw) (i : (⟨3, ![8, 15, 1024]⟩ : Shape).Idx) : EReal :=
  urow X0 X3 X4 X5 (i 0) (i 2) (17 + (i 1).val)

end Cert.Front
-- ==== Proof.KI.RunA.lean ====
/- The run of `KernelIdeal`'s kernel body at a grid point: what its stores leave in each output's block and in the
   scratch buffers, with the proof that the body does so. The text is the generated module's of the same name, with a
   larger budget for the one definition. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) :
    Σ' (L14 : List (View.Piece (Elt F) S1x16x1024 .bf16)), Σ' (L15 : List (View.Piece (Elt F) S1x16x1024 .bf16)), Σ' (L16 : List (View.Piece (Elt F) S1x128x128 .f32)), Σ' (L17 : List (View.Piece (Elt F) S1x128x128 .f32)), Σ' (L18 : List (View.Piece (Elt F) S1x15x1024 .f32)), Σ' (LT0 : List (View.Piece (Elt F) S144x128 .f32)), Σ' (LT1 : List (View.Piece (Elt F) S144x128 .f32)), { LT2 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LT1) ∗ (∃ f, arg23.view.loc (c : Thread nD τ) ↦[arg23.view.set]{fullShare} arg23.view.writes (Elt F) f LT2)) -∗ K ⟨⟩))
          ⊢ wp frame (wpE (defs₀ (F := F)) Variants.none c none) E (cc0_front i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexists _; iexact HS0
    isplitl [HS1]; · iexists _; iexact HS1
    iexists _; iexact HS2

end Cert.KernelIdeal.Gen

end
-- ==== Proof.KI.Frame.lean ====
/- The frame of `KernelIdeal`: from the body's run at each grid point to the launch of the whole program. The text is the
   generated module's of the same name over the run in `KI/RunA.lean`. -/
module

public import proofs.«01_k».proof.Proof.KI.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 14 tile its block (16 stores of `S1x16x64`, checked by the kernel's evaluation: Lib/Ring.lean `Piece.tiledL`, linear in the pieces, through a loop's `@[irreducible]` trip theorem too), so they cover it. -/
theorem cover0_A_14 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) (y : S1x16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).1 S1x16x64.size (by sl_kernel_rfl) y

/-- What the run leaves in output 14's staging buffer: its pieces read back over junk. -/
def out0_A_14 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) : Vec F S1x16x1024 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).1)

/-- The run's pieces for output 15 tile its block (4 stores of `S1x16x256`, checked by the kernel's evaluation: Lib/Ring.lean `Piece.tiledL`, linear in the pieces, through a loop's `@[irreducible]` trip theorem too), so they cover it. -/
theorem cover0_A_15 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) (y : S1x16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.1 S1x16x256.size (by sl_kernel_rfl) y

/-- What the run leaves in output 15's staging buffer: its pieces read back over junk. -/
def out0_A_15 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) : Vec F S1x16x1024 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.1)

/-- The run's pieces for output 16 tile its block (1 store of `S1x128x128`, checked by the kernel's evaluation: Lib/Ring.lean `Piece.tiledL`, linear in the pieces, through a loop's `@[irreducible]` trip theorem too), so they cover it. -/
theorem cover0_A_16 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) (y : S1x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.1 S1x128x128.size (by sl_kernel_rfl) y

/-- What the run leaves in output 16's staging buffer: its pieces read back over junk. -/
def out0_A_16 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) : Vec F S1x128x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.1)

/-- The run's pieces for output 17 tile its block (1 store of `S1x128x128`, checked by the kernel's evaluation: Lib/Ring.lean `Piece.tiledL`, linear in the pieces, through a loop's `@[irreducible]` trip theorem too), so they cover it. -/
theorem cover0_A_17 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) (y : S1x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.1 S1x128x128.size (by sl_kernel_rfl) y

/-- What the run leaves in output 17's staging buffer: its pieces read back over junk. -/
def out0_A_17 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) : Vec F S1x128x128 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.1)

/-- The run's pieces for output 18 tile its block (1 store of `S1x15x1024`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) (y : S1x15x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.2.1 S1x15x1024.size (by sl_kernel_rfl) y

/-- What the run leaves in output 18's staging buffer: its pieces read back over junk. -/
def out0_A_18 (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
    (x0 : Vec F S1x16x2048 .f32) (x1 : Vec F S1x2048 .f32) (x2 : Vec F S2048x2304 .bf16) (x3 : Vec F S1x1152 .f32) (x4 : Vec F S2x128x1 .f32) (x5 : Vec F S16x128 .f32) (x6 : Vec F S16x128 .f32) (x7 : Vec F S1x128x128 .f32) (x8 : Vec F S1x128x128 .f32) (x9 : Vec F S1x16x1024 .f32) (x10 : Vec F S1152x128 .bf16) (x11 : Vec F S128x1152 .bf16) (x12 : Vec F S4x256x256 .bf16) (x13 : Vec F S1x1024 .f32) : Vec F S1x15x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x16x1024 .bf16 × Vec F S1x16x1024 .bf16 × Vec F S1x128x128 .f32 × Vec F S1x128x128 .f32 × Vec F S1x15x1024 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  unfold outsAt0
  unfold out0_A_14 out0_A_15 out0_A_16 out0_A_17 out0_A_18; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.KI.Value.lean ====
/- What each result array of `KernelIdeal` holds after the launch, block by block. The text is the generated module's of
   the same name over the frame in `KI/Frame.lean`. -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 14's array: the run's contents for that window after the body (`Gen.outsAt0`: its component 0), read through the window's block. -/
theorem flushed14 (c : Dev nD) (t : Fin cfg0.N) :
    (dats m 0 c).flushed 14 t = (cfg0.win 14).cut (grid0.coords t) ((outsAt0 m c t).1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — the kernel's one case, `Gen.outsAt0` by definition. -/
theorem flushed14_A (c : Dev nD) (t : Fin cfg0.N) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed14, outsAt0]

/-- The index map sends distinct grid points to distinct block indices (decided over the 8 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S8x16x1024.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 1), read through the window's block. -/
theorem flushed15 (c : Dev nD) (t : Fin cfg0.N) :
    (dats m 0 c).flushed 15 t = (cfg0.win 15).cut (grid0.coords t) ((outsAt0 m c t).2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — the kernel's one case, `Gen.outsAt0` by definition. -/
theorem flushed15_A (c : Dev nD) (t : Fin cfg0.N) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed15, outsAt0]

/-- The index map sends distinct grid points to distinct block indices (decided over the 8 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S8x16x1024.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 2), read through the window's block. -/
theorem flushed16 (c : Dev nD) (t : Fin cfg0.N) :
    (dats m 0 c).flushed 16 t = (cfg0.win 16).cut (grid0.coords t) ((outsAt0 m c t).2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — the kernel's one case, `Gen.outsAt0` by definition. -/
theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed16, outsAt0]

/-- The index map sends distinct grid points to distinct block indices (decided over the 8 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S8x128x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 3), read through the window's block. -/
theorem flushed17 (c : Dev nD) (t : Fin cfg0.N) :
    (dats m 0 c).flushed 17 t = (cfg0.win 17).cut (grid0.coords t) ((outsAt0 m c t).2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — the kernel's one case, `Gen.outsAt0` by definition. -/
theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed17, outsAt0]

/-- The index map sends distinct grid points to distinct block indices (decided over the 8 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S8x128x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 4), read through the window's block. -/
theorem flushed18 (c : Dev nD) (t : Fin cfg0.N) :
    (dats m 0 c).flushed 18 t = (cfg0.win 18).cut (grid0.coords t) ((outsAt0 m c t).2.2.2.2) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  simp only [flushed18, outsAt0]

/-- The index map sends distinct grid points to distinct block indices (decided over the 8 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S8x15x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v75_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v75_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v75_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v75_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v75_4) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v75_0) = (dats m 0 c).arrAt 14 cfg0.N
      ∧ r.2.mem ((c : Thread nD τ).loc main_v75_1) = (dats m 0 c).arrAt 15 cfg0.N
      ∧ r.2.mem ((c : Thread nD τ).loc main_v75_2) = (dats m 0 c).arrAt 16 cfg0.N
      ∧ r.2.mem ((c : Thread nD τ).loc main_v75_3) = (dats m 0 c).arrAt 17 cfg0.N
      ∧ r.2.mem ((c : Thread nD τ).loc main_v75_4) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Value

end
-- ==== Proof.KI.Pay.lean ====
/-
  What one block of the kernel computes, entry by entry: the projection, the head norms, the rotation.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

/-! What one block's arguments give: `x0` the rows, `x1` the norm's weights, `x2` the projection, `x3` the head norms'
weights, `x4` the sinks, `x5` and `x6` the tables of cosines and sines, `x7` and `x8` the cached keys and values, `x9`
the history, `x10` and `x11` the head of a lane and its transpose, `x12` and `x13` the pooling's product and scale. -/

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)

/-- The block's projection. -/
def ZB (t : Fin 16) (n : Fin 2304) : EReal :=
  proj (fun x => x0 (ix3 0 t x)) (fun x => x1 (ix2 0 x)) (fun x => x2 (ix2 x n))

/-- The head norms' factors, one to each head number. -/
def RB (t : Fin 16) (n : Fin 128) : EReal :=
  Ideal.rsqrt ((∑ c : Fin 1152, ZB x0 x1 x2 t ⟨c.val, by omega⟩ * ZB x0 x1 x2 t ⟨c.val, by omega⟩ * x10 (ix2 c n))
    * Ideal.ofBits .f32 0x3C800000#32 + Ideal.ofBits .f32 0x3727C5AC#32)

/-- The queries and the keys, normed and weighted. -/
def QB (t : Fin 16) (n : Fin 1152) : EReal :=
  ZB x0 x1 x2 t ⟨n.val, by omega⟩
    * (∑ x : Fin 128, RB x0 x1 x2 x10 t x * x11 (ix2 x n)
      + ∑ x : Fin 128, (RB x0 x1 x2 x10 t x - RB x0 x1 x2 x10 t x) * x11 (ix2 x n)) * x3 (ix2 0 n)

/-- Lane `l` of block `k` of 128 lanes, rotated by the tables. -/
def rotL (Q : Fin 1152 → EReal) (C S : Fin 128 → EReal) (k : Fin 9) (l : Fin 128) : EReal :=
  Q ⟨128 * k.val + l.val, by omega⟩ * C l
    + (if l.val % 64 < 8 then Q ⟨128 * k.val + (l.val + 8) % 128, by omega⟩
       else Q ⟨128 * k.val + (l.val + 120) % 128, by omega⟩) * S l

/-- The queries and the keys, rotated. -/
def ROT (t : Fin 16) (c : Fin 1152) : EReal :=
  rotL (QB x0 x1 x2 x3 x10 x11 t) (fun l => x5 (ix2 t l)) (fun l => x6 (ix2 t l)) ⟨c.val / 128, by omega⟩ ⟨c.val % 128, by omega⟩

/-- The attention of one head as the kernel writes it: the weighted sum, then the division. -/
def kattend (s : Fin 144 → EReal) (k : EReal) (v : Fin 144 → EReal) : EReal :=
  Ideal.div (∑ j, Ideal.exp (s j - top s k) * v j) (denom s k)

theorem pay7_at (t : Fin 16) (n : Fin 2304) : k0_pay7 (F := Ideal) x0 x1 x2 (ix2 t n) = ZB x0 x1 x2 t n := by
  pointwise [k0_pay7]
  rfl
theorem pay8_at (t : Fin 16) (n : Fin 1152) : k0_pay8 (F := Ideal) x0 x1 x2 (ix2 t n) = ZB x0 x1 x2 t ⟨n.val, by omega⟩ := by
  pointwise [k0_pay8]
  simp only [pay7_at]
  try simp only [Nat.zero_add]
theorem pay9_at (t : Fin 16) (n : Fin 128) : k0_pay9 (F := Ideal) x0 x1 x2 (ix2 t n) = ZB x0 x1 x2 t ⟨1152 + n.val, by omega⟩ := by
  pointwise [k0_pay9]
  simp only [pay7_at]
theorem pay10_at (t : Fin 16) (n : Fin 1024) : k0_pay10 (F := Ideal) x0 x1 x2 (ix2 t n) = ZB x0 x1 x2 t ⟨1280 + n.val, by omega⟩ := by
  pointwise [k0_pay10]
  simp only [pay7_at]
theorem pay13_at (t : Fin 16) (l : Fin 128) : k0_pay13 (F := Ideal) x5 (ix2 t l) = x5 (ix2 t l) := by
  pointwise [k0_pay13]
theorem pay14_at (t : Fin 16) (l : Fin 128) : k0_pay14 (F := Ideal) x6 (ix2 t l) = x6 (ix2 t l) := by
  pointwise [k0_pay14]
theorem pay11_at (t : Fin 16) (n : Fin 128) : k0_pay11 (F := Ideal) x0 x1 x2 x10 (ix2 t n) = RB x0 x1 x2 x10 t n := by
  pointwise [k0_pay11]
  simp only [pay8_at]
  rfl
theorem pay12_at (t : Fin 16) (n : Fin 1152) :
    k0_pay12 (F := Ideal) (k0_pay8 x0 x1 x2) (k0_pay11 x0 x1 x2 x10) x11 x3 (ix2 t n) = QB x0 x1 x2 x3 x10 x11 t n := by
  pointwise [k0_pay12]
  simp only [pay8_at, pay11_at]
  rfl

/-- The mask of the lanes in the lower half of a rotation. -/
theorem pay15_at (t : Fin 16) (l : Fin 128) : k0_pay15 (ix2 t l) = BitVec.ofBool (decide (l.val % 64 < 8)) := by
  pointwise [k0_pay15]
  revert l; decide +kernel

theorem rotL_of (Q : Fin 1152 → EReal) (C S : Fin 128 → EReal) (k : Fin 9) (l : Fin 128) : rotL Q C S k l
    = Q ⟨128 * k.val + l.val, by omega⟩ * C l
    + Scalar.select (BitVec.ofBool (decide (l.val % 64 < 8))) (Q ⟨128 * k.val + (l.val + 128 - 120) % 128, by omega⟩)
       (Q ⟨128 * k.val + (l.val + 128 - 8) % 128, by omega⟩) * S l := by
  have e1 : (l.val + 128 - 120) % 128 = (l.val + 8) % 128 := by omega
  have e2 : (l.val + 128 - 8) % 128 = (l.val + 120) % 128 := by omega
  unfold rotL
  refine congrArg₂ (· + ·) rfl (congrArg₂ (· * ·) ?_ rfl)
  simp only [e1, e2]
  by_cases h : l.val % 64 < 8
  · rw [if_pos h, decide_eq_true h]; rfl
  · rw [if_neg h, decide_eq_false h]; rfl

theorem rot1_at (v : FVec Ideal S16x1152 .f32) (c s : FVec Ideal S16x128 .f32) (t : Fin 16) (l : Fin 128) :
    k0_pay17 (F := Ideal) v c s k0_pay15 (ix2 t l)
      = rotL (fun n => v (ix2 t n)) (fun l => c (ix2 t l)) (fun l => s (ix2 t l)) 1 l := by
  pointwise [k0_pay17]
  simp only [pay15_at]
  rw [rotL_of (fun n => v (ix2 t n)) (fun l => c (ix2 t l)) (fun l => s (ix2 t l)) 1 l]
  rfl

theorem rot2_at (v : FVec Ideal S16x1152 .f32) (c s : FVec Ideal S16x128 .f32) (t : Fin 16) (l : Fin 128) :
    k0_pay18 (F := Ideal) v c s k0_pay15 (ix2 t l)
      = rotL (fun n => v (ix2 t n)) (fun l => c (ix2 t l)) (fun l => s (ix2 t l)) 2 l := by
  pointwise [k0_pay18]
  simp only [pay15_at]
  rw [rotL_of (fun n => v (ix2 t n)) (fun l => c (ix2 t l)) (fun l => s (ix2 t l)) 2 l]
  rfl

theorem rot3_at (v : FVec Ideal S16x1152 .f32) (c s : FVec Ideal S16x128 .f32) (t : Fin 16) (l : Fin 128) :
    k0_pay19 (F := Ideal) v c s k0_pay15 (ix2 t l)
      = rotL (fun n => v (ix2 t n)) (fun l => c (ix2 t l)) (fun l => s (ix2 t l)) 3 l := by
  pointwise [k0_pay19]
  simp only [pay15_at]
  rw [rotL_of (fun n => v (ix2 t n)) (fun l => c (ix2 t l)) (fun l => s (ix2 t l)) 3 l]
  rfl

theorem rot4_at (v : FVec Ideal S16x1152 .f32) (c s : FVec Ideal S16x128 .f32) (t : Fin 16) (l : Fin 128) :
    k0_pay20 (F := Ideal) v c s k0_pay15 (ix2 t l)
      = rotL (fun n => v (ix2 t n)) (fun l => c (ix2 t l)) (fun l => s (ix2 t l)) 4 l := by
  pointwise [k0_pay20]
  simp only [pay15_at]
  rw [rotL_of (fun n => v (ix2 t n)) (fun l => c (ix2 t l)) (fun l => s (ix2 t l)) 4 l]
  rfl

theorem rot5_at (v : FVec Ideal S16x1152 .f32) (c s : FVec Ideal S16x128 .f32) (t : Fin 16) (l : Fin 128) :
    k0_pay21 (F := Ideal) v c s k0_pay15 (ix2 t l)
      = rotL (fun n => v (ix2 t n)) (fun l => c (ix2 t l)) (fun l => s (ix2 t l)) 5 l := by
  pointwise [k0_pay21]
  simp only [pay15_at]
  rw [rotL_of (fun n => v (ix2 t n)) (fun l => c (ix2 t l)) (fun l => s (ix2 t l)) 5 l]
  rfl

theorem rot6_at (v : FVec Ideal S16x1152 .f32) (c s : FVec Ideal S16x128 .f32) (t : Fin 16) (l : Fin 128) :
    k0_pay22 (F := Ideal) v c s k0_pay15 (ix2 t l)
      = rotL (fun n => v (ix2 t n)) (fun l => c (ix2 t l)) (fun l => s (ix2 t l)) 6 l := by
  pointwise [k0_pay22]
  simp only [pay15_at]
  rw [rotL_of (fun n => v (ix2 t n)) (fun l => c (ix2 t l)) (fun l => s (ix2 t l)) 6 l]
  rfl

theorem rot7_at (v : FVec Ideal S16x1152 .f32) (c s : FVec Ideal S16x128 .f32) (t : Fin 16) (l : Fin 128) :
    k0_pay25 (F := Ideal) c s (k0_pay23 v) (k0_pay24 v k0_pay15) (ix2 t l)
      = rotL (fun n => v (ix2 t n)) (fun l => c (ix2 t l)) (fun l => s (ix2 t l)) 7 l := by
  pointwise [k0_pay25, k0_pay23, k0_pay24]
  simp only [pay15_at]
  rw [rotL_of (fun n => v (ix2 t n)) (fun l => c (ix2 t l)) (fun l => s (ix2 t l)) 7 l]
  rfl

theorem rot8_at (v : FVec Ideal S16x1152 .f32) (c s : FVec Ideal S16x128 .f32) (t : Fin 16) (l : Fin 128) :
    k0_pay26 (F := Ideal) v c s k0_pay15 (ix2 t l)
      = rotL (fun n => v (ix2 t n)) (fun l => c (ix2 t l)) (fun l => s (ix2 t l)) 8 l := by
  pointwise [k0_pay26]
  simp only [pay15_at]
  rw [rotL_of (fun n => v (ix2 t n)) (fun l => c (ix2 t l)) (fun l => s (ix2 t l)) 8 l]
  rfl

theorem rot0_at (t : Fin 16) (l : Fin 128) :
    k0_pay16 (F := Ideal) (k0_pay8 x0 x1 x2) (k0_pay11 x0 x1 x2 x10) x11 x3 x5 x6 (ix2 t l)
      = rotL (QB x0 x1 x2 x3 x10 x11 t) (fun l => x5 (ix2 t l)) (fun l => x6 (ix2 t l)) 0 l := by
  pointwise [k0_pay16]
  simp only [pay15_at, pay12_at, pay13_at, pay14_at]
  rw [rotL_of]
  have e : ∀ i : ℕ, 128 * ((0 : Fin 9) : ℕ) + i = i := fun i => by simp
  simp only [e]

/-- The rotated blocks read the block's tables. -/
theorem rot_ROT (t : Fin 16) (k : Fin 9) (l : Fin 128) :
    rotL (fun n => k0_pay12 (F := Ideal) (k0_pay8 x0 x1 x2) (k0_pay11 x0 x1 x2 x10) x11 x3 (ix2 t n))
      (fun l => k0_pay13 (F := Ideal) x5 (ix2 t l)) (fun l => k0_pay14 (F := Ideal) x6 (ix2 t l)) k l
      = ROT x0 x1 x2 x3 x5 x6 x10 x11 t ⟨128 * k.val + l.val, by omega⟩ := by
  simp only [pay12_at, pay13_at, pay14_at]
  unfold ROT
  refine congrArg₂ _ (Fin.ext ?_) (Fin.ext ?_)
  · show k.val = (128 * k.val + l.val) / 128; omega
  · show l.val = (128 * k.val + l.val) % 128; omega
theorem rot0_ROT (t : Fin 16) (l : Fin 128) :
    k0_pay16 (F := Ideal) (k0_pay8 x0 x1 x2) (k0_pay11 x0 x1 x2 x10) x11 x3 x5 x6 (ix2 t l)
      = ROT x0 x1 x2 x3 x5 x6 x10 x11 t ⟨l.val, by omega⟩ := by
  rw [rot0_at]
  unfold ROT
  refine congrArg₂ _ (Fin.ext ?_) (Fin.ext ?_)
  · show 0 = l.val / 128; omega
  · show l.val = l.val % 128; omega

/-! The attention of one group of heads: 128 rows, 16 tokens to a head. -/

/-- Row `r` of the stacked queries: token `r % 16` of head `r / 16`, out of four blocks of two heads. -/
def stack (a b c d : FVec Ideal S16x128 .f32) (r : Fin 128) (x : Fin 64) : EReal :=
  if h0 : r.val < 16 then a (ix2 ⟨r.val, by omega⟩ ⟨x.val, by omega⟩)
    else if h1 : r.val - 16 < 16 then a (ix2 ⟨r.val - 16, by omega⟩ ⟨64 + x.val, by omega⟩)
    else if h2 : r.val - 16 - 16 < 16 then b (ix2 ⟨r.val - 16 - 16, by omega⟩ ⟨x.val, by omega⟩)
    else if h3 : r.val - 16 - 16 - 16 < 16 then b (ix2 ⟨r.val - 16 - 16 - 16, by omega⟩ ⟨64 + x.val, by omega⟩)
    else if h4 : r.val - 16 - 16 - 16 - 16 < 16 then c (ix2 ⟨r.val - 16 - 16 - 16 - 16, by omega⟩ ⟨x.val, by omega⟩)
    else if h5 : r.val - 16 - 16 - 16 - 16 - 16 < 16 then c (ix2 ⟨r.val - 16 - 16 - 16 - 16 - 16, by omega⟩ ⟨64 + x.val, by omega⟩)
    else if h6 : r.val - 16 - 16 - 16 - 16 - 16 - 16 < 16 then d (ix2 ⟨r.val - 16 - 16 - 16 - 16 - 16 - 16, by omega⟩ ⟨x.val, by omega⟩)
    else d (ix2 ⟨r.val - 16 - 16 - 16 - 16 - 16 - 16 - 16, by omega⟩ ⟨64 + x.val, by omega⟩)

theorem stack_at (R : Fin 16 → Fin 512 → EReal) (a b c d : FVec Ideal S16x128 .f32)
    (ha : ∀ t l, a (ix2 t l) = R t ⟨l.val, by omega⟩) (hb : ∀ t l, b (ix2 t l) = R t ⟨128 + l.val, by omega⟩)
    (hc : ∀ t l, c (ix2 t l) = R t ⟨256 + l.val, by omega⟩) (hd : ∀ t l, d (ix2 t l) = R t ⟨384 + l.val, by omega⟩)
    (r : Fin 128) (x : Fin 64) : stack a b c d r x = R ⟨r.val % 16, by omega⟩ ⟨64 * (r.val / 16) + x.val, by omega⟩ := by
  have key : ∀ (t : Fin 16) (l : Fin 512), t.val = r.val % 16 → l.val = 64 * (r.val / 16) + x.val →
      R t l = R ⟨r.val % 16, by omega⟩ ⟨64 * (r.val / 16) + x.val, by omega⟩ :=
    fun t l h1 h2 => congrArg₂ R (Fin.ext h1) (Fin.ext h2)
  unfold stack
  simp only [ha, hb, hc, hd]
  split_ifs <;> exact key _ _ (by simp only; omega) (by simp only; omega)

theorem pay32_at (a b c d : FVec Ideal S16x128 .f32) (kb : FVec Ideal S144x128 .f32)
    (r : Fin 128) (n : Fin 144) : k0_pay32 (F := Ideal) a b c d kb (ix2 r n)
      = ∑ x : Fin 64, stack a b c d r x * kb (ix2 n ⟨x.val, by omega⟩) := by
  pointwise [k0_pay32, k0_pay29]
  rfl
theorem pay44_at (a b c d : FVec Ideal S16x128 .f32) (kb : FVec Ideal S144x128 .f32)
    (r : Fin 128) (n : Fin 144) : k0_pay44 (F := Ideal) a b c d (k0_pay29 kb) (ix2 r n)
      = ∑ x : Fin 64, stack a b c d r x * kb (ix2 n ⟨64 + x.val, by omega⟩) := by
  pointwise [k0_pay44, k0_pay29]
  rfl

theorem pay33_at (v : FVec Ideal S144x64 .bf16) (s : FVec Ideal S128x144 .f32) (k : Vec Ideal S1x128x1 .f32)
    (r : Fin 128) (d : Fin 64) : k0_pay33 (F := Ideal) v s k (ix2 r d)
      = kattend (fun j => s (ix2 r j)) (k (ix3 0 r 0)) (fun j => v (ix2 j d)) := by
  pointwise [k0_pay33]
  rfl

/-- The second group's attention, in the pieces the kernel cuts it into. -/
theorem pay49_at (v : FVec Ideal S144x64 .bf16) (a b c d : FVec Ideal S16x128 .f32) (kb : FVec Ideal S144x128 .bf16) (k : Vec Ideal S1x128x1 .f32)
    (r : Fin 128) (n : Fin 64) :
    k0_pay49 (F := Ideal) v (k0_pay45 k) (k0_pay46 a b c d kb k) (k0_pay47 a b c d kb k) (k0_pay48 a b c d kb k) (ix2 r n)
      = kattend (fun j => k0_pay44 a b c d kb (ix2 r j)) (k (ix3 0 r 0)) (fun j => v (ix2 j n)) := by
  pointwise [k0_pay49, k0_pay45, k0_pay46, k0_pay47, k0_pay48]
  rfl

theorem pay31_at (v : Vec Ideal S144x128 .f32) (j : Fin 144) (d : Fin 64) : k0_pay31 (F := Ideal) v (ix2 j d) = v (ix2 j ⟨d.val, by omega⟩) := by
  pointwise [k0_pay31, k0_pay30]
theorem pay43_at (v : Vec Ideal S144x128 .f32) (j : Fin 144) (d : Fin 64) :
    k0_pay43 (F := Ideal) (k0_pay30 v) (ix2 j d) = v (ix2 j ⟨64 + d.val, by omega⟩) := by
  pointwise [k0_pay43, k0_pay30]

end Cert.KernelIdeal.Front
-- ==== Proof.KI.Buf.lean ====
/-
  The kernel's three buffers (keys, values, pooling rows) as its loads find them.
-/
module

public import proofs.«01_k».proof.Proof.KI.Value
public import proofs.«01_k».proof.Proof.KI.Pay

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)

/-- The buffer of keys: the cached ones, then the rotated new ones. -/
def KB (j : Fin 144) (l : Fin 128) : EReal :=
  if h : j.val < 128 then x7 (ix3 0 ⟨j.val, h⟩ l) else ROT x0 x1 x2 x3 x5 x6 x10 x11 ⟨j.val - 128, by omega⟩ ⟨1024 + l.val, by omega⟩
/-- The buffer of values: the cached ones, then the new ones. -/
def VB (j : Fin 144) (l : Fin 128) : EReal :=
  if h : j.val < 128 then x8 (ix3 0 ⟨j.val, h⟩ l) else ZB x0 x1 x2 ⟨j.val - 128, by omega⟩ ⟨1152 + l.val, by omega⟩
/-- The buffer of the pooling's rows: the 16 rows of history, then the new ones. -/
def UB (r : Fin 32) (c : Fin 1024) : EReal :=
  if h : r.val < 16 then x9 (ix3 0 ⟨r.val, h⟩ c) else ZB x0 x1 x2 ⟨r.val - 16, by omega⟩ ⟨1280 + c.val, by omega⟩

theorem pay4_at (j l : Fin 128) : k0_pay4 (F := Ideal) x7 (ix2 j l) = x7 (ix3 0 j l) := by
  pointwise [k0_pay4]
theorem pay5_at (j l : Fin 128) : k0_pay5 (F := Ideal) x8 (ix2 j l) = x8 (ix3 0 j l) := by
  pointwise [k0_pay5]
theorem pay6_at (j : Fin 16) (l : Fin 1024) : k0_pay6 (F := Ideal) x9 (ix2 j l) = x9 (ix3 0 j l) := by
  pointwise [k0_pay6]
theorem pay27_at (j : Fin 16) (l : Fin 128) : k0_pay27 (F := Ideal) (k0_pay9 x0 x1 x2) (ix2 j l) = ZB x0 x1 x2 j ⟨1152 + l.val, by omega⟩ := by
  pointwise [k0_pay27]
  rw [pay9_at]
theorem pay28_at (j : Fin 16) (l : Fin 1024) : k0_pay28 (F := Ideal) (k0_pay10 x0 x1 x2) (ix2 j l) = ZB x0 x1 x2 j ⟨1280 + l.val, by omega⟩ := by
  pointwise [k0_pay28]
  rw [pay10_at]

/-- Two stores, one above the other, fill a buffer: an entry below `n` is the first store's, the others the second's. -/
theorem canon_two {N C n k : ℕ} (hN : n + k = N) (A : (⟨2, ![k, C]⟩ : Shape).Idx → EReal) (B : (⟨2, ![n, C]⟩ : Shape).Idx → EReal)
    (G : Fin N → Fin C → EReal)
    (inbA : ∀ a, (![n, 0] : Fin 2 → ℕ) a + (![k, C] : Fin 2 → ℕ) a ≤ (⟨2, ![N, C]⟩ : Shape).size a)
    (inbB : ∀ a, (![0, 0] : Fin 2 → ℕ) a + (![n, C] : Fin 2 → ℕ) a ≤ (⟨2, ![N, C]⟩ : Shape).size a)
    (hA : ∀ (i : Fin k) l, A (ix2 i l) = G ⟨n + i.val, by omega⟩ l) (hB : ∀ (i : Fin n) l, B (ix2 i l) = G ⟨i.val, by omega⟩ l)
    (j : Fin N) (l : Fin C) :
    View.canon (Val := Elt Ideal) (s := ⟨2, ![N, C]⟩) (e := .f32) [⟨Rect.unit ![n, 0] ![k, C] inbA, A⟩, ⟨Rect.unit ![0, 0] ![n, C] inbB, B⟩] (ix2 j l) = G j l := by
  refine View.canon_apply_of_pieces (Val := Elt Ideal) (S := ⟨2, ![N, C]⟩) (e := .f32) (fun y => G (y 0) (y 1)) _ ?_ _ ?_
  · intro p hp
    simp only [List.mem_cons, List.mem_nil_iff, or_false] at hp
    rcases hp with rfl | rfl
    · intro x
      rw [eq_ix2 x]
      refine (hA (x 0) (x 1)).trans (congrArg₂ G (Fin.ext ?_) (Fin.ext ?_))
      · show n + (x 0).val = n + 1 * (x 0).val; omega
      · show (x 1).val = 0 + 1 * (x 1).val; omega
    · intro x
      rw [eq_ix2 x]
      refine (hB (x 0) (x 1)).trans (congrArg₂ G (Fin.ext ?_) (Fin.ext ?_))
      · show (x 0).val = 0 + 1 * (x 0).val; omega
      · show (x 1).val = 0 + 1 * (x 1).val; omega
  · by_cases h : j.val < n
    · refine ⟨_, List.mem_cons_of_mem _ (List.mem_singleton.2 rfl), ?_⟩
      rw [Rect.mem_set_unit]
      intro a
      match a with
      | ⟨0, _⟩ => exact ⟨Nat.zero_le _, by show j.val < 0 + n; omega⟩
      | ⟨1, _⟩ => exact ⟨Nat.zero_le _, by show l.val < 0 + C; omega⟩
    · refine ⟨_, List.mem_cons_self, ?_⟩
      rw [Rect.mem_set_unit]
      intro a
      match a with
      | ⟨0, _⟩ => exact ⟨by show n ≤ j.val; omega, by show j.val < n + k; omega⟩
      | ⟨1, _⟩ => exact ⟨Nat.zero_le _, by show l.val < 0 + C; omega⟩

/-- A load of part of a buffer so filled. -/
theorem readCov_two {N C n k p q : ℕ} (hN : n + k = N) {sp : Space} (v : View sig .tc sp ⟨2, ![N, C]⟩ .f32) (A : (⟨2, ![k, C]⟩ : Shape).Idx → EReal)
    (B : (⟨2, ![n, C]⟩ : Shape).Idx → EReal) (G : Fin N → Fin C → EReal)
    (inbA : ∀ a, (![n, 0] : Fin 2 → ℕ) a + (![k, C] : Fin 2 → ℕ) a ≤ (⟨2, ![N, C]⟩ : Shape).size a)
    (inbB : ∀ a, (![0, 0] : Fin 2 → ℕ) a + (![n, C] : Fin 2 → ℕ) a ≤ (⟨2, ![N, C]⟩ : Shape).size a)
    (hA : ∀ (i : Fin k) l, A (ix2 i l) = G ⟨n + i.val, by omega⟩ l) (hB : ∀ (i : Fin n) l, B (ix2 i l) = G ⟨i.val, by omega⟩ l)
    (r c : ℕ) (inb : ∀ a, (![r, c] : Fin 2 → ℕ) a + (![p, q] : Fin 2 → ℕ) a ≤ (⟨2, ![N, C]⟩ : Shape).size a)
    (i : Fin p) (l : Fin q) (hr : r + i.val < N) (hc : c + l.val < C) :
    (v.readCov (Val := Elt Ideal) [⟨Rect.unit ![n, 0] ![k, C] inbA, A⟩, ⟨Rect.unit ![0, 0] ![n, C] inbB, B⟩]
      (Rect.toLoadRect (Rect.unit (s := ⟨2, ![N, C]⟩) ![r, c] ![p, q] inb)) : (⟨2, ![p, q]⟩ : Shape).Idx → EReal) (ix2 i l) = G ⟨r + i.val, hr⟩ ⟨c + l.val, hc⟩ := by
  rw [View.readCov_eq_canon']
  refine Eq.trans (congrArg _ ?_) (canon_two hN A B G inbA inbB hA hB ⟨r + i.val, hr⟩ ⟨c + l.val, hc⟩)
  refine funext fun a => Fin.ext ?_
  match a with
  | ⟨0, _⟩ => show r + 1 * i.val = r + i.val; omega
  | ⟨1, _⟩ => show c + 1 * l.val = c + l.val; omega

/-- What the kernel loads from its three buffers. -/
theorem kbuf_at {sp : Space} (v : View sig .tc sp S144x128 .f32) {p q : ℕ} (r c : ℕ) (inb : ∀ a, (![r, c] : Fin 2 → ℕ) a + (![p, q] : Fin 2 → ℕ) a ≤ S144x128.size a)
    (i : Fin p) (l : Fin q) (hr : r + i.val < 144) (hc : c + l.val < 128) :
    (v.readCov (Val := Elt Ideal) [⟨Rect.unit ![128, 0] ![16, 128] inb_S144x128_S16x128_128_0,
        k0_pay26 (k0_pay12 (k0_pay8 x0 x1 x2) (k0_pay11 x0 x1 x2 x10) x11 x3) (k0_pay13 x5) (k0_pay14 x6) k0_pay15⟩,
        ⟨Rect.unit ![0, 0] ![128, 128] inb_S144x128_S128x128_0_0, k0_pay4 x7⟩]
      (Rect.toLoadRect (Rect.unit (s := S144x128) ![r, c] ![p, q] inb)) : (⟨2, ![p, q]⟩ : Shape).Idx → EReal) (ix2 i l) = KB x0 x1 x2 x3 x5 x6 x7 x10 x11 ⟨r + i.val, hr⟩ ⟨c + l.val, hc⟩ := by
  refine readCov_two (N := 144) (n := 128) (k := 16) (C := 128) (by rfl) v _ _ (KB x0 x1 x2 x3 x5 x6 x7 x10 x11) _ _ (fun i l => ?_) (fun i l => ?_) r c inb i l hr hc
  · rw [rot8_at, rot_ROT, KB, dif_neg (by simp)]
    exact congrArg₂ _ (Fin.ext (by simp)) (Fin.ext (by simp))
  · rw [pay4_at, KB, dif_pos i.isLt]
theorem vbuf_at {sp : Space} (v : View sig .tc sp S144x128 .f32) {p q : ℕ} (r c : ℕ) (inb : ∀ a, (![r, c] : Fin 2 → ℕ) a + (![p, q] : Fin 2 → ℕ) a ≤ S144x128.size a)
    (i : Fin p) (l : Fin q) (hr : r + i.val < 144) (hc : c + l.val < 128) :
    (v.readCov (Val := Elt Ideal) [⟨Rect.unit ![128, 0] ![16, 128] inb_S144x128_S16x128_128_0, k0_pay27 (k0_pay9 x0 x1 x2)⟩,
        ⟨Rect.unit ![0, 0] ![128, 128] inb_S144x128_S128x128_0_0, k0_pay5 x8⟩]
      (Rect.toLoadRect (Rect.unit (s := S144x128) ![r, c] ![p, q] inb)) : (⟨2, ![p, q]⟩ : Shape).Idx → EReal) (ix2 i l) = VB x0 x1 x2 x8 ⟨r + i.val, hr⟩ ⟨c + l.val, hc⟩ := by
  refine readCov_two (N := 144) (n := 128) (k := 16) (C := 128) (by rfl) v _ _ (VB x0 x1 x2 x8) _ _ (fun i l => ?_) (fun i l => ?_) r c inb i l hr hc
  · rw [pay27_at, VB, dif_neg (by simp)]
    exact congrArg₂ _ (Fin.ext (by simp)) rfl
  · rw [pay5_at, VB, dif_pos i.isLt]
theorem ubuf_at {sp : Space} (v : View sig .tc sp S32x1024 .f32) {p q : ℕ} (r c : ℕ) (inb : ∀ a, (![r, c] : Fin 2 → ℕ) a + (![p, q] : Fin 2 → ℕ) a ≤ S32x1024.size a)
    (i : Fin p) (l : Fin q) (hr : r + i.val < 32) (hc : c + l.val < 1024) :
    (v.readCov (Val := Elt Ideal) [⟨Rect.unit ![16, 0] ![16, 1024] inb_S32x1024_S16x1024_16_0, k0_pay28 (k0_pay10 x0 x1 x2)⟩,
        ⟨Rect.unit ![0, 0] ![16, 1024] inb_S32x1024_S16x1024_0_0, k0_pay6 x9⟩]
      (Rect.toLoadRect (Rect.unit (s := S32x1024) ![r, c] ![p, q] inb)) : (⟨2, ![p, q]⟩ : Shape).Idx → EReal) (ix2 i l) = UB x0 x1 x2 x9 ⟨r + i.val, hr⟩ ⟨c + l.val, hc⟩ := by
  refine readCov_two (N := 32) (n := 16) (k := 16) (C := 1024) (by rfl) v _ _ (UB x0 x1 x2 x9) _ _ (fun i l => ?_) (fun i l => ?_) r c inb i l hr hc
  · rw [pay28_at, UB, dif_neg (by simp)]
    exact congrArg₂ _ (Fin.ext (by simp)) rfl
  · rw [pay6_at, UB, dif_pos i.isLt]

end Cert.KernelIdeal.Front
-- ==== Proof.KI.IsBlock.lean ====
/-
  What the blocks of one sample hold, in terms of the arguments.
-/
module

public import proofs.«01_k».proof.Proof.KI.Buf

@[expose] public section

noncomputable section

namespace Cert.KernelIdeal.Front

open Idealize.ShloMosaic Idealize.ShloMosaic.Pointwise Cert.KernelIdeal Cert.KernelIdeal.Gen Cert.Front

/-- The fourteen blocks are those of sample `b`. -/
structure IsBlock (X0 : Arr Sx) (X1 X2 : Arr Sc) (X3 : Arr Sp) (X4 : Arr Sg) (X5 : Arr Sw) (X6 X7 : Arr Sh) (X8 : Arr Ss)
    (X9 : Arr Swp) (X10 : Arr Sps) (b : Fin 8)
    (x0 : Vec Ideal S1x16x2048 .f32) (x1 : Vec Ideal S1x2048 .f32) (x2 : Vec Ideal S2048x2304 .bf16)
    (x3 : Vec Ideal S1x1152 .f32) (x4 : Vec Ideal S2x128x1 .f32) (x5 x6 : Vec Ideal S16x128 .f32)
    (x7 x8 : Vec Ideal S1x128x128 .f32) (x9 : Vec Ideal S1x16x1024 .f32) (x10 : Vec Ideal S1152x128 .bf16)
    (x11 : Vec Ideal S128x1152 .bf16) (x12 : Vec Ideal S4x256x256 .bf16) (x13 : Vec Ideal S1x1024 .f32) : Prop where
  h0 : ∀ t x, x0 (ix3 0 t x) = X0 (ix3 b t x)
  h1 : ∀ x, x1 (ix2 0 x) = X4 (ix2 0 x)
  h2 : ∀ (x : Fin 2048) (n : Fin 2304), x2 (ix2 x n) = X5 (ix3 0 x ⟨n.val, by omega⟩)
  h3 : ∀ k : Fin 1152, x3 (ix2 0 k) = if k.val < 1024 then (X6 (ix2 0 ⟨k.val % 64, by omega⟩) : EReal) * Ideal.ofBits .f32 0x3E000000#32
      else X7 (ix2 0 ⟨(k.val - 1024) % 64, by omega⟩)
  h4 : ∀ (g : Fin 2) (r : Fin 128), x4 (ix3 g r 0) = X8 (ix2 0 ⟨g.val * 8 + r.val / 16, by omega⟩)
  h5 : ∀ (t : Fin 16) (l : Fin 128), x5 (ix2 t l) = if h : l.val % 64 < 8 then Ideal.cos (angle t ⟨l.val % 64, h⟩)
      else if h2 : l.val % 64 - 8 < 8 then Ideal.cos (angle t ⟨l.val % 64 - 8, h2⟩) else 1
  h6 : ∀ (t : Fin 16) (l : Fin 128), x6 (ix2 t l) = if h : l.val % 64 < 8 then -Ideal.sin (angle t ⟨l.val % 64, h⟩)
      else if h2 : l.val % 64 - 8 < 8 then Ideal.sin (angle t ⟨l.val % 64 - 8, h2⟩) else 0
  h7 : ∀ (j l : Fin 128), x7 (ix3 0 j l) = X1 (ix5 0 b j ⟨l.val / 64, by omega⟩ ⟨l.val % 64, by omega⟩)
  h8 : ∀ (j l : Fin 128), x8 (ix3 0 j l) = X2 (ix5 0 b j ⟨l.val / 64, by omega⟩ ⟨l.val % 64, by omega⟩)
  h9 : ∀ (r : Fin 16) (l : Fin 1024), x9 (ix3 0 r l) = if h : r.val < 1 then 0 else X3 (ix4 0 b ⟨r.val - 1, by omega⟩ l)
  h10 : ∀ (k : Fin 1152) (h : Fin 128), x10 (ix2 k h) = if k.val / 64 = h.val then (1 : EReal) else 0
  h11 : ∀ (k : Fin 1152) (h : Fin 128), x11 (ix2 h k) = if k.val / 64 = h.val then (1 : EReal) else 0
  h12 : ∀ g x n, x12 (ix3 g x n) = X9 (ix4 0 g x n)
  h13 : ∀ k, x13 (ix2 0 k) = X10 (ix2 0 k)

end Cert.KernelIdeal.Front
-- ==== Proof.KI.Eq.lean ====
/-
  What a block computes is what the reference computes of its sample: the projection, the head norms, the rotation.
-/
module

public import proofs.«01_k».proof.Proof.KI.IsBlock

@[expose] public section

noncomputable section

namespace Cert.KernelIdeal.Front

open Idealize.ShloMosaic Idealize.ShloMosaic.Pointwise Cert.KernelIdeal Cert.KernelIdeal.Gen Cert.Front

/-- A sum over all lanes against the table of heads is the sum over the head's 64 lanes. -/
theorem seg_sum (f : Fin 1152 → EReal) (h : ℕ) (hh : h < 18) :
    ∑ k, f k * (if k.val / 64 = h then (1 : EReal) else 0) = ∑ d : Fin 64, f ⟨h * 64 + d.val, by omega⟩ := by
  simp only [mul_ite, mul_one, mul_zero]
  rw [← Finset.sum_filter]
  refine Finset.sum_bij' (fun k _ => (⟨k.val % 64, by omega⟩ : Fin 64)) (fun d _ => ⟨h * 64 + d.val, by omega⟩) ?_ ?_ ?_ ?_ ?_
  · intro k _; exact Finset.mem_univ _
  · intro d _; simp only [Finset.mem_filter, Finset.mem_univ, true_and]; omega
  · intro k hk
    have := (Finset.mem_filter.1 hk).2
    exact Fin.ext (by show h * 64 + k.val % 64 = k.val; omega)
  · intro d _; exact Fin.ext (by show (h * 64 + d.val) % 64 = d.val; omega)
  · intro k hk
    have := (Finset.mem_filter.1 hk).2
    exact congrArg f (Fin.ext (by show k.val = h * 64 + k.val % 64; omega))

/-- A sum over head numbers against the table picks one. -/
theorem seg_pick (f : Fin 128 → EReal) (h : Fin 128) : ∑ x, f x * (if h.val = x.val then (1 : EReal) else 0) = f h := by
  rw [Finset.sum_eq_single h]
  · rw [if_pos rfl, mul_one]
  · intro x _ hx; rw [if_neg (fun e => hx (Fin.ext e.symm)), mul_zero]
  · intro hx; exact absurd (Finset.mem_univ h) hx

/-- The factor of a norm is a number where the row's entries are. -/
theorem headScale_num (Z : Fin 64 → EReal) (hZ : ∀ d, IsNum (Z d)) : IsNum (headScale Z) := by
  choose r hr using hZ
  obtain ⟨e, he, hee⟩ := bits_eps
  have : headScale Z = Ideal.rsqrt (((∑ d, r d * r d) * (1 / 64) + e : ℝ) : EReal) := by
    unfold headScale
    rw [bits_64, hee, Ideal.div_coe (by norm_num)]
    simp only [hr, ← EReal.coe_mul, coe_sum, ← EReal.coe_add]
  rw [this]
  refine isNum_rsqrt ?_
  have : 0 ≤ ∑ d, r d * r d := Finset.sum_nonneg fun d _ => mul_self_nonneg _
  positivity

theorem theta_num (t : Fin 16) (p : Fin 8) : IsNum (angle t p) := by
  unfold angle
  refine IsNum.mul ⟨_, rfl⟩ ?_
  rw [bits_theta, bits_16, bits_2]
  exact isNum_pow (isNum_coe _) (isNum_div_coe (by norm_num) (IsNum.neg ((isNum_coe _).mul ⟨_, rfl⟩)))

theorem rope_num {C S : Fin 8 → EReal} {Q : Fin 64 → EReal} (hC : ∀ p, IsNum (C p)) (hS : ∀ p, IsNum (S p)) (hQ : ∀ d, IsNum (Q d)) (d : Fin 64) :
    IsNum (rope C S Q d) := by
  unfold rope
  split_ifs
  · exact ((hQ _).mul (hC _)).sub ((hQ _).mul (hS _))
  · exact ((hQ _).mul (hC _)).add ((hQ _).mul (hS _))
  · exact hQ _

/-- A nonnegative factor moves out of the rotation. -/
theorem rope_mul (C S : Fin 8 → EReal) (Q : Fin 64 → EReal) {e : ℝ} (he : 0 ≤ e) (d : Fin 64) :
    rope C S (fun d => Q d * (e : EReal)) d = rope C S Q d * (e : EReal) := by
  unfold rope
  split_ifs
  · rw [sub_eq_add_neg, sub_eq_add_neg, add_mul_num _ _ he, EReal.neg_mul, mul_right_comm, mul_right_comm (Q _) (S _)]
  · rw [add_mul_num _ _ he, mul_right_comm, mul_right_comm (Q _) (S _)]
  · rfl

/-- The rotation as the kernel writes it, with tables of 128 lanes, is the rotation of the head. -/
theorem rotL_rope (Q : Fin 1152 → EReal) (C S : Fin 128 → EReal) (c s : Fin 8 → EReal) (q : Fin 64 → EReal) (n : Fin 1152)
    (hC : ∀ l : Fin 128, C l = if h : l.val % 64 < 8 then c ⟨l.val % 64, h⟩ else if h2 : l.val % 64 - 8 < 8 then c ⟨l.val % 64 - 8, h2⟩ else 1)
    (hS : ∀ l : Fin 128, S l = if h : l.val % 64 < 8 then -s ⟨l.val % 64, h⟩ else if h2 : l.val % 64 - 8 < 8 then s ⟨l.val % 64 - 8, h2⟩ else 0)
    (hQ : ∀ d : Fin 64, Q ⟨n.val / 64 * 64 + d.val, by omega⟩ = q d) :
    rotL Q C S ⟨n.val / 128, by omega⟩ ⟨n.val % 128, by omega⟩ = rope c s q ⟨n.val % 64, by omega⟩ := by
  have hq : ∀ (k : ℕ) (hk : k < 1152) (d : Fin 64), k = n.val / 64 * 64 + d.val → Q ⟨k, hk⟩ = q d := by
    intro k hk d e
    rw [← hQ d]
    exact congrArg Q (Fin.ext e)
  have hl : n.val % 128 % 64 = n.val % 64 := by omega
  unfold rotL rope
  rw [hC, hS]
  dsimp only
  simp only [hl]
  rw [hq (128 * (n.val / 128) + n.val % 128) _ ⟨n.val % 64, by omega⟩ (by dsimp only; omega)]
  by_cases h8 : n.val % 64 < 8
  · rw [dif_pos h8, dif_pos h8, if_pos h8, dif_pos (by omega), dif_pos h8,
      hq (128 * (n.val / 128) + (n.val % 128 + 8) % 128) _ ⟨8 + n.val % 64, by omega⟩ (by dsimp only; omega), mul_neg, ← sub_eq_add_neg]
  · rw [dif_neg h8, dif_neg h8, if_neg h8,
      hq (128 * (n.val / 128) + (n.val % 128 + 120) % 128) _ ⟨n.val % 64 - 8, by omega⟩ (by dsimp only; omega)]
    by_cases h16 : n.val % 64 - 8 < 8
    · rw [dif_pos h16, dif_pos h16, dif_pos (by omega), dif_neg h8]
      refine congrArg (fun x => q x * _ + _) (Fin.ext ?_)
      dsimp only; omega
    · rw [dif_neg h16, dif_neg h16, dif_neg (by omega), mul_one, mul_zero, add_zero]
      refine congrArg q (Fin.ext ?_)
      dsimp only; omega

variable {X0 : Arr Sx} {X1 X2 : Arr Sc} {X3 : Arr Sp} {X4 : Arr Sg} {X5 : Arr Sw} {X6 X7 : Arr Sh} {X8 : Arr Ss}
    {X9 : Arr Swp} {X10 : Arr Sps} {b : Fin 8}
    {x0 : Vec Ideal S1x16x2048 .f32} {x1 : Vec Ideal S1x2048 .f32} {x2 : Vec Ideal S2048x2304 .bf16}
    {x3 : Vec Ideal S1x1152 .f32} {x4 : Vec Ideal S2x128x1 .f32} {x5 x6 : Vec Ideal S16x128 .f32}
    {x7 x8 : Vec Ideal S1x128x128 .f32} {x9 : Vec Ideal S1x16x1024 .f32} {x10 : Vec Ideal S1152x128 .bf16}
    {x11 : Vec Ideal S128x1152 .bf16} {x12 : Vec Ideal S4x256x256 .bf16} {x13 : Vec Ideal S1x1024 .f32}
    (B : IsBlock X0 X1 X2 X3 X4 X5 X6 X7 X8 X9 X10 b x0 x1 x2 x3 x4 x5 x6 x7 x8 x9 x10 x11 x12 x13)
    (hz : ∀ b t n, IsNum (z X0 X4 X5 b t n))

include B in
theorem ZB_eq (t : Fin 16) (n : Fin 2304) : ZB x0 x1 x2 t n = z X0 X4 X5 b t ⟨n.val, by omega⟩ := by
  unfold ZB z
  simp only [B.h0, B.h1, B.h2]

include B in
/-- The factor of head `h`, 16 heads of queries and 2 of keys. -/
theorem RB_eq (t : Fin 16) (h : Fin 18) :
    RB x0 x1 x2 x10 t ⟨h.val, by omega⟩ = headScale (fun d => z X0 X4 X5 b t ⟨h.val * 64 + d.val, by omega⟩) := by
  unfold RB headScale
  simp only [B.h10]
  rw [seg_sum (fun k => ZB x0 x1 x2 t ⟨k.val, by omega⟩ * ZB x0 x1 x2 t ⟨k.val, by omega⟩) h.val h.isLt, bits_64, bits_64th, Ideal.div_coe (by norm_num)]
  simp only [ZB_eq B]

include B hz in
theorem QB_eq (t : Fin 16) (n : Fin 1152) :
    QB x0 x1 x2 x3 x10 x11 t n = z X0 X4 X5 b t ⟨n.val, by omega⟩
      * headScale (fun d => z X0 X4 X5 b t ⟨n.val / 64 * 64 + d.val, by omega⟩) * x3 (ix2 0 n) := by
  unfold QB
  simp only [B.h11]
  rw [seg_pick (fun x => RB x0 x1 x2 x10 t x) ⟨n.val / 64, by omega⟩,
    seg_pick (fun x => RB x0 x1 x2 x10 t x - RB x0 x1 x2 x10 t x) ⟨n.val / 64, by omega⟩,
    RB_eq B t ⟨n.val / 64, by omega⟩, IsNum.sub_self (headScale_num _ fun d => hz _ _ _), add_zero, ZB_eq B]

include B hz in
/-- A query's lane: the rotated one times 1/8. -/
theorem ROT_q (t : Fin 16) (h : Fin 16) (d : Fin 64) :
    ROT x0 x1 x2 x3 x5 x6 x10 x11 t ⟨h.val * 64 + d.val, by omega⟩ = qrot X0 X4 X5 X6 b t h d * Ideal.ofBits .f32 0x3E000000#32 := by
  unfold ROT
  rw [rotL_rope (QB x0 x1 x2 x3 x10 x11 t) _ _ (fun p => Ideal.cos (angle t p)) (fun p => Ideal.sin (angle t p))
    (fun d => headNorm (zq X0 X4 X5 b t h) (fun d => X6 (ix2 0 d)) d * Ideal.ofBits .f32 0x3E000000#32) ⟨h.val * 64 + d.val, by omega⟩ (B.h5 t) (B.h6 t) ?_,
    bits_8th, rope_mul _ _ _ (by norm_num)]
  · unfold qrot
    exact congrArg (fun x => rope _ _ _ x * _) (Fin.ext (by show (h.val * 64 + d.val) % 64 = d.val; omega))
  · intro d'
    rw [QB_eq B hz, B.h3, if_pos (by dsimp only; omega), ← mul_assoc]
    unfold headNorm zq
    refine congrArg (· * _) (congrArg₂ (· * ·) (congrArg₂ (· * ·) (congrArg _ (Fin.ext ?_)) (congrArg headScale (funext fun e => congrArg _ (Fin.ext ?_)))) (congrArg (fun x => X6 (ix2 0 x)) (Fin.ext ?_)))
    · show (h.val * 64 + d.val) / 64 * 64 + d'.val = h.val * 64 + d'.val; omega
    · show ((h.val * 64 + d.val) / 64 * 64 + d'.val) / 64 * 64 + e.val = h.val * 64 + e.val; omega
    · show ((h.val * 64 + d.val) / 64 * 64 + d'.val) % 64 = d'.val; omega

include B hz in
/-- A key's lane: the rotated one. -/
theorem ROT_k (t : Fin 16) (h : Fin 2) (d : Fin 64) :
    ROT x0 x1 x2 x3 x5 x6 x10 x11 t ⟨1024 + (h.val * 64 + d.val), by omega⟩ = krot X0 X4 X5 X7 b t h d := by
  unfold ROT
  rw [rotL_rope (QB x0 x1 x2 x3 x10 x11 t) _ _ (fun p => Ideal.cos (angle t p)) (fun p => Ideal.sin (angle t p))
    (headNorm (zk X0 X4 X5 b t h) (fun d => X7 (ix2 0 d))) ⟨1024 + (h.val * 64 + d.val), by omega⟩ (B.h5 t) (B.h6 t) ?_]
  · unfold krot
    exact congrArg (rope _ _ _) (Fin.ext (by show (1024 + (h.val * 64 + d.val)) % 64 = d.val; omega))
  · intro d'
    rw [QB_eq B hz, B.h3, if_neg (by dsimp only; omega)]
    unfold headNorm zk
    refine congrArg₂ (· * ·) (congrArg₂ (· * ·) (congrArg _ (Fin.ext ?_)) (congrArg headScale (funext fun e => congrArg _ (Fin.ext ?_)))) (congrArg (fun x => X7 (ix2 0 x)) (Fin.ext ?_))
    · show (1024 + (h.val * 64 + d.val)) / 64 * 64 + d'.val = 1024 + (h.val * 64 + d'.val); omega
    · show ((1024 + (h.val * 64 + d.val)) / 64 * 64 + d'.val) / 64 * 64 + e.val = 1024 + (h.val * 64 + e.val); omega
    · show ((1024 + (h.val * 64 + d.val)) / 64 * 64 + d'.val - 1024) % 64 = d'.val; omega

include B hz in
theorem KB_eq (j : Fin 144) (l : Fin 128) : KB x0 x1 x2 x3 x5 x6 x7 x10 x11 j l
    = keys X0 X1 X4 X5 X7 b j ⟨l.val / 64, by omega⟩ ⟨l.val % 64, by omega⟩ := by
  unfold KB keys
  split_ifs with h
  · exact B.h7 ⟨j.val, h⟩ l
  · refine Eq.trans (congrArg _ (Fin.ext ?_)) (ROT_k B hz ⟨j.val - 128, by omega⟩ ⟨l.val / 64, by omega⟩ ⟨l.val % 64, by omega⟩)
    show 1024 + l.val = 1024 + (l.val / 64 * 64 + l.val % 64); omega

include B in
theorem VB_eq (j : Fin 144) (l : Fin 128) : VB x0 x1 x2 x8 j l
    = vals X0 X2 X4 X5 b j ⟨l.val / 64, by omega⟩ ⟨l.val % 64, by omega⟩ := by
  unfold VB vals
  split_ifs with h
  · exact B.h8 ⟨j.val, h⟩ l
  · rw [ZB_eq B]
    refine congrArg _ (Fin.ext ?_)
    show 1152 + l.val = 1152 + (l.val / 64 * 64 + l.val % 64); omega

include B in
theorem UB_eq (r : Fin 32) (c : Fin 1024) : UB x0 x1 x2 x9 r c = urow X0 X3 X4 X5 b c r.val := by
  unfold UB urow
  split_ifs with h h1 h2 h3 h4 h5 <;> try omega
  · rw [B.h9, dif_pos h1]
  · rw [B.h9, dif_neg h1]
  · rw [ZB_eq B]
    exact congrArg₂ (fun t n => z X0 X4 X5 b t n) (Fin.ext (by show r.val - 16 = r.val - 1 - 15; omega)) rfl

end Cert.KernelIdeal.Front
-- ==== Proof.KI.State.lean ====
/-
  What one block of the kernel writes to the three state arrays: the new windows of keys and values and the new history.
-/
module

public import proofs.«01_k».proof.Proof.KI.Value
public import proofs.«01_k».proof.Proof.KI.Buf

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)

theorem eq_row {n m : ℕ} (x : (⟨3, ![1, n, m]⟩ : Shape).Idx) : x = ix3 0 (x 1) (x 2) := by
  refine (eq_ix3 x).trans (congrArg (fun a => ix3 a (x 1) (x 2)) (Subsingleton.elim (α := Fin 1) _ _))

theorem pay69_at (v : Vec Ideal S128x128 .f32) (j l : Fin 128) : k0_pay69 (F := Ideal) v (ix3 0 j l) = v (ix2 j l) := by
  pointwise [k0_pay69]
theorem pay70_at (v : Vec Ideal S128x128 .f32) (j l : Fin 128) : k0_pay70 (F := Ideal) v (ix3 0 j l) = v (ix2 j l) := by
  pointwise [k0_pay70]
theorem pay71_at (v : Vec Ideal S15x1024 .f32) (j : Fin 15) (l : Fin 1024) : k0_pay71 (F := Ideal) v (ix3 0 j l) = v (ix2 j l) := by
  pointwise [k0_pay71]

/-- The new window of keys: the buffer's last 128 rows. -/
theorem out16_at (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
     (j l : Fin 128) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 (ix3 0 j l)
    = KB x0 x1 x2 x3 x5 x6 x7 x10 x11 ⟨16 + j.val, by omega⟩ l := by
  unfold out0_A_16 kernelRun0_A
  dsimp only
  sl_unfold_words
  simp only [View.readAt_eq_ld, Memref.IsWhole.read_unread]
  have z2 : (![0, 0] : Fin 2 → ℕ) = fun _ => 0 := by decide
  have z3 : (![0, 0, 0] : Fin 3 → ℕ) = fun _ => 0 := by decide
  simp only [View.ld_unit_zero (S := S1x16x2048) z3, View.ld_unit_zero (S := S1x2048) z2, View.ld_unit_zero (S := S2048x2304) z2, View.ld_unit_zero (S := S1x1152) z2, View.ld_unit_zero (S := S16x128) z2, View.ld_unit_zero (S := S1x128x128) z3, View.ld_unit_zero (S := S1x16x1024) z3, View.ld_unit_zero (S := S1152x128) z2, View.ld_unit_zero (S := S128x1152) z2]
  rw [View.read_writes_junk_eq_canon, View.canon_unit_zero (S := S1x128x128) z3, pay69_at]
  refine (kbuf_at x0 x1 x2 x3 x5 x6 x7 x10 x11 _ 16 0 _ j l (by omega) (by omega)).trans (congrArg _ (Fin.ext ?_))
  show 0 + l.val = l.val; omega

/-- The new window of values: the buffer's last 128 rows. -/
theorem out17_at (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
     (j l : Fin 128) : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 (ix3 0 j l)
    = VB x0 x1 x2 x8 ⟨16 + j.val, by omega⟩ l := by
  unfold out0_A_17 kernelRun0_A
  dsimp only
  sl_unfold_words
  simp only [View.readAt_eq_ld, Memref.IsWhole.read_unread]
  have z2 : (![0, 0] : Fin 2 → ℕ) = fun _ => 0 := by decide
  have z3 : (![0, 0, 0] : Fin 3 → ℕ) = fun _ => 0 := by decide
  simp only [View.ld_unit_zero (S := S1x16x2048) z3, View.ld_unit_zero (S := S1x2048) z2, View.ld_unit_zero (S := S2048x2304) z2, View.ld_unit_zero (S := S1x1152) z2, View.ld_unit_zero (S := S16x128) z2, View.ld_unit_zero (S := S1x128x128) z3, View.ld_unit_zero (S := S1x16x1024) z3, View.ld_unit_zero (S := S1152x128) z2, View.ld_unit_zero (S := S128x1152) z2]
  rw [View.read_writes_junk_eq_canon, View.canon_unit_zero (S := S1x128x128) z3, pay70_at]
  refine (vbuf_at x0 x1 x2 x8 _ 16 0 _ j l (by omega) (by omega)).trans (congrArg _ (Fin.ext ?_))
  show 0 + l.val = l.val; omega

/-- The new history of the pooling: the buffer's last 15 rows. -/
theorem out18_at (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
     (j : Fin 15) (l : Fin 1024) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 (ix3 0 j l)
    = UB x0 x1 x2 x9 ⟨17 + j.val, by omega⟩ l := by
  unfold out0_A_18 kernelRun0_A
  dsimp only
  sl_unfold_words
  simp only [View.readAt_eq_ld, Memref.IsWhole.read_unread]
  have z2 : (![0, 0] : Fin 2 → ℕ) = fun _ => 0 := by decide
  have z3 : (![0, 0, 0] : Fin 3 → ℕ) = fun _ => 0 := by decide
  simp only [View.ld_unit_zero (S := S1x16x2048) z3, View.ld_unit_zero (S := S1x2048) z2, View.ld_unit_zero (S := S2048x2304) z2, View.ld_unit_zero (S := S1x1152) z2, View.ld_unit_zero (S := S16x128) z2, View.ld_unit_zero (S := S1x128x128) z3, View.ld_unit_zero (S := S1x16x1024) z3, View.ld_unit_zero (S := S1152x128) z2, View.ld_unit_zero (S := S128x1152) z2]
  rw [View.read_writes_junk_eq_canon, View.canon_unit_zero (S := S1x15x1024) z3, pay71_at]
  refine (ubuf_at x0 x1 x2 x9 _ 17 0 _ j l (by omega) (by omega)).trans (congrArg _ (Fin.ext ?_))
  show 0 + l.val = l.val; omega

end Cert.KernelIdeal.Front
-- ==== Proof.KI.Att.lean ====
/-
  What the kernel's attention computes of one head: sixteen heads in two groups, 64 lanes to a head.
-/
module

public import proofs.«01_k».proof.Proof.KI.Value
public import proofs.«01_k».proof.Proof.KI.State

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)

/-- The attention's output of token `t`, lane `c`: group `c / 512`, head `c / 64`, component `c % 64`. -/
def ATB (t : Fin 16) (c : Fin 1024) : EReal :=
  kattend (fun j => ∑ x : Fin 64, ROT x0 x1 x2 x3 x5 x6 x10 x11 t ⟨64 * (c.val / 64) + x.val, by omega⟩
      * KB x0 x1 x2 x3 x5 x6 x7 x10 x11 j ⟨64 * (c.val / 512) + x.val, by omega⟩)
    (x4 (ix3 ⟨c.val / 512, by omega⟩ ⟨16 * (c.val / 64 % 8) + t.val, by omega⟩ 0))
    (fun j => VB x0 x1 x2 x8 j ⟨64 * (c.val / 512) + c.val % 64, by omega⟩)

/-! Each head's store is 16 rows of its group's 128. -/

theorem head0_at (v : FVec Ideal S144x64 .bf16) (s : FVec Ideal S128x144 .f32) (k : Vec Ideal S1x128x1 .f32) (t : Fin 16) (d : Fin 64) :
    k0_pay34 (F := Ideal) v s k (ix3 0 t d) = k0_pay33 (F := Ideal) v s k (ix2 ⟨16 * 0 + t.val, by omega⟩ d) := by
  pointwise [k0_pay34]
  try exact congrArg _ (congrArg₂ ix2 (Fin.ext (by simp)) rfl)
theorem head1_at (v : FVec Ideal S144x64 .bf16) (s : FVec Ideal S128x144 .f32) (k : Vec Ideal S1x128x1 .f32) (t : Fin 16) (d : Fin 64) :
    k0_pay35 (F := Ideal) v s k (ix3 0 t d) = k0_pay33 (F := Ideal) v s k (ix2 ⟨16 * 1 + t.val, by omega⟩ d) := by
  pointwise [k0_pay35]
  try exact congrArg _ (congrArg₂ ix2 (Fin.ext (by simp)) rfl)
theorem head2_at (v : FVec Ideal S144x64 .bf16) (s : FVec Ideal S128x144 .f32) (k : Vec Ideal S1x128x1 .f32) (t : Fin 16) (d : Fin 64) :
    k0_pay36 (F := Ideal) v s k (ix3 0 t d) = k0_pay33 (F := Ideal) v s k (ix2 ⟨16 * 2 + t.val, by omega⟩ d) := by
  pointwise [k0_pay36]
  try exact congrArg _ (congrArg₂ ix2 (Fin.ext (by simp)) rfl)
theorem head3_at (v : FVec Ideal S144x64 .bf16) (s : FVec Ideal S128x144 .f32) (k : Vec Ideal S1x128x1 .f32) (t : Fin 16) (d : Fin 64) :
    k0_pay37 (F := Ideal) v s k (ix3 0 t d) = k0_pay33 (F := Ideal) v s k (ix2 ⟨16 * 3 + t.val, by omega⟩ d) := by
  pointwise [k0_pay37]
  try exact congrArg _ (congrArg₂ ix2 (Fin.ext (by simp)) rfl)
theorem head4_at (v : FVec Ideal S144x64 .bf16) (s : FVec Ideal S128x144 .f32) (k : Vec Ideal S1x128x1 .f32) (t : Fin 16) (d : Fin 64) :
    k0_pay39 (F := Ideal) (k0_pay38 v s k) (ix3 0 t d) = k0_pay33 (F := Ideal) v s k (ix2 ⟨16 * 4 + t.val, by omega⟩ d) := by
  pointwise [k0_pay39, k0_pay38]
  try exact congrArg _ (congrArg₂ ix2 (Fin.ext (by simp)) rfl)
theorem head5_at (v : FVec Ideal S144x64 .bf16) (s : FVec Ideal S128x144 .f32) (k : Vec Ideal S1x128x1 .f32) (t : Fin 16) (d : Fin 64) :
    k0_pay40 (F := Ideal) (k0_pay33 v s k) (ix3 0 t d) = k0_pay33 (F := Ideal) v s k (ix2 ⟨16 * 5 + t.val, by omega⟩ d) := by
  pointwise [k0_pay40]
  try exact congrArg _ (congrArg₂ ix2 (Fin.ext (by simp)) rfl)
theorem head6_at (v : FVec Ideal S144x64 .bf16) (s : FVec Ideal S128x144 .f32) (k : Vec Ideal S1x128x1 .f32) (t : Fin 16) (d : Fin 64) :
    k0_pay41 (F := Ideal) (k0_pay33 v s k) (ix3 0 t d) = k0_pay33 (F := Ideal) v s k (ix2 ⟨16 * 6 + t.val, by omega⟩ d) := by
  pointwise [k0_pay41]
  try exact congrArg _ (congrArg₂ ix2 (Fin.ext (by simp)) rfl)
theorem head7_at (v : FVec Ideal S144x64 .bf16) (s : FVec Ideal S128x144 .f32) (k : Vec Ideal S1x128x1 .f32) (t : Fin 16) (d : Fin 64) :
    k0_pay42 (F := Ideal) (k0_pay33 v s k) (ix3 0 t d) = k0_pay33 (F := Ideal) v s k (ix2 ⟨16 * 7 + t.val, by omega⟩ d) := by
  pointwise [k0_pay42]
  try exact congrArg _ (congrArg₂ ix2 (Fin.ext (by simp)) rfl)
theorem head8_at (v : FVec Ideal S144x64 .bf16) (a b : FVec Ideal S128x1 .f32) (c : FVec Ideal S128x144 .f32) (d : FVec Ideal S128x1 .f32) (t : Fin 16) (n : Fin 64) :
    k0_pay50 (F := Ideal) v a b c d (ix3 0 t n) = k0_pay49 (F := Ideal) v a b c d (ix2 ⟨16 * 0 + t.val, by omega⟩ n) := by
  pointwise [k0_pay50]
  try exact congrArg _ (congrArg₂ ix2 (Fin.ext (by simp)) rfl)
theorem head9_at (v : FVec Ideal S144x64 .bf16) (a b : FVec Ideal S128x1 .f32) (c : FVec Ideal S128x144 .f32) (d : FVec Ideal S128x1 .f32) (t : Fin 16) (n : Fin 64) :
    k0_pay51 (F := Ideal) v a b c d (ix3 0 t n) = k0_pay49 (F := Ideal) v a b c d (ix2 ⟨16 * 1 + t.val, by omega⟩ n) := by
  pointwise [k0_pay51]
  try exact congrArg _ (congrArg₂ ix2 (Fin.ext (by simp)) rfl)
theorem head10_at (v : FVec Ideal S144x64 .bf16) (a b : FVec Ideal S128x1 .f32) (c : FVec Ideal S128x144 .f32) (d : FVec Ideal S128x1 .f32) (t : Fin 16) (n : Fin 64) :
    k0_pay52 (F := Ideal) v a b c d (ix3 0 t n) = k0_pay49 (F := Ideal) v a b c d (ix2 ⟨16 * 2 + t.val, by omega⟩ n) := by
  pointwise [k0_pay52]
  try exact congrArg _ (congrArg₂ ix2 (Fin.ext (by simp)) rfl)
theorem head11_at (v : FVec Ideal S144x64 .bf16) (a b : FVec Ideal S128x1 .f32) (c : FVec Ideal S128x144 .f32) (d : FVec Ideal S128x1 .f32) (t : Fin 16) (n : Fin 64) :
    k0_pay53 (F := Ideal) v a b c d (ix3 0 t n) = k0_pay49 (F := Ideal) v a b c d (ix2 ⟨16 * 3 + t.val, by omega⟩ n) := by
  pointwise [k0_pay53]
  try exact congrArg _ (congrArg₂ ix2 (Fin.ext (by simp)) rfl)
theorem head12_at (v : FVec Ideal S144x64 .bf16) (a b : FVec Ideal S128x1 .f32) (c : FVec Ideal S128x144 .f32) (d : FVec Ideal S128x1 .f32) (t : Fin 16) (n : Fin 64) :
    k0_pay54 (F := Ideal) v a b c d (ix3 0 t n) = k0_pay49 (F := Ideal) v a b c d (ix2 ⟨16 * 4 + t.val, by omega⟩ n) := by
  pointwise [k0_pay54]
  try exact congrArg _ (congrArg₂ ix2 (Fin.ext (by simp)) rfl)
theorem head13_at (v : FVec Ideal S144x64 .bf16) (a b : FVec Ideal S128x1 .f32) (c : FVec Ideal S128x144 .f32) (d : FVec Ideal S128x1 .f32) (t : Fin 16) (n : Fin 64) :
    k0_pay56 (F := Ideal) (k0_pay55 v a b c d) (ix3 0 t n) = k0_pay49 (F := Ideal) v a b c d (ix2 ⟨16 * 5 + t.val, by omega⟩ n) := by
  pointwise [k0_pay56, k0_pay55]
  try exact congrArg _ (congrArg₂ ix2 (Fin.ext (by simp)) rfl)
theorem head14_at (v : FVec Ideal S144x64 .bf16) (a b : FVec Ideal S128x1 .f32) (c : FVec Ideal S128x144 .f32) (d : FVec Ideal S128x1 .f32) (t : Fin 16) (n : Fin 64) :
    k0_pay57 (F := Ideal) (k0_pay49 v a b c d) (ix3 0 t n) = k0_pay49 (F := Ideal) v a b c d (ix2 ⟨16 * 6 + t.val, by omega⟩ n) := by
  pointwise [k0_pay57]
  try exact congrArg _ (congrArg₂ ix2 (Fin.ext (by simp)) rfl)
theorem head15_at (v : FVec Ideal S144x64 .bf16) (a b : FVec Ideal S128x1 .f32) (c : FVec Ideal S128x144 .f32) (d : FVec Ideal S128x1 .f32) (t : Fin 16) (n : Fin 64) :
    k0_pay58 (F := Ideal) (k0_pay49 v a b c d) (ix3 0 t n) = k0_pay49 (F := Ideal) v a b c d (ix2 ⟨16 * 7 + t.val, by omega⟩ n) := by
  pointwise [k0_pay58]
  try exact congrArg _ (congrArg₂ ix2 (Fin.ext (by simp)) rfl)

/-- The four blocks of a group's queries. -/
abbrev qkn : FVec Ideal S16x1152 .f32 := k0_pay12 (F := Ideal) (k0_pay8 x0 x1 x2) (k0_pay11 x0 x1 x2 x10) x11 x3

theorem stack0 (r : Fin 128) (x : Fin 64) :
    stack (k0_pay16 (F := Ideal) (k0_pay8 x0 x1 x2) (k0_pay11 x0 x1 x2 x10) x11 x3 x5 x6)
      (k0_pay17 (qkn x0 x1 x2 x3 x10 x11) (k0_pay13 x5) (k0_pay14 x6) k0_pay15)
      (k0_pay18 (qkn x0 x1 x2 x3 x10 x11) (k0_pay13 x5) (k0_pay14 x6) k0_pay15)
      (k0_pay19 (qkn x0 x1 x2 x3 x10 x11) (k0_pay13 x5) (k0_pay14 x6) k0_pay15) r x
      = ROT x0 x1 x2 x3 x5 x6 x10 x11 ⟨r.val % 16, by omega⟩ ⟨64 * (r.val / 16) + x.val, by omega⟩ := by
  refine stack_at (fun t l => ROT x0 x1 x2 x3 x5 x6 x10 x11 t ⟨l.val, by omega⟩) _ _ _ _ ?_ ?_ ?_ ?_ r x <;> intro t l
  · exact rot0_ROT x0 x1 x2 x3 x5 x6 x10 x11 t l
  · rw [rot1_at]; exact rot_ROT x0 x1 x2 x3 x5 x6 x10 x11 t 1 l
  · rw [rot2_at]; exact rot_ROT x0 x1 x2 x3 x5 x6 x10 x11 t 2 l
  · rw [rot3_at]; exact rot_ROT x0 x1 x2 x3 x5 x6 x10 x11 t 3 l

theorem stack1 (r : Fin 128) (x : Fin 64) :
    stack (k0_pay20 (qkn x0 x1 x2 x3 x10 x11) (k0_pay13 x5) (k0_pay14 x6) k0_pay15)
      (k0_pay21 (qkn x0 x1 x2 x3 x10 x11) (k0_pay13 x5) (k0_pay14 x6) k0_pay15)
      (k0_pay22 (qkn x0 x1 x2 x3 x10 x11) (k0_pay13 x5) (k0_pay14 x6) k0_pay15)
      (k0_pay25 (k0_pay13 x5) (k0_pay14 x6) (k0_pay23 (qkn x0 x1 x2 x3 x10 x11)) (k0_pay24 (qkn x0 x1 x2 x3 x10 x11) k0_pay15)) r x
      = ROT x0 x1 x2 x3 x5 x6 x10 x11 ⟨r.val % 16, by omega⟩ ⟨512 + (64 * (r.val / 16) + x.val), by omega⟩ := by
  refine stack_at (fun t l => ROT x0 x1 x2 x3 x5 x6 x10 x11 t ⟨512 + l.val, by omega⟩) _ _ _ _ ?_ ?_ ?_ ?_ r x <;> intro t l
  · rw [rot4_at]; exact rot_ROT x0 x1 x2 x3 x5 x6 x10 x11 t 4 l
  · rw [rot5_at]; exact (rot_ROT x0 x1 x2 x3 x5 x6 x10 x11 t 5 l).trans (congrArg _ (Fin.ext (by show 128 * 5 + l.val = 512 + (128 + l.val); omega)))
  · rw [rot6_at]; exact (rot_ROT x0 x1 x2 x3 x5 x6 x10 x11 t 6 l).trans (congrArg _ (Fin.ext (by show 128 * 6 + l.val = 512 + (256 + l.val); omega)))
  · rw [rot7_at]; exact (rot_ROT x0 x1 x2 x3 x5 x6 x10 x11 t 7 l).trans (congrArg _ (Fin.ext (by show 128 * 7 + l.val = 512 + (384 + l.val); omega)))

/-- The sinks of one group. -/
theorem ld_sink (g : ℕ) (hg : g < 2) (inb : ∀ a, (![g, 0, 0] : Fin 3 → ℕ) a + (![1, 128, 1] : Fin 3 → ℕ) a ≤ S2x128x1.size a) (r : Fin 128) :
    (View.ld (Val := Elt Ideal) (S := S2x128x1) (e' := .f32) x4 (Rect.unit (s := S2x128x1) ![g, 0, 0] ![1, 128, 1] inb) : (⟨3, ![1, 128, 1]⟩ : Shape).Idx → EReal) (ix3 0 r 0)
      = x4 (ix3 ⟨g, hg⟩ r 0) := by
  refine congrArg x4 (funext fun a => Fin.ext ?_)
  match a with
  | ⟨0, _⟩ => show g + 1 * 0 = g; omega
  | ⟨1, _⟩ => show 0 + 1 * r.val = r.val; omega
  | ⟨2, _⟩ => rfl

theorem att0 (kb vb : Vec Ideal S144x128 .f32) (hkb : ∀ j l, kb (ix2 j l) = KB x0 x1 x2 x3 x5 x6 x7 x10 x11 j l)
    (hvb : ∀ j l, vb (ix2 j l) = VB x0 x1 x2 x8 j l) (h : Fin 8) (t : Fin 16) (d : Fin 64) :
    kattend (fun j => k0_pay32 (F := Ideal) (k0_pay16 (F := Ideal) (k0_pay8 x0 x1 x2) (k0_pay11 x0 x1 x2 x10) x11 x3 x5 x6)
      (k0_pay17 (qkn x0 x1 x2 x3 x10 x11) (k0_pay13 x5) (k0_pay14 x6) k0_pay15)
      (k0_pay18 (qkn x0 x1 x2 x3 x10 x11) (k0_pay13 x5) (k0_pay14 x6) k0_pay15)
      (k0_pay19 (qkn x0 x1 x2 x3 x10 x11) (k0_pay13 x5) (k0_pay14 x6) k0_pay15) kb (ix2 ⟨16 * h.val + t.val, by omega⟩ j))
      ((View.ld (Val := Elt Ideal) (S := S2x128x1) (e' := .f32) x4 (Rect.unit (s := S2x128x1) ![0, 0, 0] ![1, 128, 1] inb_S2x128x1_S1x128x1_0_0_0) : (⟨3, ![1, 128, 1]⟩ : Shape).Idx → EReal)
        (ix3 0 ⟨16 * h.val + t.val, by omega⟩ 0))
      (fun j => k0_pay31 (F := Ideal) vb (ix2 j d))
      = ATB x0 x1 x2 x3 x4 x5 x6 x7 x8 x10 x11 t ⟨64 * h.val + d.val, by omega⟩ := by
  rw [ld_sink x4 0 (by omega) inb_S2x128x1_S1x128x1_0_0_0]
  unfold ATB
  congr 1
  · funext j
    rw [pay32_at]
    refine Finset.sum_congr rfl fun x _ => ?_
    rw [stack0, hkb]
    refine congrArg₂ (· * ·) (congrArg₂ _ (Fin.ext ?_) (Fin.ext ?_)) (congrArg _ (Fin.ext ?_))
    · show (16 * h.val + t.val) % 16 = t.val; omega
    · show 64 * ((16 * h.val + t.val) / 16) + x.val = 64 * ((64 * h.val + d.val) / 64) + x.val; omega
    · show x.val = 64 * ((64 * h.val + d.val) / 512) + x.val; omega
  · refine congrArg x4 (congrArg₂ (fun a b => ix3 a b 0) (Fin.ext ?_) (Fin.ext ?_))
    · show 0 = (64 * h.val + d.val) / 512; omega
    · show 16 * h.val + t.val = 16 * ((64 * h.val + d.val) / 64 % 8) + t.val; omega
  · funext j
    rw [pay31_at, hvb]
    refine congrArg _ (Fin.ext ?_)
    show d.val = 64 * ((64 * h.val + d.val) / 512) + (64 * h.val + d.val) % 64; omega

theorem att1 (kb vb : Vec Ideal S144x128 .f32) (hkb : ∀ j l, kb (ix2 j l) = KB x0 x1 x2 x3 x5 x6 x7 x10 x11 j l)
    (hvb : ∀ j l, vb (ix2 j l) = VB x0 x1 x2 x8 j l) (h : Fin 8) (t : Fin 16) (d : Fin 64) :
    kattend (fun j => k0_pay44 (F := Ideal) (k0_pay20 (qkn x0 x1 x2 x3 x10 x11) (k0_pay13 x5) (k0_pay14 x6) k0_pay15)
      (k0_pay21 (qkn x0 x1 x2 x3 x10 x11) (k0_pay13 x5) (k0_pay14 x6) k0_pay15)
      (k0_pay22 (qkn x0 x1 x2 x3 x10 x11) (k0_pay13 x5) (k0_pay14 x6) k0_pay15)
      (k0_pay25 (k0_pay13 x5) (k0_pay14 x6) (k0_pay23 (qkn x0 x1 x2 x3 x10 x11)) (k0_pay24 (qkn x0 x1 x2 x3 x10 x11) k0_pay15))
      (k0_pay29 kb) (ix2 ⟨16 * h.val + t.val, by omega⟩ j))
      ((View.ld (Val := Elt Ideal) (S := S2x128x1) (e' := .f32) x4 (Rect.unit (s := S2x128x1) ![1, 0, 0] ![1, 128, 1] inb_S2x128x1_S1x128x1_1_0_0) : (⟨3, ![1, 128, 1]⟩ : Shape).Idx → EReal)
        (ix3 0 ⟨16 * h.val + t.val, by omega⟩ 0))
      (fun j => k0_pay43 (F := Ideal) (k0_pay30 vb) (ix2 j d))
      = ATB x0 x1 x2 x3 x4 x5 x6 x7 x8 x10 x11 t ⟨512 + 64 * h.val + d.val, by omega⟩ := by
  rw [ld_sink x4 1 (by omega) inb_S2x128x1_S1x128x1_1_0_0]
  unfold ATB
  congr 1
  · funext j
    rw [pay44_at]
    refine Finset.sum_congr rfl fun x _ => ?_
    rw [stack1, hkb]
    refine congrArg₂ (· * ·) (congrArg₂ _ (Fin.ext ?_) (Fin.ext ?_)) (congrArg _ (Fin.ext ?_))
    · show (16 * h.val + t.val) % 16 = t.val; omega
    · show 512 + (64 * ((16 * h.val + t.val) / 16) + x.val) = 64 * ((512 + 64 * h.val + d.val) / 64) + x.val; omega
    · show 64 + x.val = 64 * ((512 + 64 * h.val + d.val) / 512) + x.val; omega
  · refine congrArg x4 (congrArg₂ (fun a b => ix3 a b 0) (Fin.ext ?_) (Fin.ext ?_))
    · show 1 = (512 + 64 * h.val + d.val) / 512; omega
    · show 16 * h.val + t.val = 16 * ((512 + 64 * h.val + d.val) / 64 % 8) + t.val; omega
  · funext j
    rw [pay43_at, hvb]
    refine congrArg _ (Fin.ext ?_)
    show 64 + d.val = 64 * ((512 + 64 * h.val + d.val) / 512) + (512 + 64 * h.val + d.val) % 64; omega

/-- Sixteen stores of 64 lanes cover the block. -/
theorem lanes_cover (y : S1x16x1024.Idx) (q : ℕ) (hq : q ≤ (y 2).val) (hq2 : (y 2).val < q + 64)
    (inb : ∀ a, (![0, 0, q] : Fin 3 → ℕ) a + (![1, 16, 64] : Fin 3 → ℕ) a ≤ S1x16x1024.size a) :
    y ∈ (Rect.unit (s := S1x16x1024) ![0, 0, q] ![1, 16, 64] inb).set := by
  rw [Rect.mem_set_unit]
  intro a
  have h0 : (y 0).val < 1 := (y 0).isLt
  have h1 : (y 1).val < 16 := (y 1).isLt
  match a with
  | ⟨0, _⟩ => exact ⟨Nat.zero_le _, by show (y 0).val < 0 + 1; omega⟩
  | ⟨1, _⟩ => exact ⟨Nat.zero_le _, by show (y 1).val < 0 + 16; omega⟩
  | ⟨2, _⟩ => exact ⟨hq, hq2⟩

/-- A store of 64 lanes from lane `q` on, read at an index of its own. -/
theorem store_of (q : ℕ) (inb : ∀ a, (![0, 0, q] : Fin 3 → ℕ) a + (![1, 16, 64] : Fin 3 → ℕ) a ≤ S1x16x1024.size a)
    (p : (⟨3, ![1, 16, 64]⟩ : Shape).Idx → EReal)
    (hp : ∀ (t : Fin 16) (d : Fin 64), p (ix3 0 t d) = ATB x0 x1 x2 x3 x4 x5 x6 x7 x8 x10 x11 t ⟨q + d.val, by have : q + 64 ≤ 1024 := inb 2; omega⟩)
    (x : (⟨3, ![1, 16, 64]⟩ : Shape).Idx) :
    p x = ATB x0 x1 x2 x3 x4 x5 x6 x7 x8 x10 x11 ((Rect.unit (s := S1x16x1024) ![0, 0, q] ![1, 16, 64] inb).emb x 1)
      ((Rect.unit (s := S1x16x1024) ![0, 0, q] ![1, 16, 64] inb).emb x 2) := by
  refine (congrArg p (eq_row x)).trans ((hp (x 1) (x 2)).trans ?_)
  refine congrArg₂ _ (Fin.ext ?_) (Fin.ext ?_)
  · show (x 1).val = 0 + 1 * (x 1).val; omega
  · show q + (x 2).val = q + 1 * (x 2).val; omega

end Cert.KernelIdeal.Front
-- ==== Proof.KI.PoolB.lean ====
/-
  What one block of the kernel writes to the pooling's array: four groups of 256 columns, with windows of 2, 4, 8 and 16 rows.
-/
module

public import proofs.«01_k».proof.Proof.KI.Value
public import proofs.«01_k».proof.Proof.KI.State

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)

theorem count_at (w : BitVec 32) (t : Fin 16) : k0_pay59 (F := Ideal) w (ix2 t 0) = FloatOps.sitofp (F := Ideal) .f32 (IntOp.addi w (BitVec.ofNat 32 t.val)) := by
  pointwise [k0_pay59]

theorem grp0_at (Z : FVec Ideal S16x1024 .f32) (w : BitVec 32) (u : ℕ → Vec Ideal S16x256 .f32) (p : Vec Ideal S1x256x256 .bf16) (k : Vec Ideal S1x256 .f32)
    (t : Fin 16) (n : Fin 256) :
    k0_pay61 (F := Ideal) (k0_pay60 Z w (u 16) (u 15) p k) (ix3 0 t n)
      = (∑ x : Fin 256, (Ideal.div (∑ j ∈ Finset.range 2, u (16 - j) (ix2 t x)) (min (k0_pay59 (F := Ideal) w (ix2 t 0) + 1) (Ideal.ofBits .f32 1073741824#32))
          - Z (ix2 t ⟨0 + x.val, by omega⟩)) * p (ix3 0 x n)) * k (ix2 0 n) := by
  simp only [Finset.sum_range_succ, Finset.sum_range_zero, zero_add, Nat.reduceSub]
  pointwise [k0_pay60, k0_pay61]

theorem grp1_at (Z : FVec Ideal S16x1024 .f32) (w : BitVec 32) (u : ℕ → Vec Ideal S16x256 .f32) (p : Vec Ideal S1x256x256 .bf16) (k : Vec Ideal S1x256 .f32)
    (t : Fin 16) (n : Fin 256) :
    k0_pay62 (F := Ideal) Z (k0_pay59 w) (u 16) (u 15) (u 14) (u 13) p k (ix3 0 t n)
      = (∑ x : Fin 256, (Ideal.div (∑ j ∈ Finset.range 4, u (16 - j) (ix2 t x)) (min (k0_pay59 (F := Ideal) w (ix2 t 0) + 1) (Ideal.ofBits .f32 1082130432#32))
          - Z (ix2 t ⟨256 + x.val, by omega⟩)) * p (ix3 0 x n)) * k (ix2 0 n) := by
  simp only [Finset.sum_range_succ, Finset.sum_range_zero, zero_add, Nat.reduceSub]
  pointwise [k0_pay62]

theorem grp2_at (Z : FVec Ideal S16x1024 .f32) (w : BitVec 32) (u : ℕ → Vec Ideal S16x256 .f32) (p : Vec Ideal S1x256x256 .bf16) (k : Vec Ideal S1x256 .f32)
    (t : Fin 16) (n : Fin 256) :
    k0_pay64 (F := Ideal) Z (k0_pay59 w) (k0_pay63 (u 16) (u 15)) (u 14) (u 13) (u 12) (u 11) (u 10) (u 9) p k (ix3 0 t n)
      = (∑ x : Fin 256, (Ideal.div (∑ j ∈ Finset.range 8, u (16 - j) (ix2 t x)) (min (k0_pay59 (F := Ideal) w (ix2 t 0) + 1) (Ideal.ofBits .f32 1090519040#32))
          - Z (ix2 t ⟨512 + x.val, by omega⟩)) * p (ix3 0 x n)) * k (ix2 0 n) := by
  simp only [Finset.sum_range_succ, Finset.sum_range_zero, zero_add, Nat.reduceSub]
  pointwise [k0_pay64, k0_pay63]

theorem grp3_at (Z : FVec Ideal S16x1024 .f32) (w : BitVec 32) (u : ℕ → Vec Ideal S16x256 .f32) (p : Vec Ideal S1x256x256 .bf16) (k : Vec Ideal S1x256 .f32)
    (t : Fin 16) (n : Fin 256) :
    k0_pay68 (F := Ideal) Z (k0_pay66 (k0_pay65 (u 16) (u 15)) (u 14) (u 13) (u 12) (u 11) (u 10) (u 9) (u 8) (u 7) (u 6) (u 5) (u 4) (u 3) (u 2) (u 1)) (k0_pay67 (k0_pay59 w)) (FloatOps.ofBits FTy.f32 1098907648#32) p k (ix3 0 t n)
      = (∑ x : Fin 256, (Ideal.div (∑ j ∈ Finset.range 16, u (16 - j) (ix2 t x)) (min (k0_pay59 (F := Ideal) w (ix2 t 0) + 1) (Ideal.ofBits .f32 1098907648#32))
          - Z (ix2 t ⟨768 + x.val, by omega⟩)) * p (ix3 0 x n)) * k (ix2 0 n) := by
  simp only [Finset.sum_range_succ, Finset.sum_range_zero, zero_add, Nat.reduceSub]
  pointwise [k0_pay68, k0_pay66, k0_pay65, k0_pay67]

/-- The rows that the pooling sums, zero past the last. -/
def UBN (c : Fin 1024) (r : ℕ) : EReal := if h : r < 32 then UB x0 x1 x2 x9 ⟨r, h⟩ c else 0

/-- The pooling's output of token `t`, column `c`. -/
def PB (t : Fin 16) (c : Fin 1024) : EReal :=
  (∑ x : Fin 256, (Ideal.div (winSum (UBN x0 x1 x2 x9 ⟨c.val / 256 * 256 + x.val, by omega⟩) (16 + t.val) (win c)) ((win c : ℝ) : EReal)
      - ZB x0 x1 x2 t ⟨1280 + (c.val / 256 * 256 + x.val), by omega⟩) * x12 (ix3 ⟨c.val / 256, by omega⟩ x ⟨c.val % 256, by omega⟩)) * x13 (ix2 0 c)

/-- A load of 16 rows of the pooling's buffer from row `r` on. -/
def uld {sp : Space} (v : View sig .tc sp S32x1024 .f32) (c : ℕ) (hc : c ≤ 768) (r : ℕ) : Vec Ideal S16x256 .f32 :=
  if h : r ≤ 16 then v.readCov (Val := Elt Ideal) [⟨Rect.unit ![16, 0] ![16, 1024] inb_S32x1024_S16x1024_16_0, k0_pay28 (k0_pay10 x0 x1 x2)⟩,
        ⟨Rect.unit ![0, 0] ![16, 1024] inb_S32x1024_S16x1024_0_0, k0_pay6 x9⟩]
      (Rect.toLoadRect (Rect.unit (s := S32x1024) ![r, c] ![16, 256] (by
        intro a
        match a with
        | ⟨0, _⟩ => show r + 16 ≤ 32; omega
        | ⟨1, _⟩ => show c + 256 ≤ 1024; omega)))
  else fun _ => 0

theorem uld_at {sp : Space} (v : View sig .tc sp S32x1024 .f32) (c : ℕ) (hc : c ≤ 768) (r : ℕ) (h : r ≤ 16) (t : Fin 16) (x : Fin 256) :
    uld x0 x1 x2 x9 v c hc r (ix2 t x) = UB x0 x1 x2 x9 ⟨r + t.val, by omega⟩ ⟨c + x.val, by omega⟩ := by
  unfold uld
  rw [dif_pos h]
  exact ubuf_at x0 x1 x2 x9 v (p := 16) (q := 256) r c _ t x _ _

theorem ld_wp (g : ℕ) (hg : g < 4) (inb : ∀ a, (![g, 0, 0] : Fin 3 → ℕ) a + (![1, 256, 256] : Fin 3 → ℕ) a ≤ S4x256x256.size a) (x n : Fin 256) :
    (View.ld (Val := Elt Ideal) (S := S4x256x256) (e' := .bf16) x12 (Rect.unit (s := S4x256x256) ![g, 0, 0] ![1, 256, 256] inb) : (⟨3, ![1, 256, 256]⟩ : Shape).Idx → EReal) (ix3 0 x n)
      = x12 (ix3 ⟨g, hg⟩ x n) := by
  refine congrArg x12 (funext fun a => Fin.ext ?_)
  match a with
  | ⟨0, _⟩ => show g + 1 * 0 = g; omega
  | ⟨1, _⟩ => show 0 + 1 * x.val = x.val; omega
  | ⟨2, _⟩ => show 0 + 1 * n.val = n.val; omega

theorem ld_sc (c : ℕ) (inb : ∀ a, (![0, c] : Fin 2 → ℕ) a + (![1, 256] : Fin 2 → ℕ) a ≤ S1x1024.size a) (n : Fin 256) :
    (View.ld (Val := Elt Ideal) (S := S1x1024) (e' := .f32) x13 (Rect.unit (s := S1x1024) ![0, c] ![1, 256] inb) : (⟨2, ![1, 256]⟩ : Shape).Idx → EReal) (ix2 0 n)
      = x13 (ix2 0 ⟨c + n.val, by have : c + 256 ≤ 1024 := inb 1; omega⟩) := by
  refine congrArg x13 (funext fun a => Fin.ext ?_)
  match a with
  | ⟨0, _⟩ => rfl
  | ⟨1, _⟩ => show c + 1 * n.val = c + n.val; omega

/-- No window is longer than the history: the count of a row is its window. -/
theorem count_win (w : BitVec 32) (hw : w = 2048#32) (t : Fin 16) (n : ℕ) (hn : n ≤ 16) :
    min (k0_pay59 (F := Ideal) w (ix2 t 0) + 1) ((n : ℝ) : EReal) = ((n : ℝ) : EReal) := by
  subst hw
  refine min_eq_right ?_
  rw [count_at]
  have e : (IntOp.addi (2048#32) (BitVec.ofNat 32 t.val)).toInt = 2048 + t.val := by revert t; decide +kernel
  have e2 : FloatOps.sitofp (F := Ideal) .f32 (IntOp.addi (2048#32) (BitVec.ofNat 32 t.val)) = (((2048 + t.val : ℕ) : ℝ) : EReal) := by
    show ((((IntOp.addi (2048#32) (BitVec.ofNat 32 t.val)).toInt : ℤ) : ℝ) : EReal) = _
    rw [e]
    norm_cast
  rw [e2, ← EReal.coe_one, ← EReal.coe_add, EReal.coe_le_coe_iff]
  norm_cast
  omega

theorem pool_grp (g : Fin 4) (w : BitVec 32) (u : ℕ → Vec Ideal S16x256 .f32) (p : Vec Ideal S1x256x256 .bf16) (k : Vec Ideal S1x256 .f32)
    (hu : ∀ (r : ℕ) (h : r ≤ 16) (t : Fin 16) (x : Fin 256), u r (ix2 t x) = UB x0 x1 x2 x9 ⟨r + t.val, by omega⟩ ⟨256 * g.val + x.val, by omega⟩)
    (hp : ∀ x n, p (ix3 0 x n) = x12 (ix3 g x n)) (hk : ∀ n : Fin 256, k (ix2 0 n) = x13 (ix2 0 ⟨256 * g.val + n.val, by omega⟩))
    (hw : w = 2048#32) {W : EReal} (hW : W = ((2 ^ (g.val + 1) : ℕ) : ℝ)) (t : Fin 16) (n : Fin 256) :
    (∑ x : Fin 256, (Ideal.div (∑ j ∈ Finset.range (2 ^ (g.val + 1)), u (16 - j) (ix2 t x)) (min (k0_pay59 (F := Ideal) w (ix2 t 0) + 1) W)
          - k0_pay10 (F := Ideal) x0 x1 x2 (ix2 t ⟨256 * g.val + x.val, by omega⟩)) * p (ix3 0 x n)) * k (ix2 0 n)
      = PB x0 x1 x2 x9 x12 x13 t ⟨256 * g.val + n.val, by omega⟩ := by
  have hdiv : (256 * g.val + n.val) / 256 = g.val := by omega
  have hwin : win ⟨256 * g.val + n.val, by omega⟩ = 2 ^ (g.val + 1) := by unfold win; rw [hdiv]
  have hle : 2 ^ (g.val + 1) ≤ 16 := by
    have : ∀ g : Fin 4, 2 ^ (g.val + 1) ≤ 16 := by decide
    exact this g
  unfold PB
  rw [hwin, hW, count_win w hw t _ hle, hk]
  refine congrArg (· * _) (Finset.sum_congr rfl fun x _ => ?_)
  rw [hp, pay10_at]
  refine congrArg₂ (· * ·) (congrArg₂ (· - ·) (congrArg (Ideal.div · _) (Finset.sum_congr rfl fun j hj => ?_)) ?_) ?_
  · have hj' := Finset.mem_range.1 hj
    rw [hu (16 - j) (by omega), UBN, dif_pos (by omega)]
    exact congrArg₂ _ (Fin.ext (by show 16 - j + t.val = 16 + t.val - j; omega)) (Fin.ext (by show 256 * g.val + x.val = (256 * g.val + n.val) / 256 * 256 + x.val; omega))
  · exact congrArg _ (Fin.ext (by show 1280 + (256 * g.val + x.val) = 1280 + ((256 * g.val + n.val) / 256 * 256 + x.val); omega))
  · exact congrArg x12 (congrArg₂ (fun a b => ix3 a x b) (Fin.ext hdiv.symm) (Fin.ext (by show n.val = (256 * g.val + n.val) % 256; omega)))

theorem cols_cover (y : S1x16x1024.Idx) (q : ℕ) (hq : q ≤ (y 2).val) (hq2 : (y 2).val < q + 256)
    (inb : ∀ a, (![0, 0, q] : Fin 3 → ℕ) a + (![1, 16, 256] : Fin 3 → ℕ) a ≤ S1x16x1024.size a) :
    y ∈ (Rect.unit (s := S1x16x1024) ![0, 0, q] ![1, 16, 256] inb).set := by
  rw [Rect.mem_set_unit]
  intro a
  have h0 : (y 0).val < 1 := (y 0).isLt
  have h1 : (y 1).val < 16 := (y 1).isLt
  match a with
  | ⟨0, _⟩ => exact ⟨Nat.zero_le _, by show (y 0).val < 0 + 1; omega⟩
  | ⟨1, _⟩ => exact ⟨Nat.zero_le _, by show (y 1).val < 0 + 16; omega⟩
  | ⟨2, _⟩ => exact ⟨hq, hq2⟩

/-- A store of 256 columns from column `q` on, read at an index of its own. -/
theorem pool_of (q : ℕ) (inb : ∀ a, (![0, 0, q] : Fin 3 → ℕ) a + (![1, 16, 256] : Fin 3 → ℕ) a ≤ S1x16x1024.size a)
    (p : (⟨3, ![1, 16, 256]⟩ : Shape).Idx → EReal)
    (hp : ∀ (t : Fin 16) (d : Fin 256), p (ix3 0 t d) = PB x0 x1 x2 x9 x12 x13 t ⟨q + d.val, by have : q + 256 ≤ 1024 := inb 2; omega⟩)
    (x : (⟨3, ![1, 16, 256]⟩ : Shape).Idx) :
    p x = PB x0 x1 x2 x9 x12 x13 ((Rect.unit (s := S1x16x1024) ![0, 0, q] ![1, 16, 256] inb).emb x 1)
      ((Rect.unit (s := S1x16x1024) ![0, 0, q] ![1, 16, 256] inb).emb x 2) := by
  refine (congrArg p (eq_row x)).trans ((hp (x 1) (x 2)).trans ?_)
  refine congrArg₂ _ (Fin.ext ?_) (Fin.ext ?_)
  · show (x 1).val = 0 + 1 * (x 1).val; omega
  · show q + (x 2).val = q + 1 * (x 2).val; omega

set_option maxRecDepth 100000 in
set_option maxHeartbeats 4000000 in
/-- The block's pooling. -/
theorem out15_at (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
     (y : S1x16x1024.Idx) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 y = PB x0 x1 x2 x9 x12 x13 (y 1) (y 2) := by
  unfold out0_A_15 kernelRun0_A
  dsimp only
  sl_unfold_words
  simp only [View.readAt_eq_ld, Memref.IsWhole.read_unread]
  have z2 : (![0, 0] : Fin 2 → ℕ) = fun _ => 0 := by decide
  have z3 : (![0, 0, 0] : Fin 3 → ℕ) = fun _ => 0 := by decide
  simp only [View.ld_unit_zero (S := S1x16x2048) z3, View.ld_unit_zero (S := S1x2048) z2, View.ld_unit_zero (S := S2048x2304) z2, View.ld_unit_zero (S := S1x1152) z2, View.ld_unit_zero (S := S16x128) z2, View.ld_unit_zero (S := S1x128x128) z3, View.ld_unit_zero (S := S1x16x1024) z3, View.ld_unit_zero (S := S1152x128) z2, View.ld_unit_zero (S := S128x1152) z2]
  clear z2 z3
  have hw : Scalar.addi (2048#32) (Scalar.muli (BitVec.ofNat 32 (i 1).val) 16#32) = 2048#32 := by
    have : (i 1).val = 0 := Nat.lt_one_iff.1 (i 1).isLt
    rw [this]; decide
  rw [View.read_writes_junk_apply_eq_canon]
  refine View.canon_apply_of_pieces (Val := Elt Ideal) (S := S1x16x1024) (e := .bf16) (fun y => PB x0 x1 x2 x9 x12 x13 (y 1) (y 2)) _ ?_ y ?_
  · refine List.forall_mem_cons.2 ⟨fun x => pool_of x0 x1 x2 x9 x12 x13 768 inb_S1x16x1024_S1x16x256_0_0_768 _ (fun t n => (grp3_at (k0_pay10 x0 x1 x2) _ (uld x0 x1 x2 x9 arg23.view 768 (by omega)) _ _ t n).trans
        (pool_grp x0 x1 x2 x9 x12 x13 3 _ _ _ _ (uld_at x0 x1 x2 x9 arg23.view 768 (by omega)) (ld_wp x12 3 (by omega) inb_S4x256x256_S1x256x256_3_0_0) (ld_sc x13 768 inb_S1x1024_S1x256_0_768) hw bits_16 t n)) x, ?_⟩
    refine List.forall_mem_cons.2 ⟨fun x => pool_of x0 x1 x2 x9 x12 x13 512 inb_S1x16x1024_S1x16x256_0_0_512 _ (fun t n => (grp2_at (k0_pay10 x0 x1 x2) _ (uld x0 x1 x2 x9 arg23.view 512 (by omega)) _ _ t n).trans
        (pool_grp x0 x1 x2 x9 x12 x13 2 _ _ _ _ (uld_at x0 x1 x2 x9 arg23.view 512 (by omega)) (ld_wp x12 2 (by omega) inb_S4x256x256_S1x256x256_2_0_0) (ld_sc x13 512 inb_S1x1024_S1x256_0_512) hw bits_8 t n)) x, ?_⟩
    refine List.forall_mem_cons.2 ⟨fun x => pool_of x0 x1 x2 x9 x12 x13 256 inb_S1x16x1024_S1x16x256_0_0_256 _ (fun t n => (grp1_at (k0_pay10 x0 x1 x2) _ (uld x0 x1 x2 x9 arg23.view 256 (by omega)) _ _ t n).trans
        (pool_grp x0 x1 x2 x9 x12 x13 1 _ _ _ _ (uld_at x0 x1 x2 x9 arg23.view 256 (by omega)) (ld_wp x12 1 (by omega) inb_S4x256x256_S1x256x256_1_0_0) (ld_sc x13 256 inb_S1x1024_S1x256_0_256) hw bits_4 t n)) x, ?_⟩
    refine List.forall_mem_cons.2 ⟨fun x => pool_of x0 x1 x2 x9 x12 x13 0 inb_S1x16x1024_S1x16x256_0_0_0 _ (fun t n => (grp0_at (k0_pay10 x0 x1 x2) _ (uld x0 x1 x2 x9 arg23.view 0 (by omega)) _ _ t n).trans
        (pool_grp x0 x1 x2 x9 x12 x13 0 _ _ _ _ (uld_at x0 x1 x2 x9 arg23.view 0 (by omega)) (ld_wp x12 0 (by omega) inb_S4x256x256_S1x256x256_0_0_0) (ld_sc x13 0 inb_S1x1024_S1x256_0_0) hw bits_2 t n)) x, ?_⟩
    exact fun p hp => absurd hp List.not_mem_nil
  · exact View.cover_of_tiledL (s := S1x16x1024) _ S1x16x256.size (by sl_kernel_rfl) y

end Cert.KernelIdeal.Front
-- ==== Proof.KI.EqA.lean ====
/-
  What a block computes is what the reference computes of its sample: the attention and the pooling.
-/
module

public import proofs.«01_k».proof.Proof.KI.Eq
public import proofs.«01_k».proof.Proof.KI.Att
public import proofs.«01_k».proof.Proof.KI.PoolB

@[expose] public section

noncomputable section

namespace Cert.KernelIdeal.Front

open Idealize.ShloMosaic Idealize.ShloMosaic.Pointwise Cert.KernelIdeal Cert.KernelIdeal.Gen Cert.Front

/-- The projection's columns are numbers where the arguments are. -/
theorem proj_num {X G W : Fin 2048 → EReal} (hX : ∀ x, IsNum (X x)) (hG : ∀ x, IsNum (G x)) (hW : ∀ x, IsNum (W x)) : IsNum (proj X G W) := by
  choose r hr using hX
  obtain ⟨e, he, hee⟩ := bits_eps
  unfold proj
  refine IsNum.sum fun x => ((IsNum.mul ⟨r x, hr x⟩ ?_).mul (hG x)).mul (hW x)
  have : Ideal.rsqrt (Ideal.div (∑ x, X x * X x) (Ideal.ofBits .f32 0x45000000#32) + Ideal.ofBits .f32 0x3727C5AC#32)
      = Ideal.rsqrt (((∑ d, r d * r d) * (1 / 2048) + e : ℝ) : EReal) := by
    rw [bits_2048, hee, Ideal.div_coe (by norm_num)]
    simp only [hr, ← EReal.coe_mul, coe_sum, ← EReal.coe_add]
  rw [this]
  refine isNum_rsqrt ?_
  have : 0 ≤ ∑ d, r d * r d := Finset.sum_nonneg fun d _ => mul_self_nonneg _
  positivity

/-- The running maximum of numbers from `-∞` is `-∞` or a number. -/
theorem fold_num {ι : Type} [Fintype ι] (s : ι → EReal) (hs : ∀ j, IsNum (s j)) (A : Finset ι) :
    A.fold max ⊥ s = ⊥ ∨ IsNum (A.fold max ⊥ s) := by
  classical
  refine Finset.induction_on (motive := fun A => A.fold max ⊥ s = ⊥ ∨ IsNum (A.fold max ⊥ s)) A (Or.inl (by simp)) ?_
  intro i A hi h
  rw [Finset.fold_insert hi]
  right
  rcases h with h | h
  · rw [h, max_eq_left bot_le]; exact hs i
  · exact (hs i).max h

theorem top_num {s : Fin 144 → EReal} {k : EReal} (hs : ∀ j, IsNum (s j)) (hk : IsNum k) : IsNum (top s k) := by
  unfold top
  rw [bits_negInf]
  rcases fold_num s hs Finset.univ with h | h
  · rw [h, max_eq_right bot_le]; exact hk
  · exact h.max hk

/-- The kernel divides the weighted sum, the reference the weights: the same where the scores are numbers. -/
theorem kattend_eq {s : Fin 144 → EReal} {k : EReal} (v : Fin 144 → EReal) (hs : ∀ j, IsNum (s j)) (hk : IsNum k) :
    kattend s k v = attend s k v := by
  obtain ⟨T, hT⟩ := top_num hs hk
  choose r hr using hs
  obtain ⟨q, hq⟩ := hk
  have hD : denom s k = ((∑ j, Real.exp (r j - T) + Real.exp (q - T) : ℝ) : EReal) := by
    unfold denom
    rw [hT, hq, EReal.coe_add, ← coe_sum, ← EReal.coe_sub]
    refine congrArg₂ (· + ·) (Finset.sum_congr rfl fun j _ => ?_) rfl
    rw [hr, ← EReal.coe_sub]
    rfl
  have hp : 0 < ∑ j, Real.exp (r j - T) + Real.exp (q - T) :=
    add_pos_of_nonneg_of_pos (Finset.sum_nonneg fun j _ => (Real.exp_pos _).le) (Real.exp_pos _)
  unfold kattend attend
  rw [hD, Ideal.div_coe hp.ne', sum_mul_num _ (by positivity)]
  refine Finset.sum_congr rfl fun j _ => ?_
  rw [Ideal.div_coe hp.ne', mul_comm (Ideal.exp _) (v j), mul_assoc]

variable {X0 : Arr Sx} {X1 X2 : Arr Sc} {X3 : Arr Sp} {X4 : Arr Sg} {X5 : Arr Sw} {X6 X7 : Arr Sh} {X8 : Arr Ss}
    {X9 : Arr Swp} {X10 : Arr Sps} {b : Fin 8}
    {x0 : Vec Ideal S1x16x2048 .f32} {x1 : Vec Ideal S1x2048 .f32} {x2 : Vec Ideal S2048x2304 .bf16}
    {x3 : Vec Ideal S1x1152 .f32} {x4 : Vec Ideal S2x128x1 .f32} {x5 x6 : Vec Ideal S16x128 .f32}
    {x7 x8 : Vec Ideal S1x128x128 .f32} {x9 : Vec Ideal S1x16x1024 .f32} {x10 : Vec Ideal S1152x128 .bf16}
    {x11 : Vec Ideal S128x1152 .bf16} {x12 : Vec Ideal S4x256x256 .bf16} {x13 : Vec Ideal S1x1024 .f32}
    (B : IsBlock X0 X1 X2 X3 X4 X5 X6 X7 X8 X9 X10 b x0 x1 x2 x3 x4 x5 x6 x7 x8 x9 x10 x11 x12 x13)
    (hz : ∀ b t n, IsNum (z X0 X4 X5 b t n)) (h1 : ∀ i, IsNum (X1 i)) (h6 : ∀ i, IsNum (X6 i)) (h7 : ∀ i, IsNum (X7 i)) (h8 : ∀ i, IsNum (X8 i))

theorem z_num (h0 : ∀ i, IsNum (X0 i)) (h4 : ∀ i, IsNum (X4 i)) (h5 : ∀ i, IsNum (X5 i)) (b : Fin 8) (t : Fin 16) (n : Fin 6400) :
    IsNum (z X0 X4 X5 b t n) := proj_num (fun _ => h0 _) (fun _ => h4 _) (fun _ => h5 _)

theorem norm_num' {Z g : Fin 64 → EReal} (hZ : ∀ d, IsNum (Z d)) (hg : ∀ d, IsNum (g d)) (d : Fin 64) : IsNum (headNorm Z g d) :=
  ((hZ d).mul (headScale_num Z hZ)).mul (hg d)

include hz h6 in
theorem qrot_num (b : Fin 8) (t : Fin 16) (h : Fin 16) (d : Fin 64) : IsNum (qrot X0 X4 X5 X6 b t h d) :=
  rope_num (fun p => isNum_cos (theta_num t p)) (fun p => isNum_sin (theta_num t p)) (norm_num' (fun _ => hz _ _ _) fun _ => h6 _) d

include hz h1 h7 in
theorem keys_num (b : Fin 8) (j : Fin 144) (h : Fin 2) (d : Fin 64) : IsNum (keys X0 X1 X4 X5 X7 b j h d) := by
  unfold keys
  split_ifs
  · exact h1 _
  · exact rope_num (fun p => isNum_cos (theta_num _ p)) (fun p => isNum_sin (theta_num _ p)) (norm_num' (fun _ => hz _ _ _) fun _ => h7 _) d

include hz h1 h6 h7 in
theorem score_num (b : Fin 8) (g : Fin 2) (h : Fin 8) (t : Fin 16) (j : Fin 144) : IsNum (score X0 X1 X4 X5 X6 X7 b g h t j) := by
  unfold score
  rw [bits_8th]
  exact (IsNum.sum fun d => (keys_num hz h1 h7 _ _ _ _).mul (qrot_num hz h6 _ _ _ _)).mul ⟨_, rfl⟩

include B hz h1 h6 h7 h8 in
/-- The block's attention is the reference's. -/
theorem ATB_eq (t : Fin 16) (c : Fin 1024) : ATB x0 x1 x2 x3 x4 x5 x6 x7 x8 x10 x11 t c
    = attOut X0 X1 X2 X4 X5 X6 X7 X8 b t ⟨c.val / 512, by omega⟩ ⟨c.val / 64 % 8, by omega⟩ ⟨c.val % 64, by omega⟩ := by
  unfold ATB attOut
  rw [← kattend_eq _ (score_num hz h1 h6 h7 _ _ _ _) (h8 _)]
  have e1 : (fun j => ∑ x : Fin 64, ROT x0 x1 x2 x3 x5 x6 x10 x11 t ⟨64 * (c.val / 64) + x.val, by omega⟩
      * KB x0 x1 x2 x3 x5 x6 x7 x10 x11 j ⟨64 * (c.val / 512) + x.val, by omega⟩)
      = score X0 X1 X4 X5 X6 X7 b ⟨c.val / 512, by omega⟩ ⟨c.val / 64 % 8, by omega⟩ t := by
    funext j
    unfold score
    rw [bits_8th, sum_mul_num _ (by norm_num)]
    refine Finset.sum_congr rfl fun d _ => ?_
    have a : ROT x0 x1 x2 x3 x5 x6 x10 x11 t ⟨64 * (c.val / 64) + d.val, by omega⟩
        = qrot X0 X4 X5 X6 b t ⟨c.val / 512 * 8 + c.val / 64 % 8, by omega⟩ d * Ideal.ofBits .f32 0x3E000000#32 := by
      refine (congrArg _ (Fin.ext ?_)).trans (ROT_q B hz t ⟨c.val / 512 * 8 + c.val / 64 % 8, by omega⟩ d)
      show 64 * (c.val / 64) + d.val = (c.val / 512 * 8 + c.val / 64 % 8) * 64 + d.val; omega
    have k : KB x0 x1 x2 x3 x5 x6 x7 x10 x11 j ⟨64 * (c.val / 512) + d.val, by omega⟩ = keys X0 X1 X4 X5 X7 b j ⟨c.val / 512, by omega⟩ d := by
      rw [KB_eq B hz]
      refine congrArg₂ (fun h d => keys X0 X1 X4 X5 X7 b j h d) (Fin.ext ?_) (Fin.ext ?_)
      · show (64 * (c.val / 512) + d.val) / 64 = c.val / 512; omega
      · show (64 * (c.val / 512) + d.val) % 64 = d.val; omega
    rw [a, k, bits_8th, mul_comm, ← mul_assoc]
  have e2 : x4 (ix3 ⟨c.val / 512, by omega⟩ ⟨16 * (c.val / 64 % 8) + t.val, by omega⟩ 0)
      = X8 (ix2 0 ⟨c.val / 512 * 8 + c.val / 64 % 8, by omega⟩) := by
    rw [B.h4]
    exact congrArg (fun h => X8 (ix2 0 h)) (Fin.ext (by show c.val / 512 * 8 + (16 * (c.val / 64 % 8) + t.val) / 16 = c.val / 512 * 8 + c.val / 64 % 8; omega))
  have e3 : (fun j => VB x0 x1 x2 x8 j ⟨64 * (c.val / 512) + c.val % 64, by omega⟩)
      = fun j => vals X0 X2 X4 X5 b j ⟨c.val / 512, by omega⟩ ⟨c.val % 64, by omega⟩ := by
    funext j
    rw [VB_eq B]
    refine congrArg₂ (fun h d => vals X0 X2 X4 X5 b j h d) (Fin.ext ?_) (Fin.ext ?_)
    · show (64 * (c.val / 512) + c.val % 64) / 64 = c.val / 512; omega
    · show (64 * (c.val / 512) + c.val % 64) % 64 = c.val % 64; omega
  rw [e1, e2, e3]

include B in
theorem UBN_eq (c : Fin 1024) : UBN x0 x1 x2 x9 c = urow X0 X3 X4 X5 b c := by
  funext r
  unfold UBN
  split_ifs with h
  · exact UB_eq B ⟨r, h⟩ c
  · unfold urow
    rw [dif_neg (by omega), dif_neg (by omega), dif_neg (by omega)]

include B in
/-- The block's pooling is the reference's. -/
theorem PB_eq (t : Fin 16) (c : Fin 1024) : PB x0 x1 x2 x9 x12 x13 t c = poolOut X0 X3 X4 X5 X9 X10 b t c := by
  unfold PB poolOut pooled
  rw [B.h13]
  refine congrArg (· * _) (Finset.sum_congr rfl fun x _ => ?_)
  rw [UBN_eq B, ZB_eq B, B.h12, mul_comm]
  have : win ⟨c.val / 256 * 256 + x.val, by omega⟩ = win c := by
    unfold win
    refine congrArg (fun k => 2 ^ (k + 1)) ?_
    show (c.val / 256 * 256 + x.val) / 256 = c.val / 256; omega
  rw [this]

end Cert.KernelIdeal.Front
-- ==== Proof.KI.AttB.lean ====
/-
  What one block of the kernel writes to the attention's array.
-/
module

public import proofs.«01_k».proof.Proof.KI.Value
public import proofs.«01_k».proof.Proof.KI.Att

@[expose] public section

set_option maxRecDepth 16384

noncomputable section

namespace Cert.KernelIdeal.Front

open Cert.KernelIdeal Cert.KernelIdeal.Gen Idealize.ShloMosaic Idealize.ShloMosaic.TcCoe Idealize.ShloMosaic.Tactic Idealize.SL.Sem
open Idealize.ShloMosaic.Pointwise Cert.Front

variable (x0 : Vec Ideal S1x16x2048 .f32) (x1 : Vec Ideal S1x2048 .f32) (x2 : Vec Ideal S2048x2304 .bf16)
  (x3 : Vec Ideal S1x1152 .f32) (x4 : Vec Ideal S2x128x1 .f32) (x5 x6 : Vec Ideal S16x128 .f32)
  (x7 x8 : Vec Ideal S1x128x128 .f32) (x9 : Vec Ideal S1x16x1024 .f32) (x10 : Vec Ideal S1152x128 .bf16)
  (x11 : Vec Ideal S128x1152 .bf16) (x12 : Vec Ideal S4x256x256 .bf16) (x13 : Vec Ideal S1x1024 .f32)
set_option maxRecDepth 100000 in
set_option maxHeartbeats 4000000 in
/-- The block's attention. -/
theorem out14_at (c : Dev nD) (i : grid0.Coords) (arg2 : Memref sig .tc .vmem S1x16x2048 .f32) (harg2 : arg2.IsWhole) (arg3 : Memref sig .tc .vmem S1x2048 .f32) (harg3 : arg3.IsWhole) (arg4 : Memref sig .tc .vmem S2048x2304 .bf16) (harg4 : arg4.IsWhole) (arg5 : Memref sig .tc .vmem S1x1152 .f32) (harg5 : arg5.IsWhole) (arg6 : Memref sig .tc .vmem S2x128x1 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x16x1024 .f32) (harg11 : arg11.IsWhole) (arg12 : Memref sig .tc .vmem S1152x128 .bf16) (harg12 : arg12.IsWhole) (arg13 : Memref sig .tc .vmem S128x1152 .bf16) (harg13 : arg13.IsWhole) (arg14 : Memref sig .tc .vmem S4x256x256 .bf16) (harg14 : arg14.IsWhole) (arg15 : Memref sig .tc .vmem S1x1024 .f32) (harg15 : arg15.IsWhole) (arg16 : Memref sig .tc .vmem S1x16x1024 .bf16) (harg16 : arg16.IsWhole) (arg17 : Memref sig .tc .vmem S1x16x1024 .bf16) (harg17 : arg17.IsWhole) (arg18 : Memref sig .tc .vmem S1x128x128 .f32) (harg18 : arg18.IsWhole) (arg19 : Memref sig .tc .vmem S1x128x128 .f32) (harg19 : arg19.IsWhole) (arg20 : Memref sig .tc .vmem S1x15x1024 .f32) (harg20 : arg20.IsWhole) (arg21 : Memref sig .tc .vmem S144x128 .f32) (harg21 : arg21.IsWhole) (arg22 : Memref sig .tc .vmem S144x128 .f32) (harg22 : arg22.IsWhole) (arg23 : Memref sig .tc .vmem S32x1024 .f32) (harg23 : arg23.IsWhole) (hc0 : cond0_0 i)
     (y : S1x16x1024.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 y
    = ATB x0 x1 x2 x3 x4 x5 x6 x7 x8 x10 x11 (y 1) (y 2) := by
  unfold out0_A_14 kernelRun0_A
  dsimp only
  sl_unfold_words
  simp only [View.readAt_eq_ld, Memref.IsWhole.read_unread]
  have z2 : (![0, 0] : Fin 2 → ℕ) = fun _ => 0 := by decide
  have z3 : (![0, 0, 0] : Fin 3 → ℕ) = fun _ => 0 := by decide
  simp only [View.ld_unit_zero (S := S1x16x2048) z3, View.ld_unit_zero (S := S1x2048) z2, View.ld_unit_zero (S := S2048x2304) z2, View.ld_unit_zero (S := S1x1152) z2, View.ld_unit_zero (S := S16x128) z2, View.ld_unit_zero (S := S1x128x128) z3, View.ld_unit_zero (S := S1x16x1024) z3, View.ld_unit_zero (S := S1152x128) z2, View.ld_unit_zero (S := S128x1152) z2]
  clear z2 z3
  have hkb := fun j l => kbuf_at x0 x1 x2 x3 x5 x6 x7 x10 x11 arg21.view (p := 144) (q := 128) 0 0 inb_S144x128_S144x128_0_0 j l (by omega) (by omega)
  have hvb := fun j l => vbuf_at x0 x1 x2 x8 arg22.view (p := 144) (q := 128) 0 0 inb_S144x128_S144x128_0_0 j l (by omega) (by omega)
  simp only [Nat.zero_add] at hkb hvb
  generalize arg21.view.readCov (Val := Elt Ideal) _ (Rect.unit ![0, 0] ![144, 128] inb_S144x128_S144x128_0_0).toLoadRect = kb at hkb ⊢
  generalize arg22.view.readCov (Val := Elt Ideal) _ (Rect.unit ![0, 0] ![144, 128] inb_S144x128_S144x128_0_0).toLoadRect = vb at hvb ⊢
  rw [View.read_writes_junk_apply_eq_canon]
  refine View.canon_apply_of_pieces (Val := Elt Ideal) (S := S1x16x1024) (e := .bf16) (fun y => ATB x0 x1 x2 x3 x4 x5 x6 x7 x8 x10 x11 (y 1) (y 2)) _ ?_ y ?_
  · refine List.forall_mem_cons.2 ⟨fun x => store_of x0 x1 x2 x3 x4 x5 x6 x7 x8 x10 x11 960 inb_S1x16x1024_S1x16x64_0_0_960 _ (fun t d => (head15_at _ _ _ _ _ t d).trans ((pay49_at _ _ _ _ _ _ _ _ _).trans
        (att1 x0 x1 x2 x3 x4 x5 x6 x7 x8 x10 x11 kb vb hkb hvb 7 t d))) x, ?_⟩
    refine List.forall_mem_cons.2 ⟨fun x => store_of x0 x1 x2 x3 x4 x5 x6 x7 x8 x10 x11 896 inb_S1x16x1024_S1x16x64_0_0_896 _ (fun t d => (head14_at _ _ _ _ _ t d).trans ((pay49_at _ _ _ _ _ _ _ _ _).trans
        (att1 x0 x1 x2 x3 x4 x5 x6 x7 x8 x10 x11 kb vb hkb hvb 6 t d))) x, ?_⟩
    refine List.forall_mem_cons.2 ⟨fun x => store_of x0 x1 x2 x3 x4 x5 x6 x7 x8 x10 x11 832 inb_S1x16x1024_S1x16x64_0_0_832 _ (fun t d => (head13_at _ _ _ _ _ t d).trans ((pay49_at _ _ _ _ _ _ _ _ _).trans
        (att1 x0 x1 x2 x3 x4 x5 x6 x7 x8 x10 x11 kb vb hkb hvb 5 t d))) x, ?_⟩
    refine List.forall_mem_cons.2 ⟨fun x => store_of x0 x1 x2 x3 x4 x5 x6 x7 x8 x10 x11 768 inb_S1x16x1024_S1x16x64_0_0_768 _ (fun t d => (head12_at _ _ _ _ _ t d).trans ((pay49_at _ _ _ _ _ _ _ _ _).trans
        (att1 x0 x1 x2 x3 x4 x5 x6 x7 x8 x10 x11 kb vb hkb hvb 4 t d))) x, ?_⟩
    refine List.forall_mem_cons.2 ⟨fun x => store_of x0 x1 x2 x3 x4 x5 x6 x7 x8 x10 x11 704 inb_S1x16x1024_S1x16x64_0_0_704 _ (fun t d => (head11_at _ _ _ _ _ t d).trans ((pay49_at _ _ _ _ _ _ _ _ _).trans
        (att1 x0 x1 x2 x3 x4 x5 x6 x7 x8 x10 x11 kb vb hkb hvb 3 t d))) x, ?_⟩
    refine List.forall_mem_cons.2 ⟨fun x => store_of x0 x1 x2 x3 x4 x5 x6 x7 x8 x10 x11 640 inb_S1x16x1024_S1x16x64_0_0_640 _ (fun t d => (head10_at _ _ _ _ _ t d).trans ((pay49_at _ _ _ _ _ _ _ _ _).trans
        (att1 x0 x1 x2 x3 x4 x5 x6 x7 x8 x10 x11 kb vb hkb hvb 2 t d))) x, ?_⟩
    refine List.forall_mem_cons.2 ⟨fun x => store_of x0 x1 x2 x3 x4 x5 x6 x7 x8 x10 x11 576 inb_S1x16x1024_S1x16x64_0_0_576 _ (fun t d => (head9_at _ _ _ _ _ t d).trans ((pay49_at _ _ _ _ _ _ _ _ _).trans
        (att1 x0 x1 x2 x3 x4 x5 x6 x7 x8 x10 x11 kb vb hkb hvb 1 t d))) x, ?_⟩
    refine List.forall_mem_cons.2 ⟨fun x => store_of x0 x1 x2 x3 x4 x5 x6 x7 x8 x10 x11 512 inb_S1x16x1024_S1x16x64_0_0_512 _ (fun t d => (head8_at _ _ _ _ _ t d).trans ((pay49_at _ _ _ _ _ _ _ _ _).trans
        (att1 x0 x1 x2 x3 x4 x5 x6 x7 x8 x10 x11 kb vb hkb hvb 0 t d))) x, ?_⟩
    refine List.forall_mem_cons.2 ⟨fun x => store_of x0 x1 x2 x3 x4 x5 x6 x7 x8 x10 x11 448 inb_S1x16x1024_S1x16x64_0_0_448 _ (fun t d => (head7_at _ _ _ t d).trans ((pay33_at _ _ _ _ _).trans
        (att0 x0 x1 x2 x3 x4 x5 x6 x7 x8 x10 x11 kb vb hkb hvb 7 t d))) x, ?_⟩
    refine List.forall_mem_cons.2 ⟨fun x => store_of x0 x1 x2 x3 x4 x5 x6 x7 x8 x10 x11 384 inb_S1x16x1024_S1x16x64_0_0_384 _ (fun t d => (head6_at _ _ _ t d).trans ((pay33_at _ _ _ _ _).trans
        (att0 x0 x1 x2 x3 x4 x5 x6 x7 x8 x10 x11 kb vb hkb hvb 6 t d))) x, ?_⟩
    refine List.forall_mem_cons.2 ⟨fun x => store_of x0 x1 x2 x3 x4 x5 x6 x7 x8 x10 x11 320 inb_S1x16x1024_S1x16x64_0_0_320 _ (fun t d => (head5_at _ _ _ t d).trans ((pay33_at _ _ _ _ _).trans
        (att0 x0 x1 x2 x3 x4 x5 x6 x7 x8 x10 x11 kb vb hkb hvb 5 t d))) x, ?_⟩
    refine List.forall_mem_cons.2 ⟨fun x => store_of x0 x1 x2 x3 x4 x5 x6 x7 x8 x10 x11 256 inb_S1x16x1024_S1x16x64_0_0_256 _ (fun t d => (head4_at _ _ _ t d).trans ((pay33_at _ _ _ _ _).trans
        (att0 x0 x1 x2 x3 x4 x5 x6 x7 x8 x10 x11 kb vb hkb hvb 4 t d))) x, ?_⟩
    refine List.forall_mem_cons.2 ⟨fun x => store_of x0 x1 x2 x3 x4 x5 x6 x7 x8 x10 x11 192 inb_S1x16x1024_S1x16x64_0_0_192 _ (fun t d => (head3_at _ _ _ t d).trans ((pay33_at _ _ _ _ _).trans
        (att0 x0 x1 x2 x3 x4 x5 x6 x7 x8 x10 x11 kb vb hkb hvb 3 t d))) x, ?_⟩
    refine List.forall_mem_cons.2 ⟨fun x => store_of x0 x1 x2 x3 x4 x5 x6 x7 x8 x10 x11 128 inb_S1x16x1024_S1x16x64_0_0_128 _ (fun t d => (head2_at _ _ _ t d).trans ((pay33_at _ _ _ _ _).trans
        (att0 x0 x1 x2 x3 x4 x5 x6 x7 x8 x10 x11 kb vb hkb hvb 2 t d))) x, ?_⟩
    refine List.forall_mem_cons.2 ⟨fun x => store_of x0 x1 x2 x3 x4 x5 x6 x7 x8 x10 x11 64 inb_S1x16x1024_S1x16x64_0_0_64 _ (fun t d => (head1_at _ _ _ t d).trans ((pay33_at _ _ _ _ _).trans
        (att0 x0 x1 x2 x3 x4 x5 x6 x7 x8 x10 x11 kb vb hkb hvb 1 t d))) x, ?_⟩
    refine List.forall_mem_cons.2 ⟨fun x => store_of x0 x1 x2 x3 x4 x5 x6 x7 x8 x10 x11 0 inb_S1x16x1024_S1x16x64_0_0_0 _ (fun t d => (head0_at _ _ _ t d).trans ((pay33_at _ _ _ _ _).trans
        (att0 x0 x1 x2 x3 x4 x5 x6 x7 x8 x10 x11 kb vb hkb hvb 0 t d))) x, ?_⟩
    exact fun p hp => absurd hp List.not_mem_nil
  · exact View.cover_of_tiledL (s := S1x16x1024) _ S1x16x64.size (by sl_kernel_rfl) y

end Cert.KernelIdeal.Front
-- ==== Proof.KI.Host.lean ====
/-
  The arrays that the operations before the call prepare, read at an index: slices, reshapes and tables.
-/
module

public import proofs.«01_k».proof.Proof.KI.Frame
public import proofs.«01_k».proof.Proof.Spec
public import Idealize.ShloMosaic.Lib.Pointwise
public import Idealize.ShloMosaic.Lib.StableHlo.ReadAt

@[expose] public section

noncomputable section

namespace Cert.KernelIdeal.Front

open Idealize.ShloMosaic Idealize.ShloMosaic.Pointwise Idealize.SL.Sem Cert.KernelIdeal Cert.KernelIdeal.Gen Cert.Front

variable (m : (ℓ : Loc nD τ sig) → Buf (Elt Ideal) ℓ) (c : Dev nD)

/-- The part of the projection that the call reads. -/
theorem V_v11 (k : Fin 2048) (n : Fin 2304) : (V m c main_v11 : Vec Ideal S2048x2304 .bf16) (ix2 k n)
    = (m ((c.tc : Thread nD τ).loc main_arg5) : Vec Ideal S1x2048x6400 .f32) (ix3 0 k ⟨n.val, by omega⟩) := by
  unfold V
  after_reads_at

/-- The first norm's weights. -/
theorem V_v12 (k : Fin 2048) : (V m c main_v12 : Vec Ideal S1x2048 .f32) (ix2 0 k)
    = (m ((c.tc : Thread nD τ).loc main_arg4) : Vec Ideal S1x2048 .f32) (ix2 0 k) := by
  unfold V
  after_reads_at

/-- The pooling's matrices. -/
theorem V_v33 (g : Fin 4) (x n : Fin 256) : (V m c main_v33 : Vec Ideal S4x256x256 .bf16) (ix3 g x n)
    = (m ((c.tc : Thread nD τ).loc main_arg9) : Vec Ideal S1x4x256x256 .f32) (ix4 0 g x n) := by
  unfold V
  after_reads_at

/-- The pooling's scales. -/
theorem V_v34 (k : Fin 1024) : (V m c main_v34 : Vec Ideal S1x1024 .f32) (ix2 0 k)
    = (m ((c.tc : Thread nD τ).loc main_arg10) : Vec Ideal S1x1024 .f32) (ix2 0 k) := by
  unfold V
  after_reads_at

/-- The cached keys, two heads side by side. -/
theorem V_v72 (b : Fin 8) (j l : Fin 128) : (V m c main_v72 : Vec Ideal S8x128x128 .f32) (ix3 b j l)
    = (m ((c.tc : Thread nD τ).loc main_arg1) : Vec Ideal S1x8x128x2x64 .f32) (ix5 0 b j ⟨l.val / 64, by omega⟩ ⟨l.val % 64, by omega⟩) := by
  unfold V
  after_reads_at

/-- The cached values, two heads side by side. -/
theorem V_v73 (b : Fin 8) (j l : Fin 128) : (V m c main_v73 : Vec Ideal S8x128x128 .f32) (ix3 b j l)
    = (m ((c.tc : Thread nD τ).loc main_arg2) : Vec Ideal S1x8x128x2x64 .f32) (ix5 0 b j ⟨l.val / 64, by omega⟩ ⟨l.val % 64, by omega⟩) := by
  unfold V
  after_reads_at

/-- The sinks: each head's repeated for its 16 rows. -/
theorem V_v74 (g : Fin 2) (r : Fin 128) : (V m c main_v74 : Vec Ideal S2x128x1 .f32) (ix3 g r 0)
    = (m ((c.tc : Thread nD τ).loc main_arg8) : Vec Ideal S1x16 .f32) (ix2 0 ⟨g.val * 8 + r.val / 16, by omega⟩) := by
  unfold V
  after_reads_at

/-- A row of zeros, then the history. -/
theorem V_v68 (b : Fin 8) (r : Fin 16) (l : Fin 1024) : (V m c main_v68 : Vec Ideal S8x16x1024 .f32) (ix3 b r l)
    = if h : r.val < 1 then (0 : EReal) else (m ((c.tc : Thread nD τ).loc main_arg3) : Vec Ideal S1x8x15x1024 .f32) (ix4 0 b ⟨r.val - 1, by omega⟩ l) := by
  unfold V
  after_reads_at

/-- The head norms' weights, the queries' times 1/8. -/
theorem V_v22 (k : Fin 1152) : (V m c main_v22 : Vec Ideal S1x1152 .f32) (ix2 0 k)
    = if h : k.val < 1024 then @HMul.hMul EReal EReal EReal _ ((m ((c.tc : Thread nD τ).loc main_arg6) : Vec Ideal S1x64 .f32) (ix2 0 ⟨k.val % 64, by omega⟩)) (Ideal.ofBits .f32 0x3E000000#32)
      else (m ((c.tc : Thread nD τ).loc main_arg7) : Vec Ideal S1x64 .f32) (ix2 0 ⟨(k.val - 1024) % 64, by omega⟩) := by
  unfold V
  after_reads_at
  refine dite_congr rfl (fun h => ?_) (fun h => ?_)
  · after_reads_at
  · after_reads_at

/-- The cosines. -/
theorem V_v63 (t : Fin 16) (l : Fin 128) : (V m c main_v63 : Vec Ideal S16x128 .f32) (ix2 t l)
    = if h : l.val % 64 < 8 then Ideal.cos (angle t ⟨l.val % 64, h⟩) else if h2 : l.val % 64 - 8 < 8 then Ideal.cos (angle t ⟨l.val % 64 - 8, h2⟩)
      else 1 := by
  unfold V
  after_reads_at
  refine dite_congr rfl (fun h => ?_) (fun h => dite_congr rfl (fun h2 => ?_) (fun h2 => ?_))
  · after_reads_at; rfl
  · after_reads_at; rfl
  · after_reads_at

/-- The sines, the first eight negated. -/
theorem V_v66 (t : Fin 16) (l : Fin 128) : (V m c main_v66 : Vec Ideal S16x128 .f32) (ix2 t l)
    = if h : l.val % 64 < 8 then -Ideal.sin (angle t ⟨l.val % 64, h⟩) else if h2 : l.val % 64 - 8 < 8 then Ideal.sin (angle t ⟨l.val % 64 - 8, h2⟩)
      else 0 := by
  unfold V
  after_reads_at
  refine dite_congr rfl (fun h => ?_) (fun h => dite_congr rfl (fun h2 => ?_) (fun h2 => ?_))
  · after_reads_at; rfl
  · after_reads_at; rfl
  · after_reads_at

/-- The quotient of a lane by 64, as the signed division rounding down computes it. -/
theorem floor_div (w : BitVec 32) (hw : w = 64#32) (k : Fin 1152) :
    Scalar.select
      (IntOp.andi
        (IntOp.cmpi CmpIPredicate.ne
          (if BitVec.ofNat 32 k.val = 0 then (0 : BitVec 32) else if (BitVec.ofNat 32 k.val).msb = true then -1 else 1)
          (if w = 0 then (0 : BitVec 32) else if BitVec.msb w = true then -1 else 1))
        (IntOp.cmpi CmpIPredicate.ne (IntOp.remsi ArithUnit.host (BitVec.ofNat 32 k.val) w) 0#32))
      (IntOp.subi (IntOp.divsi ArithUnit.host (BitVec.ofNat 32 k.val) w) 1#32)
      (IntOp.divsi ArithUnit.host (BitVec.ofNat 32 k.val) w) = BitVec.ofNat 32 (k.val / 64) := by
  subst hw
  revert k
  decide +kernel

/-- The table of heads: 1 at the head of the lane. -/
theorem V_v31 (k : Fin 1152) (h : Fin 128) : (V m c main_v31 : Vec Ideal S1152x128 .bf16) (ix2 k h)
    = if k.val / 64 = h.val then (1 : EReal) else 0 := by
  unfold V
  after_reads_at
  refine (congrArg (fun q => FloatOps.uitofp (F := Ideal) .bf16 (IntOp.cmpi .eq q (BitVec.ofNat 32 h.val))) (floor_div (id (constantI S_ 32 64#32) ix0) rfl k)).trans ?_
  have e : (BitVec.ofNat 32 (k.val / 64) = BitVec.ofNat 32 h.val) ↔ k.val / 64 = h.val := by
    rw [← BitVec.toNat_inj]
    simp only [BitVec.toNat_ofNat]
    omega
  by_cases hh : k.val / 64 = h.val
  · rw [if_pos hh, hh]
    simp [IntOp.cmpi, FloatOps.uitofp]
  · rw [if_neg hh]
    have : BitVec.ofNat 32 (k.val / 64) ≠ BitVec.ofNat 32 h.val := fun x => hh (e.1 x)
    simp [IntOp.cmpi, FloatOps.uitofp, this]

/-- The table of heads, transposed. -/
theorem V_v32 (k : Fin 1152) (h : Fin 128) : (V m c main_v32 : Vec Ideal S128x1152 .bf16) (ix2 h k)
    = (V m c main_v31 : Vec Ideal S1152x128 .bf16) (ix2 k h) := by
  unfold V
  after_reads_at

end Cert.KernelIdeal.Front
-- ==== Proof.KI.Blocks.lean ====
/-
  The blocks that the call reads at grid point `t` are those of sample `t`.
-/
module

public import proofs.«01_k».proof.Proof.KI.Host
public import proofs.«01_k».proof.Proof.KI.IsBlock
public import proofs.«01_k».proof.Proof.KI.Value
public import Idealize.ShloMosaic.Lib.Pipeline.ValueKit.Point

@[expose] public section

noncomputable section

namespace Cert.KernelIdeal.Front

open Idealize.ShloMosaic Idealize.ShloMosaic.Pointwise Idealize.SL.Sem Cert.KernelIdeal Cert.KernelIdeal.Gen Cert.Front

variable (m : (ℓ : Loc nD τ sig) → Buf (Elt Ideal) ℓ) (c : Dev nD)

/-- The sample of a grid point. -/
def smp (t : Fin cfg0.N) : Fin 8 := t

theorem idx : ∀ t : Fin cfg0.N,
    (win0_0.index t = ![t.val, 0, 0] ∧ win0_1.index t = ![0, 0] ∧ win0_2.index t = ![0, 0] ∧ win0_3.index t = ![0, 0] ∧ win0_4.index t = ![0, 0, 0])
    ∧ (win0_5.index t = ![0, 0] ∧ win0_6.index t = ![0, 0] ∧ win0_7.index t = ![t.val, 0, 0] ∧ win0_8.index t = ![t.val, 0, 0] ∧ win0_9.index t = ![t.val, 0, 0])
    ∧ (win0_10.index t = ![0, 0] ∧ win0_11.index t = ![0, 0] ∧ win0_12.index t = ![0, 0, 0] ∧ win0_13.index t = ![0, 0])
    ∧ (win0_14.index t = ![t.val, 0, 0] ∧ win0_15.index t = ![t.val, 0, 0] ∧ win0_16.index t = ![t.val, 0, 0] ∧ win0_17.index t = ![t.val, 0, 0] ∧ win0_18.index t = ![t.val, 0, 0]) :=
  (by decide +kernel : ∀ t : Fin grid0.N, _)

/-! Each window's block, as a part of its array. -/

theorem blk0 (t : Fin cfg0.N) (s : Fin 16) (x : Fin 2048) : (iblk m c 0 t : Vec Ideal S1x16x2048 .f32) (ix3 0 s x) = (V m c main_arg0 : Vec Ideal S8x16x2048 .f32) (ix3 (smp t) s x) := by
  blk_ext [iblk, smp, idx t]
theorem blk1 (t : Fin cfg0.N) (x : Fin 2048) : (iblk m c 1 t : Vec Ideal S1x2048 .f32) (ix2 0 x) = (V m c main_v12 : Vec Ideal S1x2048 .f32) (ix2 0 x) := by
  blk_ext [iblk, smp, idx t]
theorem blk2 (t : Fin cfg0.N) (x : Fin 2048) (n : Fin 2304) : (iblk m c 2 t : Vec Ideal S2048x2304 .bf16) (ix2 x n) = (V m c main_v11 : Vec Ideal S2048x2304 .bf16) (ix2 x n) := by
  blk_ext [iblk, smp, idx t]
theorem blk3 (t : Fin cfg0.N) (k : Fin 1152) : (iblk m c 3 t : Vec Ideal S1x1152 .f32) (ix2 0 k) = (V m c main_v22 : Vec Ideal S1x1152 .f32) (ix2 0 k) := by
  blk_ext [iblk, smp, idx t]
theorem blk4 (t : Fin cfg0.N) (g : Fin 2) (r : Fin 128) : (iblk m c 4 t : Vec Ideal S2x128x1 .f32) (ix3 g r 0) = (V m c main_v74 : Vec Ideal S2x128x1 .f32) (ix3 g r 0) := by
  blk_ext [iblk, smp, idx t]
theorem blk5 (t : Fin cfg0.N) (s : Fin 16) (l : Fin 128) : (iblk m c 5 t : Vec Ideal S16x128 .f32) (ix2 s l) = (V m c main_v63 : Vec Ideal S16x128 .f32) (ix2 s l) := by
  blk_ext [iblk, smp, idx t]
theorem blk6 (t : Fin cfg0.N) (s : Fin 16) (l : Fin 128) : (iblk m c 6 t : Vec Ideal S16x128 .f32) (ix2 s l) = (V m c main_v66 : Vec Ideal S16x128 .f32) (ix2 s l) := by
  blk_ext [iblk, smp, idx t]
theorem blk7 (t : Fin cfg0.N) (j l : Fin 128) : (iblk m c 7 t : Vec Ideal S1x128x128 .f32) (ix3 0 j l) = (V m c main_v72 : Vec Ideal S8x128x128 .f32) (ix3 (smp t) j l) := by
  blk_ext [iblk, smp, idx t]
theorem blk8 (t : Fin cfg0.N) (j l : Fin 128) : (iblk m c 8 t : Vec Ideal S1x128x128 .f32) (ix3 0 j l) = (V m c main_v73 : Vec Ideal S8x128x128 .f32) (ix3 (smp t) j l) := by
  blk_ext [iblk, smp, idx t]
theorem blk9 (t : Fin cfg0.N) (r : Fin 16) (l : Fin 1024) : (iblk m c 9 t : Vec Ideal S1x16x1024 .f32) (ix3 0 r l) = (V m c main_v68 : Vec Ideal S8x16x1024 .f32) (ix3 (smp t) r l) := by
  blk_ext [iblk, smp, idx t]
theorem blk10 (t : Fin cfg0.N) (k : Fin 1152) (h : Fin 128) : (iblk m c 10 t : Vec Ideal S1152x128 .bf16) (ix2 k h) = (V m c main_v31 : Vec Ideal S1152x128 .bf16) (ix2 k h) := by
  blk_ext [iblk, smp, idx t]
theorem blk11 (t : Fin cfg0.N) (k : Fin 1152) (h : Fin 128) : (iblk m c 11 t : Vec Ideal S128x1152 .bf16) (ix2 h k) = (V m c main_v32 : Vec Ideal S128x1152 .bf16) (ix2 h k) := by
  blk_ext [iblk, smp, idx t]
theorem blk12 (t : Fin cfg0.N) (g : Fin 4) (x n : Fin 256) : (iblk m c 12 t : Vec Ideal S4x256x256 .bf16) (ix3 g x n) = (V m c main_v33 : Vec Ideal S4x256x256 .bf16) (ix3 g x n) := by
  blk_ext [iblk, smp, idx t]
theorem blk13 (t : Fin cfg0.N) (k : Fin 1024) : (iblk m c 13 t : Vec Ideal S1x1024 .f32) (ix2 0 k) = (V m c main_v34 : Vec Ideal S1x1024 .f32) (ix2 0 k) := by
  blk_ext [iblk, smp, idx t]

theorem isBlock (t : Fin cfg0.N) : IsBlock (m ((c.tc : Thread nD τ).loc main_arg0) : Arr Sx) (m ((c.tc : Thread nD τ).loc main_arg1) : Arr Sc) (m ((c.tc : Thread nD τ).loc main_arg2) : Arr Sc) (m ((c.tc : Thread nD τ).loc main_arg3) : Arr Sp) (m ((c.tc : Thread nD τ).loc main_arg4) : Arr Sg) (m ((c.tc : Thread nD τ).loc main_arg5) : Arr Sw) (m ((c.tc : Thread nD τ).loc main_arg6) : Arr Sh) (m ((c.tc : Thread nD τ).loc main_arg7) : Arr Sh) (m ((c.tc : Thread nD τ).loc main_arg8) : Arr Ss) (m ((c.tc : Thread nD τ).loc main_arg9) : Arr Swp) (m ((c.tc : Thread nD τ).loc main_arg10) : Arr Sps) (smp t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  h0 s x := by rw [blk0, V_main_arg0]
  h1 x := by rw [blk1, V_v12]
  h2 x n := by rw [blk2, V_v11]
  h3 k := by
    rw [blk3, V_v22]
    split_ifs <;> rfl
  h4 g r := by rw [blk4, V_v74]
  h5 s l := by rw [blk5, V_v63]
  h6 s l := by rw [blk6, V_v66]
  h7 j l := by rw [blk7, V_v72]
  h8 j l := by rw [blk8, V_v73]
  h9 r l := by rw [blk9, V_v68]
  h10 k h := by rw [blk10, V_v31]
  h11 k h := by rw [blk11, V_v32, V_v31]
  h12 g x n := by rw [blk12, V_v33]
  h13 k := by rw [blk13, V_v34]

end Cert.KernelIdeal.Front
-- ==== Proof.KI.Arr.lean ====
/-
  The result arrays of the call, as functions of the arguments.
-/
module

public import proofs.«01_k».proof.Proof.Arrays
public import proofs.«01_k».proof.Proof.KI.EqA
public import proofs.«01_k».proof.Proof.KI.AttB
public import proofs.«01_k».proof.Proof.KI.State
public import proofs.«01_k».proof.Proof.KI.Blocks

@[expose] public section

noncomputable section

namespace Cert.KernelIdeal.Front

open Idealize.ShloMosaic Idealize.ShloMosaic.Pointwise Idealize.SL.Sem Cert.KernelIdeal Cert.KernelIdeal.Gen Cert.Front

variable (m : (ℓ : Loc nD τ sig) → Buf (Elt Ideal) ℓ) (c : Dev nD)
  (hz : ∀ b t n, IsNum (z (m ((c.tc : Thread nD τ).loc main_arg0) : Arr Sx) (m ((c.tc : Thread nD τ).loc main_arg4) : Arr Sg) (m ((c.tc : Thread nD τ).loc main_arg5) : Arr Sw) b t n))

include hz in
/-- What grid point `t` leaves of window 14. -/
theorem out14
    (h1 : ∀ i, IsNum ((m ((c.tc : Thread nD τ).loc main_arg1) : Arr Sc) i)) (h6 : ∀ i, IsNum ((m ((c.tc : Thread nD τ).loc main_arg6) : Arr Sh) i))
    (h7 : ∀ i, IsNum ((m ((c.tc : Thread nD τ).loc main_arg7) : Arr Sh) i)) (h8 : ∀ i, IsNum ((m ((c.tc : Thread nD τ).loc main_arg8) : Arr Ss) i)) (t : Fin cfg0.N) (j : Fin 16) (l : Fin 1024) : ((outsAt0 m c t).1 (ix3 0 j l) : EReal)
    = attArr (m ((c.tc : Thread nD τ).loc main_arg0) : Arr Sx) (m ((c.tc : Thread nD τ).loc main_arg1) : Arr Sc) (m ((c.tc : Thread nD τ).loc main_arg2) : Arr Sc) (m ((c.tc : Thread nD τ).loc main_arg4) : Arr Sg) (m ((c.tc : Thread nD τ).loc main_arg5) : Arr Sw) (m ((c.tc : Thread nD τ).loc main_arg6) : Arr Sh) (m ((c.tc : Thread nD τ).loc main_arg7) : Arr Sh) (m ((c.tc : Thread nD τ).loc main_arg8) : Arr Ss) (ix3 (smp t) j l) := by
  dsimp only [outsAt0]
  rw [out14_at]
  exact ATB_eq (isBlock m c t) hz h1 h6 h7 h8 _ _

/-- Where the block of grid point `t` lies in window 14's array. -/
theorem emb14 (t : Fin cfg0.N) (j : Fin 16) (l : Fin 1024) :
    ((cfg0.win 14).blk t).view.emb (ix3 0 j l : S1x16x1024.Idx) = (ix3 (smp t) j l : S8x16x1024.Idx) := by
  blk_ext [smp, idx t]

include hz in
/-- Window 14's array after the call. -/
theorem arr14
    (h1 : ∀ i, IsNum ((m ((c.tc : Thread nD τ).loc main_arg1) : Arr Sc) i)) (h6 : ∀ i, IsNum ((m ((c.tc : Thread nD τ).loc main_arg6) : Arr Sh) i))
    (h7 : ∀ i, IsNum ((m ((c.tc : Thread nD τ).loc main_arg7) : Arr Sh) i)) (h8 : ∀ i, IsNum ((m ((c.tc : Thread nD τ).loc main_arg8) : Arr Ss) i)) : (dats m 0 c).arrAt 14 cfg0.N = attArr (m ((c.tc : Thread nD τ).loc main_arg0) : Arr Sx) (m ((c.tc : Thread nD τ).loc main_arg1) : Arr Sc) (m ((c.tc : Thread nD τ).loc main_arg2) : Arr Sc) (m ((c.tc : Thread nD τ).loc main_arg4) : Arr Sg) (m ((c.tc : Thread nD τ).loc main_arg5) : Arr Sw) (m ((c.tc : Thread nD τ).loc main_arg6) : Arr Sh) (m ((c.tc : Thread nD τ).loc main_arg7) : Arr Sh) (m ((c.tc : Thread nD τ).loc main_arg8) : Arr Ss) := by
  refine (dats m 0 c).arrAt_eq_of_covers 14 _ (by decide +kernel) fun t hf y => ?_
  rw [after0_14]
  refine Eq.trans (congrArg (outsAt0 m c t).1 (eq_row (n := 16) (m := 1024) y)) ?_
  refine (out14 m c hz h1 h6 h7 h8 t (y 1) (y 2)).trans (congrArg _ ?_)
  exact (emb14 t (y 1) (y 2)).symm.trans (congrArg ((cfg0.win 14).blk t).view.emb (eq_row (n := 16) (m := 1024) y).symm)

/-- What grid point `t` leaves of window 15. -/
theorem out15 (t : Fin cfg0.N) (j : Fin 16) (l : Fin 1024) : ((outsAt0 m c t).2.1 (ix3 0 j l) : EReal)
    = poolArr (m ((c.tc : Thread nD τ).loc main_arg0) : Arr Sx) (m ((c.tc : Thread nD τ).loc main_arg3) : Arr Sp) (m ((c.tc : Thread nD τ).loc main_arg4) : Arr Sg) (m ((c.tc : Thread nD τ).loc main_arg5) : Arr Sw) (m ((c.tc : Thread nD τ).loc main_arg9) : Arr Swp) (m ((c.tc : Thread nD τ).loc main_arg10) : Arr Sps) (ix3 (smp t) j l) := by
  dsimp only [outsAt0]
  rw [out15_at]
  exact PB_eq (isBlock m c t) _ _

/-- Where the block of grid point `t` lies in window 15's array. -/
theorem emb15 (t : Fin cfg0.N) (j : Fin 16) (l : Fin 1024) :
    ((cfg0.win 15).blk t).view.emb (ix3 0 j l : S1x16x1024.Idx) = (ix3 (smp t) j l : S8x16x1024.Idx) := by
  blk_ext [smp, idx t]

/-- Window 15's array after the call. -/
theorem arr15 : (dats m 0 c).arrAt 15 cfg0.N = poolArr (m ((c.tc : Thread nD τ).loc main_arg0) : Arr Sx) (m ((c.tc : Thread nD τ).loc main_arg3) : Arr Sp) (m ((c.tc : Thread nD τ).loc main_arg4) : Arr Sg) (m ((c.tc : Thread nD τ).loc main_arg5) : Arr Sw) (m ((c.tc : Thread nD τ).loc main_arg9) : Arr Swp) (m ((c.tc : Thread nD τ).loc main_arg10) : Arr Sps) := by
  refine (dats m 0 c).arrAt_eq_of_covers 15 _ (by decide +kernel) fun t hf y => ?_
  rw [after0_15]
  refine Eq.trans (congrArg (outsAt0 m c t).2.1 (eq_row (n := 16) (m := 1024) y)) ?_
  refine (out15 m c t (y 1) (y 2)).trans (congrArg _ ?_)
  exact (emb15 t (y 1) (y 2)).symm.trans (congrArg ((cfg0.win 15).blk t).view.emb (eq_row (n := 16) (m := 1024) y).symm)

include hz in
/-- What grid point `t` leaves of window 16. -/
theorem out16 (t : Fin cfg0.N) (j : Fin 128) (l : Fin 128) : ((outsAt0 m c t).2.2.1 (ix3 0 j l) : EReal)
    = keyArr (m ((c.tc : Thread nD τ).loc main_arg0) : Arr Sx) (m ((c.tc : Thread nD τ).loc main_arg1) : Arr Sc) (m ((c.tc : Thread nD τ).loc main_arg4) : Arr Sg) (m ((c.tc : Thread nD τ).loc main_arg5) : Arr Sw) (m ((c.tc : Thread nD τ).loc main_arg7) : Arr Sh) (ix3 (smp t) j l) := by
  dsimp only [outsAt0]
  rw [out16_at]
  exact KB_eq (isBlock m c t) hz _ _

/-- Where the block of grid point `t` lies in window 16's array. -/
theorem emb16 (t : Fin cfg0.N) (j : Fin 128) (l : Fin 128) :
    ((cfg0.win 16).blk t).view.emb (ix3 0 j l : S1x128x128.Idx) = (ix3 (smp t) j l : S8x128x128.Idx) := by
  blk_ext [smp, idx t]

include hz in
/-- Window 16's array after the call. -/
theorem arr16 : (dats m 0 c).arrAt 16 cfg0.N = keyArr (m ((c.tc : Thread nD τ).loc main_arg0) : Arr Sx) (m ((c.tc : Thread nD τ).loc main_arg1) : Arr Sc) (m ((c.tc : Thread nD τ).loc main_arg4) : Arr Sg) (m ((c.tc : Thread nD τ).loc main_arg5) : Arr Sw) (m ((c.tc : Thread nD τ).loc main_arg7) : Arr Sh) := by
  refine (dats m 0 c).arrAt_eq_of_covers 16 _ (by decide +kernel) fun t hf y => ?_
  rw [after0_16]
  refine Eq.trans (congrArg (outsAt0 m c t).2.2.1 (eq_row (n := 128) (m := 128) y)) ?_
  refine (out16 m c hz t (y 1) (y 2)).trans (congrArg _ ?_)
  exact (emb16 t (y 1) (y 2)).symm.trans (congrArg ((cfg0.win 16).blk t).view.emb (eq_row (n := 128) (m := 128) y).symm)

/-- What grid point `t` leaves of window 17. -/
theorem out17 (t : Fin cfg0.N) (j : Fin 128) (l : Fin 128) : ((outsAt0 m c t).2.2.2.1 (ix3 0 j l) : EReal)
    = valArr (m ((c.tc : Thread nD τ).loc main_arg0) : Arr Sx) (m ((c.tc : Thread nD τ).loc main_arg2) : Arr Sc) (m ((c.tc : Thread nD τ).loc main_arg4) : Arr Sg) (m ((c.tc : Thread nD τ).loc main_arg5) : Arr Sw) (ix3 (smp t) j l) := by
  dsimp only [outsAt0]
  rw [out17_at]
  exact VB_eq (isBlock m c t) _ _

/-- Where the block of grid point `t` lies in window 17's array. -/
theorem emb17 (t : Fin cfg0.N) (j : Fin 128) (l : Fin 128) :
    ((cfg0.win 17).blk t).view.emb (ix3 0 j l : S1x128x128.Idx) = (ix3 (smp t) j l : S8x128x128.Idx) := by
  blk_ext [smp, idx t]

/-- Window 17's array after the call. -/
theorem arr17 : (dats m 0 c).arrAt 17 cfg0.N = valArr (m ((c.tc : Thread nD τ).loc main_arg0) : Arr Sx) (m ((c.tc : Thread nD τ).loc main_arg2) : Arr Sc) (m ((c.tc : Thread nD τ).loc main_arg4) : Arr Sg) (m ((c.tc : Thread nD τ).loc main_arg5) : Arr Sw) := by
  refine (dats m 0 c).arrAt_eq_of_covers 17 _ (by decide +kernel) fun t hf y => ?_
  rw [after0_17]
  refine Eq.trans (congrArg (outsAt0 m c t).2.2.2.1 (eq_row (n := 128) (m := 128) y)) ?_
  refine (out17 m c t (y 1) (y 2)).trans (congrArg _ ?_)
  exact (emb17 t (y 1) (y 2)).symm.trans (congrArg ((cfg0.win 17).blk t).view.emb (eq_row (n := 128) (m := 128) y).symm)

/-- What grid point `t` leaves of window 18. -/
theorem out18 (t : Fin cfg0.N) (j : Fin 15) (l : Fin 1024) : ((outsAt0 m c t).2.2.2.2 (ix3 0 j l) : EReal)
    = rowArr (m ((c.tc : Thread nD τ).loc main_arg0) : Arr Sx) (m ((c.tc : Thread nD τ).loc main_arg3) : Arr Sp) (m ((c.tc : Thread nD τ).loc main_arg4) : Arr Sg) (m ((c.tc : Thread nD τ).loc main_arg5) : Arr Sw) (ix3 (smp t) j l) := by
  dsimp only [outsAt0]
  rw [out18_at]
  exact UB_eq (isBlock m c t) _ _

/-- Where the block of grid point `t` lies in window 18's array. -/
theorem emb18 (t : Fin cfg0.N) (j : Fin 15) (l : Fin 1024) :
    ((cfg0.win 18).blk t).view.emb (ix3 0 j l : S1x15x1024.Idx) = (ix3 (smp t) j l : S8x15x1024.Idx) := by
  blk_ext [smp, idx t]

/-- Window 18's array after the call. -/
theorem arr18 : (dats m 0 c).arrAt 18 cfg0.N = rowArr (m ((c.tc : Thread nD τ).loc main_arg0) : Arr Sx) (m ((c.tc : Thread nD τ).loc main_arg3) : Arr Sp) (m ((c.tc : Thread nD τ).loc main_arg4) : Arr Sg) (m ((c.tc : Thread nD τ).loc main_arg5) : Arr Sw) := by
  refine (dats m 0 c).arrAt_eq_of_covers 18 _ (by decide +kernel) fun t hf y => ?_
  rw [after0_18]
  refine Eq.trans (congrArg (outsAt0 m c t).2.2.2.2 (eq_row (n := 15) (m := 1024) y)) ?_
  refine (out18 m c t (y 1) (y 2)).trans (congrArg _ ?_)
  exact (emb18 t (y 1) (y 2)).symm.trans (congrArg ((cfg0.win 18).blk t).view.emb (eq_row (n := 15) (m := 1024) y).symm)

end Cert.KernelIdeal.Front
-- ==== Proof.RI.Ref.lean ====
/-
  The reference, entry by entry: its projection, its queries, keys and values, its attention and its key and value
  results are the functions of Spec.
-/
module

public import proofs.«01_k».proof.Proof.Gen.ReferenceIdeal.Read
public import proofs.«01_k».proof.Proof.Spec

@[expose] public section

set_option maxRecDepth 16384

noncomputable section

namespace Cert.ReferenceIdeal.Front

open Cert.ReferenceIdeal Cert.ReferenceIdeal.Read Idealize.ShloMosaic Idealize.ShloMosaic.TcCoe Idealize.ShloMosaic.Tactic
open Idealize.ShloMosaic.Pointwise Cert.Front

variable (x0 : Vec Ideal S8x16x2048 .f32) (x1 x2 : Vec Ideal S1x8x128x2x64 .f32) (x3 : Vec Ideal S1x8x15x1024 .f32) (x4 : Vec Ideal S1x2048 .f32) (x5 : Vec Ideal S1x2048x6400 .f32) (x6 x7 : Vec Ideal S1x64 .f32) (x8 : Vec Ideal S1x16 .f32) (x9 : Vec Ideal S1x4x256x256 .f32) (x10 : Vec Ideal S1x1024 .f32)

theorem v18_at (b : Fin 8) (t : Fin 16) (n : Fin 6400) : val_main_v18 (F := Ideal) x0 x4 x5 (ix3 b t n) = z x0 x4 x5 b t n := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem v42_at (b : Fin 8) (t : Fin 16) (h : Fin 16) (d : Fin 64) :
    val_main_v42 (F := Ideal) x0 x4 x5 x6 (ix4 b t h d) = headNorm (zq x0 x4 x5 b t h) (fun d => x6 (ix2 0 d)) d := by
  pointwise [val_main_v42, val_main_v41, val_main_v40, val_main_v39, val_main_v38, val_main_v37, val_main_v36, val_main_v35, val_main_v34, val_main_v33, val_main_v32, val_main_v31, val_main_v30, val_main_v29, val_main_v28, val_main_v19, val_main_cst_2, val_main_cst_3, val_main_cst_4]
  simp only [v18_at]
  rfl

theorem v97_at (b : Fin 8) (t : Fin 16) (h : Fin 2) (d : Fin 64) :
    val_main_v97 (F := Ideal) x0 x4 x5 x7 (ix4 b t h d) = headNorm (zk x0 x4 x5 b t h) (fun d => x7 (ix2 0 d)) d := by
  pointwise [val_main_v97, val_main_v96, val_main_v95, val_main_v94, val_main_v93, val_main_v92, val_main_v91, val_main_v90, val_main_v89, val_main_v88, val_main_v87, val_main_v86, val_main_v85, val_main_v84, val_main_v83, val_main_v20, val_main_cst_9, val_main_cst_10, val_main_cst_11]
  simp only [v18_at]
  rfl

theorem v58_at (t : Fin 16) (p : Fin 8) : val_main_v58 (F := Ideal) (ix2 t p) = angle t p := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v27, val_main_v26, val_main_v25, val_main_c, val_main_cst_5, val_main_cst_6, val_main_cst_7, val_main_cst_8]
  rfl

theorem v113_at (t : Fin 16) (p : Fin 8) : val_main_v113 (F := Ideal) (ix2 t p) = angle t p := by
  pointwise [val_main_v113, val_main_v112, val_main_v111, val_main_v110, val_main_v109, val_main_v108, val_main_v107, val_main_v106, val_main_v105, val_main_v104, val_main_v103, val_main_v102, val_main_v101, val_main_v100, val_main_v99, val_main_v98, val_main_v27, val_main_v26, val_main_v25, val_main_c, val_main_cst_12, val_main_cst_13, val_main_cst_14, val_main_cst_15]
  rfl

theorem v82_at (b : Fin 8) (t : Fin 16) (h : Fin 16) (d : Fin 64) :
    val_main_v82 (F := Ideal) x0 x4 x5 x6 (ix4 b t h d) = qrot x0 x4 x5 x6 b t h d := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59]
  simp only [v42_at, v58_at]
  rfl

theorem v137_at (b : Fin 8) (t : Fin 16) (h : Fin 2) (d : Fin 64) :
    val_main_v137 (F := Ideal) x0 x4 x5 x7 (ix4 b t h d) = krot x0 x4 x5 x7 b t h d := by
  pointwise [val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114]
  simp only [v97_at, v113_at]
  rfl

theorem v140_at (b : Fin 8) (j : Fin 144) (h : Fin 2) (d : Fin 64) :
    val_main_v140 (F := Ideal) x0 x1 x4 x5 x7 (ix4 b j h d) = keys x0 x1 x4 x5 x7 b j h d := by
  pointwise [val_main_v140, val_main_v0]
  simp only [v137_at]
  rfl

theorem v141_at (b : Fin 8) (j : Fin 144) (h : Fin 2) (d : Fin 64) :
    val_main_v141 (F := Ideal) x0 x2 x4 x5 (ix4 b j h d) = vals x0 x2 x4 x5 b j h d := by
  pointwise [val_main_v141, val_main_v139, val_main_v21, val_main_v1]
  simp only [v18_at]
  rfl

theorem v146_at (b : Fin 8) (g : Fin 2) (h : Fin 8) (t : Fin 16) (j : Fin 144) :
    val_main_v146 (F := Ideal) x0 x1 x4 x5 x6 x7 (ix5 b g h t j) = score x0 x1 x4 x5 x6 x7 b g h t j := by
  pointwise [val_main_v146, val_main_v145, val_main_v144, val_main_v143, val_main_v138, val_main_cst_16]
  simp only [v140_at, v82_at]
  rfl

theorem v152_at (b : Fin 8) (g : Fin 2) (h : Fin 8) (t : Fin 16) :
    val_main_v152 (F := Ideal) x0 x1 x4 x5 x6 x7 x8 (ix5 b g h t 0)
      = top (score x0 x1 x4 x5 x6 x7 b g h t) (x8 (ix2 0 ⟨g.val * 8 + h.val, by omega⟩)) := by
  pointwise [val_main_v152, val_main_v151, val_main_v150, val_main_v149, val_main_v148, val_main_v147, val_main_v142, val_main_cst_17]
  simp only [v146_at]
  rfl

theorem v164_at (b : Fin 8) (g : Fin 2) (h : Fin 8) (t : Fin 16) (j : Fin 144) :
    val_main_v164 (F := Ideal) x0 x1 x4 x5 x6 x7 x8 (ix5 b g h t j)
      = Ideal.div (Ideal.exp (score x0 x1 x4 x5 x6 x7 b g h t j
          - top (score x0 x1 x4 x5 x6 x7 b g h t) (x8 (ix2 0 ⟨g.val * 8 + h.val, by omega⟩))))
        (denom (score x0 x1 x4 x5 x6 x7 b g h t) (x8 (ix2 0 ⟨g.val * 8 + h.val, by omega⟩))) := by
  pointwise [val_main_v164, val_main_v163, val_main_v162, val_main_v161, val_main_v160, val_main_v159, val_main_v158, val_main_v157, val_main_v156, val_main_v155, val_main_v154, val_main_v153, val_main_v147, val_main_v142, val_main_cst_18]
  simp only [v146_at, v152_at]
  rfl

/-- The attention result. -/
theorem v229_at (b : Fin 8) (t : Fin 16) (c : Fin 1024) :
    val_main_v229 (F := Ideal) x0 x1 x2 x4 x5 x6 x7 x8 (ix3 b t c)
      = attOut x0 x1 x2 x4 x5 x6 x7 x8 b t ⟨c.val / 512, by omega⟩ ⟨c.val / 64 % 8, by omega⟩ ⟨c.val % 64, by omega⟩ := by
  pointwise [val_main_v229, val_main_v167, val_main_v166, val_main_v165]
  simp only [v141_at, v164_at]
  rfl

/-- The key result: the last 128 keys. -/
theorem v232_at (b : Fin 8) (j : Fin 128) (c : Fin 128) :
    val_main_v232 (F := Ideal) x0 x1 x4 x5 x7 (ix3 b j c)
      = keys x0 x1 x4 x5 x7 b ⟨16 + j.val, by omega⟩ ⟨c.val / 64, by omega⟩ ⟨c.val % 64, by omega⟩ := by
  pointwise [val_main_v232, val_main_v231]
  simp only [v140_at]

/-- The value result: the last 128 values. -/
theorem v234_at (b : Fin 8) (j : Fin 128) (c : Fin 128) :
    val_main_v234 (F := Ideal) x0 x2 x4 x5 (ix3 b j c)
      = vals x0 x2 x4 x5 b ⟨16 + j.val, by omega⟩ ⟨c.val / 64, by omega⟩ ⟨c.val % 64, by omega⟩ := by
  pointwise [val_main_v234, val_main_v233]
  simp only [v141_at]

/-- The pooling's rows, with the zero row in front. -/
theorem v172_at (b : Fin 8) (r : Fin 32) (c : Fin 1024) :
    val_main_v172 (F := Ideal) x0 x3 x4 x5 (ix3 b r c) = urow x0 x3 x4 x5 b c r.val := by
  pointwise [val_main_v172, val_main_v171, val_main_v170, val_main_v22, val_main_v2, val_main_cst_19]
  simp only [v18_at]
  unfold urow
  have h3 : r.val - 1 - 15 < 16 := by omega
  simp only [dif_pos h3]

/-- The pooling's state result: the last 15 rows. -/
theorem v228_at (b : Fin 8) (j : Fin 15) (c : Fin 1024) :
    val_main_v228 (F := Ideal) x0 x3 x4 x5 (ix3 b j c) = urow x0 x3 x4 x5 b c (17 + j.val) := by
  pointwise [val_main_v228, val_main_v170, val_main_v22, val_main_v2]
  simp only [v18_at]
  unfold urow
  have h1 : ¬ (17 + j.val < 1) := by omega
  have h2 : ¬ (17 + j.val - 1 < 15) := by omega
  have h2' : ¬ (16 + j.val < 15) := by omega
  have h3 : 17 + j.val - 1 - 15 < 16 := by omega
  rw [dif_neg h1, dif_neg h2, dif_pos h3, dif_neg h2']
  congr 1
  exact Fin.ext (by show 16 + j.val - 15 = 17 + j.val - 1 - 15; omega)

end Cert.ReferenceIdeal.Front
-- ==== Proof.RI.Pool.lean ====
/-
  The reference's pooling, entry by entry: its running sum along the rows, the differences of the running sum as the
  sums of the last rows, the counts, and the grouped product.
-/
module

public import proofs.«01_k».proof.Proof.RI.Ref

@[expose] public section

set_option maxRecDepth 16384

noncomputable section

namespace Cert.ReferenceIdeal.Front

open Cert.ReferenceIdeal Cert.ReferenceIdeal.Read Idealize.ShloMosaic Idealize.ShloMosaic.TcCoe Idealize.ShloMosaic.Tactic
open Idealize.ShloMosaic.Pointwise Cert.Front

variable (x0 : Vec Ideal S8x16x2048 .f32) (x1 x2 : Vec Ideal S1x8x128x2x64 .f32) (x3 : Vec Ideal S1x8x15x1024 .f32) (x4 : Vec Ideal S1x2048 .f32) (x5 : Vec Ideal S1x2048x6400 .f32) (x6 x7 : Vec Ideal S1x64 .f32) (x8 : Vec Ideal S1x16 .f32) (x9 : Vec Ideal S1x4x256x256 .f32) (x10 : Vec Ideal S1x1024 .f32)

/-- A left fold of additions is the sum. -/
theorem foldl_add_eq {α : Type} (g : α → EReal) (L : List α) (a : EReal) :
    L.foldl (fun s n => s + g n) a = a + (L.map g).sum := by
  induction L generalizing a with
  | nil => simp
  | cons x L ih => rw [List.foldl_cons, ih, List.map_cons, List.sum_cons, add_assoc]

abbrev wshape : Shape := ⟨3, ![1, 32, 1]⟩

theorem numel_w : wshape.numel = 32 := by decide

theorem w_coord (n : Fin wshape.numel) : (wshape.rowMajor.symm n 1).val = n.val ∧ (wshape.rowMajor.symm n 0).val = 0
    ∧ (wshape.rowMajor.symm n 2).val = 0 := by
  revert n; decide +kernel

/-- A sum over a window of 32 rows that ends at row `j`, the rows before row 0 counted as 0. -/
theorem window_sum (X : ℕ → EReal) (j : ℕ) (hj : j < 32) :
    ∑ n ∈ Finset.range 32, (if 31 ≤ j + n then X (j + n - 31) else 0) = ∑ r ∈ Finset.range (j + 1), X r := by
  obtain ⟨m, hm⟩ : ∃ m, 32 = m + (j + 1) := ⟨31 - j, by omega⟩
  rw [hm, Finset.sum_range_add, Finset.sum_eq_zero, zero_add]
  · refine Finset.sum_congr rfl fun r hr => ?_
    rw [if_pos (by omega)]
    exact congrArg X (by omega)
  · intro r hr
    rw [Finset.mem_range] at hr
    rw [if_neg (by omega)]

/-- The running sum along the rows: entry `j` is the sum of the entries as far as `j`. -/
theorem v173_at (b : Fin 8) (j : Fin 32) (c : Fin 1024) :
    val_main_v173 (F := Ideal) x0 x3 x4 x5 (ix3 b j c) = ∑ r ∈ Finset.range (j.val + 1), urow x0 x3 x4 x5 b c r := by
  have hX : ∀ r : Fin 32, val_main_v172 (F := Ideal) x0 x3 x4 x5 (ix3 b r c) = urow x0 x3 x4 x5 b c r.val :=
    fun r => v172_at x0 x3 x4 x5 b r c
  have hi : ∀ i, val_main_call0_call0_v0 (F := Ideal) i = 0 := fun i => by
    rw [val_main_call0_call0_v0_apply]
    show Ideal.ofBits .f32 0x00000000#32 = 0
    simp [Ideal.ofBits, Ideal.ieee]
  unfold val_main_v173
  generalize val_main_v172 (F := Ideal) x0 x3 x4 x5 = x at hX ⊢
  generalize val_main_call0_call0_v0 (F := Ideal) = init at hi ⊢
  show Host.reduceWindow (· + ·) ![1, 32, 1] ![1, 1, 1] ![0, 31, 0] ![0, 0, 0] x (fun _ : (⟨0, ![]⟩ : Shape).Idx => init (Shape.Idx.first Gen.h_S_))
    Gen.reduceWindows_S8x32x1024_S8x32x1024_w1s1p0_0_w32s1p31_0_w1s1p0_0 (by decide) (ix3 b j c) = _
  unfold Host.reduceWindow
  dsimp only
  rw [hi]
  refine (foldl_add_eq _ _ 0).trans ?_
  rw [zero_add]
  refine (congrArg List.sum (List.map_congr_left (g := fun n : Fin wshape.numel =>
    if 31 ≤ j.val + n.val then urow x0 x3 x4 x5 b c (j.val + n.val - 31) else 0) (fun n _ => ?_))).trans ?_
  · obtain ⟨w1, w0, w2⟩ := w_coord n
    have hn : n.val < 32 := n.isLt.trans_eq numel_w
    split
    · next hin =>
      have h1 := (hin 1).1
      change 31 ≤ j.val * 1 + (wshape.rowMajor.symm n 1).val at h1
      rw [w1, Nat.mul_one] at h1
      rw [if_pos h1]
      refine Eq.trans (congrArg x (funext fun a => Fin.ext ?_)) (hX ⟨j.val + n.val - 31, by omega⟩)
      match a with
      | ⟨0, _⟩ => show b.val * 1 + (wshape.rowMajor.symm n 0).val - 0 = b.val; rw [w0]; omega
      | ⟨1, _⟩ => show j.val * 1 + (wshape.rowMajor.symm n 1).val - 31 = j.val + n.val - 31; rw [w1]; omega
      | ⟨2, _⟩ => show c.val * 1 + (wshape.rowMajor.symm n 2).val - 0 = c.val; rw [w2]; omega
    · next hin =>
      refine (if_neg fun h1 => hin fun a => ?_).symm
      match a with
      | ⟨0, _⟩ => show 0 ≤ b.val * 1 + (wshape.rowMajor.symm n 0).val ∧ b.val * 1 + (wshape.rowMajor.symm n 0).val - 0 < 8; rw [w0]; omega
      | ⟨1, _⟩ => show 31 ≤ j.val * 1 + (wshape.rowMajor.symm n 1).val ∧ j.val * 1 + (wshape.rowMajor.symm n 1).val - 31 < 32; rw [w1]; omega
      | ⟨2, _⟩ => show 0 ≤ c.val * 1 + (wshape.rowMajor.symm n 2).val ∧ c.val * 1 + (wshape.rowMajor.symm n 2).val - 0 < 1024; rw [w2]; omega
  · rw [← window_sum (urow x0 x3 x4 x5 b c) j.val j.isLt, ← Fin.sum_univ_def]
    exact Fin.sum_univ_eq_sum_range (fun n => if 31 ≤ j.val + n then urow x0 x3 x4 x5 b c (j.val + n - 31) else 0) wshape.numel

theorem urow_num (hz : ∀ b t n, IsNum (z x0 x4 x5 b t n)) (h3 : ∀ i, IsNum (x3 i)) (b : Fin 8) (c : Fin 1024) (r : ℕ) :
    IsNum (urow x0 x3 x4 x5 b c r) := by
  unfold urow
  split_ifs
  · exact isNum_zero
  · exact h3 _
  · exact hz _ _ _
  · exact isNum_zero

/-- A difference of two running sums is the sum of the rows between. -/
theorem prefix_sub (X : ℕ → EReal) (hX : ∀ r, IsNum (X r)) (i w m : ℕ) (h : i + 1 = m + w) :
    ∑ r ∈ Finset.range (i + 1), X r - ∑ r ∈ Finset.range m, X r = winSum X i w := by
  have hn : IsNum (∑ r ∈ Finset.range m, X r) := by
    rw [← Fin.sum_univ_eq_sum_range]; exact IsNum.sum fun r => hX _
  rw [h, Finset.sum_range_add, add_comm, hn.add_sub_cancel, winSum, ← Finset.sum_range_reflect]
  refine Finset.sum_congr rfl fun r hr => congrArg X ?_
  rw [Finset.mem_range] at hr
  omega

/-- The counts: every token stands behind more than 16 others. -/
theorem count_2 (t : Fin 16) : FloatOps.sitofp (F := Ideal) .f32 (IntOp.minsi (IntOp.addi (IntOp.addi (2048#32) (BitVec.ofNat 32 t.val)) 1#32) 2#32) = ((2 : ℝ) : EReal) := by
  have e : IntOp.minsi (IntOp.addi (IntOp.addi (2048#32) (BitVec.ofNat 32 t.val)) 1#32) 2#32 = 2#32 := by revert t; decide +kernel
  rw [e]; show (((2#32).toInt : ℝ) : EReal) = _; rw [show (2#32).toInt = 2 by decide]; norm_num
theorem count_4 (t : Fin 16) : FloatOps.sitofp (F := Ideal) .f32 (IntOp.minsi (IntOp.addi (IntOp.addi (2048#32) (BitVec.ofNat 32 t.val)) 1#32) 4#32) = ((4 : ℝ) : EReal) := by
  have e : IntOp.minsi (IntOp.addi (IntOp.addi (2048#32) (BitVec.ofNat 32 t.val)) 1#32) 4#32 = 4#32 := by revert t; decide +kernel
  rw [e]; show (((4#32).toInt : ℝ) : EReal) = _; rw [show (4#32).toInt = 4 by decide]; norm_num
theorem count_8 (t : Fin 16) : FloatOps.sitofp (F := Ideal) .f32 (IntOp.minsi (IntOp.addi (IntOp.addi (2048#32) (BitVec.ofNat 32 t.val)) 1#32) 8#32) = ((8 : ℝ) : EReal) := by
  have e : IntOp.minsi (IntOp.addi (IntOp.addi (2048#32) (BitVec.ofNat 32 t.val)) 1#32) 8#32 = 8#32 := by revert t; decide +kernel
  rw [e]; show (((8#32).toInt : ℝ) : EReal) = _; rw [show (8#32).toInt = 8 by decide]; norm_num
theorem count_16 (t : Fin 16) : FloatOps.sitofp (F := Ideal) .f32 (IntOp.minsi (IntOp.addi (IntOp.addi (2048#32) (BitVec.ofNat 32 t.val)) 1#32) 16#32) = ((16 : ℝ) : EReal) := by
  have e : IntOp.minsi (IntOp.addi (IntOp.addi (2048#32) (BitVec.ofNat 32 t.val)) 1#32) 16#32 = 16#32 := by revert t; decide +kernel
  rw [e]; show (((16#32).toInt : ℝ) : EReal) = _; rw [show (16#32).toInt = 16 by decide]; norm_num

theorem v185_at (hz : ∀ b t n, IsNum (z x0 x4 x5 b t n)) (h3 : ∀ i, IsNum (x3 i)) (b : Fin 8) (t : Fin 16) (c : Fin 256) :
    val_main_v185 (F := Ideal) x0 x3 x4 x5 (ix3 b t c)
      = Ideal.div (winSum (urow x0 x3 x4 x5 b ⟨c.val, by omega⟩) (16 + t.val) 2) ((2 : ℝ) : EReal) := by
  pointwise [val_main_v185, val_main_v184, val_main_v183, val_main_v182, val_main_v181, val_main_v180, val_main_v179, val_main_v178, val_main_v177, val_main_v176, val_main_v175, val_main_v174, val_main_v182, val_main_v174, val_main_v27, val_main_v26, val_main_v25, val_main_c, val_main_c_20, val_main_c_21]
  simp only [v173_at]
  rw [count_2]
  refine congrArg₂ Ideal.div (prefix_sub (urow x0 x3 x4 x5 b ⟨c.val, by omega⟩)
    (fun r => urow_num x0 x3 x4 x5 hz h3 b _ r) (16 + t.val) 2 (14 + t.val + 1) (by omega)) rfl

theorem v196_at (hz : ∀ b t n, IsNum (z x0 x4 x5 b t n)) (h3 : ∀ i, IsNum (x3 i)) (b : Fin 8) (t : Fin 16) (c : Fin 256) :
    val_main_v196 (F := Ideal) x0 x3 x4 x5 (ix3 b t c)
      = Ideal.div (winSum (urow x0 x3 x4 x5 b ⟨256 + c.val, by omega⟩) (16 + t.val) 4) ((4 : ℝ) : EReal) := by
  pointwise [val_main_v196, val_main_v195, val_main_v194, val_main_v193, val_main_v192, val_main_v191, val_main_v190, val_main_v189, val_main_v188, val_main_v187, val_main_v186, val_main_v182, val_main_v174, val_main_v27, val_main_v26, val_main_v25, val_main_c, val_main_c_22, val_main_c_23]
  simp only [v173_at]
  rw [count_4]
  refine congrArg₂ Ideal.div (prefix_sub (urow x0 x3 x4 x5 b ⟨256 + c.val, by omega⟩)
    (fun r => urow_num x0 x3 x4 x5 hz h3 b _ r) (16 + t.val) 4 (12 + t.val + 1) (by omega)) rfl

theorem v207_at (hz : ∀ b t n, IsNum (z x0 x4 x5 b t n)) (h3 : ∀ i, IsNum (x3 i)) (b : Fin 8) (t : Fin 16) (c : Fin 256) :
    val_main_v207 (F := Ideal) x0 x3 x4 x5 (ix3 b t c)
      = Ideal.div (winSum (urow x0 x3 x4 x5 b ⟨512 + c.val, by omega⟩) (16 + t.val) 8) ((8 : ℝ) : EReal) := by
  pointwise [val_main_v207, val_main_v206, val_main_v205, val_main_v204, val_main_v203, val_main_v202, val_main_v201, val_main_v200, val_main_v199, val_main_v198, val_main_v197, val_main_v182, val_main_v174, val_main_v27, val_main_v26, val_main_v25, val_main_c, val_main_c_24, val_main_c_25]
  simp only [v173_at]
  rw [count_8]
  refine congrArg₂ Ideal.div (prefix_sub (urow x0 x3 x4 x5 b ⟨512 + c.val, by omega⟩)
    (fun r => urow_num x0 x3 x4 x5 hz h3 b _ r) (16 + t.val) 8 (8 + t.val + 1) (by omega)) rfl

theorem v218_at (hz : ∀ b t n, IsNum (z x0 x4 x5 b t n)) (h3 : ∀ i, IsNum (x3 i)) (b : Fin 8) (t : Fin 16) (c : Fin 256) :
    val_main_v218 (F := Ideal) x0 x3 x4 x5 (ix3 b t c)
      = Ideal.div (winSum (urow x0 x3 x4 x5 b ⟨768 + c.val, by omega⟩) (16 + t.val) 16) ((16 : ℝ) : EReal) := by
  pointwise [val_main_v218, val_main_v217, val_main_v216, val_main_v215, val_main_v214, val_main_v213, val_main_v212, val_main_v211, val_main_v210, val_main_v209, val_main_v208, val_main_v182, val_main_v174, val_main_v27, val_main_v26, val_main_v25, val_main_c, val_main_c_26, val_main_c_27]
  simp only [v173_at]
  rw [count_16]
  refine congrArg₂ Ideal.div (prefix_sub (urow x0 x3 x4 x5 b ⟨768 + c.val, by omega⟩)
    (fun r => urow_num x0 x3 x4 x5 hz h3 b _ r) (16 + t.val) 16 (t.val + 1) (by omega)) rfl

theorem win_of (c : Fin 1024) (k : ℕ) (h : c.val / 256 = k) : win c = 2 ^ (k + 1) := by rw [win, h]

theorem v220_at (hz : ∀ b t n, IsNum (z x0 x4 x5 b t n)) (h3 : ∀ i, IsNum (x3 i)) (b : Fin 8) (t : Fin 16) (c : Fin 1024) :
    val_main_v220 (F := Ideal) x0 x3 x4 x5 (ix3 b t c) = pooled x0 x3 x4 x5 b t c := by
  have e : val_main_v220 (F := Ideal) x0 x3 x4 x5 (ix3 b t c)
      = (if h1 : c.val < 256 then val_main_v185 (F := Ideal) x0 x3 x4 x5 (ix3 b t ⟨c.val, h1⟩)
        else if h2 : c.val - 256 < 256 then val_main_v196 (F := Ideal) x0 x3 x4 x5 (ix3 b t ⟨c.val - 256, h2⟩)
        else if h3 : c.val - 256 - 256 < 256 then val_main_v207 (F := Ideal) x0 x3 x4 x5 (ix3 b t ⟨c.val - 256 - 256, h3⟩)
        else val_main_v218 (F := Ideal) x0 x3 x4 x5 (ix3 b t ⟨c.val - 256 - 256 - 256, by omega⟩))
        - val_main_v18 (F := Ideal) x0 x4 x5 (ix3 b t ⟨1280 + c.val, by omega⟩) := by
    pointwise [val_main_v220, val_main_v219, val_main_v22]
  rw [e]
  clear e
  simp only [v185_at x0 x3 x4 x5 hz h3, v196_at x0 x3 x4 x5 hz h3, v207_at x0 x3 x4 x5 hz h3, v218_at x0 x3 x4 x5 hz h3, v18_at]
  unfold pooled
  refine congrArg₂ (· - ·) ?_ rfl
  have key : ∀ (k : ℕ) (d : Fin 1024), d = c → c.val / 256 = k →
      Ideal.div (winSum (urow x0 x3 x4 x5 b d) (16 + t.val) (2 ^ (k + 1))) (((2 ^ (k + 1) : ℕ) : ℝ) : EReal)
        = Ideal.div (winSum (urow x0 x3 x4 x5 b c) (16 + t.val) (win c)) ((win c : ℝ) : EReal) := by
    rintro k d rfl hk
    rw [win_of _ k hk]
  split_ifs with h1 h2 h4
  · refine Eq.trans ?_ (key 0 ⟨c.val, c.isLt⟩ rfl (by omega))
    norm_num
  · refine Eq.trans ?_ (key 1 ⟨256 + (c.val - 256), by omega⟩ (Fin.ext (by simp only; omega)) (by omega))
    norm_num
  · refine Eq.trans ?_ (key 2 ⟨512 + (c.val - 256 - 256), by omega⟩ (Fin.ext (by simp only; omega)) (by omega))
    norm_num
  · refine Eq.trans ?_ (key 3 ⟨768 + (c.val - 256 - 256 - 256), by omega⟩ (Fin.ext (by simp only; omega)) (by omega))
    norm_num

theorem v230_at (hz : ∀ b t n, IsNum (z x0 x4 x5 b t n)) (h3 : ∀ i, IsNum (x3 i)) (b : Fin 8) (t : Fin 16) (c : Fin 1024) :
    val_main_v230 (F := Ideal) x0 x3 x4 x5 x9 x10 (ix3 b t c) = poolOut x0 x3 x4 x5 x9 x10 b t c := by
  pointwise [val_main_v230, val_main_v227, val_main_v226, val_main_v225, val_main_v224, val_main_v223, val_main_v222, val_main_v221, val_main_v168, val_main_v169]
  simp only [v220_at x0 x3 x4 x5 hz h3]
  rfl

end Cert.ReferenceIdeal.Front
-- ==== Proof.RI.Arr.lean ====
/-
  The reference's results, as functions of the arguments.
-/
module

public import proofs.«01_k».proof.Proof.Arrays
public import proofs.«01_k».proof.Proof.RI.Ref
public import proofs.«01_k».proof.Proof.RI.Pool
public import proofs.«01_k».proof.Proof.Gen.ReferenceIdeal.Run

@[expose] public section

noncomputable section

namespace Cert.ReferenceIdeal.Front

open Idealize.ShloMosaic Idealize.ShloMosaic.Pointwise Idealize.SL.Sem Cert.Front Cert.ReferenceIdeal Cert.ReferenceIdeal.Gen Cert.ReferenceIdeal.Read

variable (x0 : Arr Sx) (x1 x2 : Arr Sc) (x3 : Arr Sp) (x4 : Arr Sg) (x5 : Arr Sw) (x6 x7 : Arr Sh) (x8 : Arr Ss)
  (x9 : Arr Swp) (x10 : Arr Sps)

theorem ref_att : val_main_v229 (F := Ideal) x0 x1 x2 x4 x5 x6 x7 x8 = attArr x0 x1 x2 x4 x5 x6 x7 x8 := by
  funext i
  rw [eq_ix3 i]
  exact v229_at x0 x1 x2 x4 x5 x6 x7 x8 (i 0) (i 1) (i 2)
theorem ref_pool (hz : ∀ b t n, IsNum (z x0 x4 x5 b t n)) (h3 : ∀ i, IsNum (x3 i)) :
    val_main_v230 (F := Ideal) x0 x3 x4 x5 x9 x10 = poolArr x0 x3 x4 x5 x9 x10 := by
  funext i
  rw [eq_ix3 i]
  exact v230_at x0 x3 x4 x5 x9 x10 hz h3 (i 0) (i 1) (i 2)
theorem ref_key : val_main_v232 (F := Ideal) x0 x1 x4 x5 x7 = keyArr x0 x1 x4 x5 x7 := by
  funext i
  rw [eq_ix3 i]
  exact v232_at x0 x1 x4 x5 x7 (i 0) (i 1) (i 2)
theorem ref_val : val_main_v234 (F := Ideal) x0 x2 x4 x5 = valArr x0 x2 x4 x5 := by
  funext i
  rw [eq_ix3 i]
  exact v234_at x0 x2 x4 x5 (i 0) (i 1) (i 2)
theorem ref_row : val_main_v228 (F := Ideal) x0 x3 x4 x5 = rowArr x0 x3 x4 x5 := by
  funext i
  rw [eq_ix3 i]
  exact v228_at x0 x3 x4 x5 (i 0) (i 1) (i 2)

variable (m : (ℓ : Loc nD τ sig) → Buf (Elt Ideal) ℓ) (ρ : Dev nD → PrngReg)

/-- The reference's run: the five arrays, and the arguments unchanged. -/
theorem run_arrays (hz : ∀ c : Dev nD, ∀ b t n, IsNum (z (m ((c.tc : Thread nD τ).loc main_arg0)) (m ((c.tc : Thread nD τ).loc main_arg4)) (m ((c.tc : Thread nD τ).loc main_arg5)) b t n))
    (h3 : ∀ c : Dev nD, ∀ i, IsNum (m ((c.tc : Thread nD τ).loc main_arg3) i)) :
    θ_run defs (onTc (τ := τ) (main (F := Ideal))) ⟨m, fun _ => 0, ρ⟩ fun r => ∀ c : Dev nD,
      r.2.mem ((c.tc : Thread nD τ).loc main_v229) = attArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v230) = poolArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10))
      ∧ r.2.mem ((c.tc : Thread nD τ).loc main_v232) = keyArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg7))
      ∧ r.2.mem ((c.tc : Thread nD τ).loc main_v234) = valArr (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v228) = rowArr (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (Cert.ReferenceIdeal.Value.run (F := Ideal) m ρ)
  obtain ⟨r0, r1, r2, r3, r4, hk⟩ := h c
  exact ⟨r0.trans ((val_main_v229_eq _).trans (ref_att _ _ _ _ _ _ _ _)),
    r1.trans ((val_main_v230_eq _).trans (ref_pool _ _ _ _ _ _ (hz c) (h3 c))),
    r2.trans ((val_main_v232_eq _).trans (ref_key _ _ _ _ _)),
    r3.trans ((val_main_v234_eq _).trans (ref_val _ _ _ _)),
    r4.trans ((val_main_v228_eq _).trans (ref_row _ _ _ _)), hk⟩

end Cert.ReferenceIdeal.Front
-- ==== Proof.Pre.lean ====
/-
  Where the precondition `finite` holds, the arguments it reads are numbers.
-/
module

public import proofs.«01_k».proof.Proof.Gen.Pre_finite
public import proofs.«01_k».proof.Proof.Spec
public import Idealize.ShloMosaic.Lib.ReduceAll

@[expose] public section

noncomputable section

namespace Cert.Front

open Idealize.ShloMosaic

/-- The infinity that the precondition compares with. -/
theorem bits_inf : Ideal.ofBits .f32 0x7F800000#32 = ⊤ := by
  simp [Ideal.ofBits, Ideal.ieee]

/-- An array all of whose entries are below infinity in absolute value holds numbers. -/
theorem nums_of_lt {s t u : Shape} [Subsingleton t.Idx] (x : Vec Ideal s .f32) (y : Vec Ideal s .f32)
    {axes : List (Fin s.rank)} {init : IVec u 1} (h : s.ReducesTo axes t) (hu : 0 < u.numel) (j : t.Idx)
    (e : Host.reduce IntOp.andi (cmpf (F := Ideal) (φ := .f32) .olt (Host.absf (F := Ideal) (φ := .f32) x) y) init h hu j = 1#1) (hy : ∀ i, y i = (⊤ : EReal)) (i : s.Idx) : IsNum (x i) := by
  have e1 := Host.reduce_andi_all _ _ h hu j e i
  refine isNum_of_abs ?_
  have e2 : BitVec.ofBool (decide (max (x i : EReal) (-(x i : EReal)) < y i)) = 1#1 := e1
  rw [hy] at e2
  by_contra hn
  rw [decide_eq_false hn] at e2
  exact absurd e2 (by decide)

theorem and_one {a b : BitVec 1} (h : IntOp.andi a b = 1#1) : a = 1#1 ∧ b = 1#1 := by
  revert a b; decide

variable (x0 : Arr Sx) (x1 x2 : Arr Sc) (x3 : Arr Sp) (x4 : Arr Sg) (x5 : Arr Sw) (x6 x7 : Arr Sh) (x8 : Arr Ss)
  (x9 : Arr Swp) (x10 : Arr Sps)

theorem finite_nums (h : Cert.Pre_finite.fn (F := Ideal) x0 x1 x2 x3 x4 x5 x6 x7 x8 x9 x10 = fun _ => 1#1) :
    (∀ i, IsNum (x0 i)) ∧ (∀ i, IsNum (x1 i)) ∧ (∀ i, IsNum (x3 i)) ∧ (∀ i, IsNum (x4 i)) ∧ (∀ i, IsNum (x5 i))
      ∧ (∀ i, IsNum (x6 i)) ∧ (∀ i, IsNum (x7 i)) ∧ (∀ i, IsNum (x8 i)) := by
  have j : Cert.Pre_finite.S_.Idx := fun a => a.elim0
  have e := congrFun h j
  unfold Cert.Pre_finite.fn Cert.Pre_finite.fn_part1 Cert.Pre_finite.fn_part2 at e
  dsimp only at e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e0, e1⟩ := and_one e
  exact ⟨nums_of_lt x0 _ _ _ j e0 fun _ => bits_inf, nums_of_lt x1 _ _ _ j e1 fun _ => bits_inf,
    nums_of_lt x3 _ _ _ j e3 fun _ => bits_inf, nums_of_lt x4 _ _ _ j e4 fun _ => bits_inf,
    nums_of_lt x5 _ _ _ j e5 fun _ => bits_inf, nums_of_lt x6 _ _ _ j e6 fun _ => bits_inf,
    nums_of_lt x7 _ _ _ j e7 fun _ => bits_inf, nums_of_lt x8 _ _ _ j e8 fun _ => bits_inf⟩

end Cert.Front
-- ==== Proof.M.Cond.lean ====
/-
  The five courses' conditions, said of the tile's row count and of the quarter.
-/
module

public import proofs.«01_k».proof.Proof.Gen.Kernel2Ideal.Skeleton

@[expose] public section

noncomputable section

namespace Cert.Kernel2Ideal.Moe

open Cert.Kernel2Ideal Cert.Kernel2Ideal.Gen
open Idealize.ShloMosaic

theorem flag_iff (c : BitVec 1) : Scalar.cmpi .ne (Scalar.extui c) (0#32) = 1#1 ↔ c = 1#1 := by revert c; decide
theorem and_iff (c d : BitVec 1) : Scalar.andi c d = 1#1 ↔ c = 1#1 ∧ d = 1#1 := by revert c d; decide

theorem bit_iff (p : Bool) : BitVec.ofBool p = 1#1 ↔ p = true := by cases p <;> decide

theorem gt_iff (a b : BitVec 32) : Scalar.cmpi .sgt a b = 1#1 ↔ b.toInt < a.toInt := by
  simp [Scalar.cmpi, IntOp.cmpi, BitVec.slt, bit_iff]
theorem le_iff (a b : BitVec 32) : Scalar.cmpi .sle a b = 1#1 ↔ a.toInt ≤ b.toInt := by
  simp [Scalar.cmpi, IntOp.cmpi, BitVec.sle, bit_iff]
theorem eq_iff (a b : BitVec 32) : Scalar.cmpi .eq a b = 1#1 ↔ a.toInt = b.toInt := by
  simp [Scalar.cmpi, IntOp.cmpi, bit_iff, BitVec.toInt_inj]

theorem quarter (i : grid0.Coords) : (BitVec.ofNat 32 (i 1).val).toInt = (i 1).val := by
  have h : (i 1).val < 4 := (i 1).isLt
  generalize (i 1).val = k at h
  match k, h with
  | 0, _ => decide
  | 1, _ => decide
  | 2, _ => decide
  | 3, _ => decide

theorem c0 : (0#32).toInt = 0 := by decide
theorem c512 : (512#32).toInt = 512 := by decide
theorem c1024 : (1024#32).toInt = 1024 := by decide

theorem cond1_iff (i : grid0.Coords) (n : BitVec 32) :
    k0_cond1 i n = 1#1 ↔ (0 < n.toInt ∧ n.toInt ≤ 512) ∧ ((i 1).val : Int) = 0 := by
  unfold k0_cond1
  simp only [flag_iff, and_iff, gt_iff, le_iff, eq_iff, quarter, c0, c512]
theorem cond2_iff (i : grid0.Coords) (n : BitVec 32) :
    k0_cond2 i n = 1#1 ↔ (0 < n.toInt ∧ n.toInt ≤ 512) ∧ 0 < ((i 1).val : Int) := by
  unfold k0_cond2
  simp only [flag_iff, and_iff, gt_iff, le_iff, quarter, c0, c512]
theorem cond3_iff (i : grid0.Coords) (n : BitVec 32) :
    k0_cond3 i n = 1#1 ↔ (512 < n.toInt ∧ n.toInt ≤ 1024) ∧ ((i 1).val : Int) = 0 := by
  unfold k0_cond3
  simp only [flag_iff, and_iff, gt_iff, le_iff, eq_iff, quarter, c0, c512, c1024]
theorem cond4_iff (i : grid0.Coords) (n : BitVec 32) :
    k0_cond4 i n = 1#1 ↔ (512 < n.toInt ∧ n.toInt ≤ 1024) ∧ 0 < ((i 1).val : Int) := by
  unfold k0_cond4
  simp only [flag_iff, and_iff, gt_iff, le_iff, quarter, c0, c512, c1024]
theorem cond5_iff (i : grid0.Coords) (n : BitVec 32) :
    k0_cond5 i n = 1#1 ↔ n.toInt = 0 ∧ ((i 1).val : Int) = 0 := by
  unfold k0_cond5
  simp only [flag_iff, and_iff, eq_iff, quarter, c0]

end Cert.Kernel2Ideal.Moe

end
-- ==== Proof.M.Run.lean ====
/-
  The body of the expert feed-forward kernel, run once at a grid point (tile, quarter of the hidden width). Which of its
  six courses it takes is told by the tile's row count and by whether the quarter is the first; each course leaves in the
  output block a function of the blocks it reads and of what the block held before (`new1` … `new5`, or nothing).
-/
module

public import proofs.«01_k».proof.Proof.M.Cond
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three tables as the body gets them: each tile's expert, its row count, the block of rows it works on. -/
abbrev tabE : Memref sig .tc .smem S161 .i32 := Memref.whole main_arg0
abbrev tabN : Memref sig .tc .smem S161 .i32 := Memref.whole main_arg1
abbrev tabI : Memref sig .tc .smem S161 .i32 := Memref.whole main_arg2

/-- The tile's row count as the body reads it. -/
abbrev count (i : grid0.Coords) (T : S161.Idx → Elt F .i32) : BitVec 32 :=
  View.readAt (Elt F) tabN.view (Rect.unit (s := S161) (k0_off1 i) S1.size (k0_off1_inb i)).toLoadRect T
    (Shape.Idx.first (numel1_S1.symm ▸ Nat.one_pos))

/-- The upper and the lower 512 rows of a block of 1024. -/
abbrev rowsLo {α : Type} (x : S1024x2048.Idx → α) : S512x2048.Idx → α :=
  fun y => x ((Rect.unit (s := S1024x2048) ![0, 0] S512x2048.size inb_S1024x2048_S512x2048_0_0).emb y)
abbrev rowsHi {α : Type} (x : S1024x2048.Idx → α) : S512x2048.Idx → α :=
  fun y => x ((Rect.unit (s := S1024x2048) ![512, 0] S512x2048.size inb_S1024x2048_S512x2048_512_0).emb y)

/-- A row's place within its half. -/
def inLo (y : S1024x2048.Idx) (h : (y 0).val < 512) : S512x2048.Idx :=
  fun a => match a with
    | ⟨0, _⟩ => ⟨(y 0).val, h⟩
    | ⟨1, _⟩ => ⟨(y 1).val, (y 1).isLt⟩
def inHi (y : S1024x2048.Idx) : S512x2048.Idx :=
  fun a => match a with
    | ⟨0, _⟩ => ⟨(y 0).val - 512, by have h0 : (y 0).val < 1024 := (y 0).isLt; show _ < 512; omega⟩
    | ⟨1, _⟩ => ⟨(y 1).val, (y 1).isLt⟩

/-- A block of 1024 rows put together from two of 512. -/
def both {α : Type} (lo hi : S512x2048.Idx → α) : S1024x2048.Idx → α := fun y =>
  if h : (y 0).val < 512 then lo (inLo y h) else hi (inHi y)

/-- The places of the two halves within the block. -/
abbrev rectLo : Rect S1024x2048 := Rect.unit (s := S1024x2048) ![0, 0] S512x2048.size inb_S1024x2048_S512x2048_0_0
abbrev rectHi : Rect S1024x2048 := Rect.unit (s := S1024x2048) ![512, 0] S512x2048.size inb_S1024x2048_S512x2048_512_0

theorem lo_place (y : S1024x2048.Idx) (h : (y 0).val < 512) (a : Fin S1024x2048.rank) :
    (y a).val = rectLo.off a + rectLo.stride a * (inLo y h a).val := by
  match a with
  | ⟨0, _⟩ => show (y 0).val = 0 + 1 * (y 0).val; omega
  | ⟨1, _⟩ => show (y 1).val = 0 + 1 * (y 1).val; omega
theorem hi_place (y : S1024x2048.Idx) (h : ¬ (y 0).val < 512) (a : Fin S1024x2048.rank) :
    (y a).val = rectHi.off a + rectHi.stride a * (inHi y a).val := by
  match a with
  | ⟨0, _⟩ => show (y 0).val = 512 + 1 * ((y 0).val - 512); omega
  | ⟨1, _⟩ => show (y 1).val = 0 + 1 * (y 1).val; omega

/-- What a body's resources are: the seven blocks it reads, the tables, the output block at `y`. -/
def Held (c : Dev nD) (arg5 : Memref sig .tc .vmem S1024x2048 .bf16) (arg6 arg7 : Memref sig .tc .vmem S1x2048x512 .f32)
    (arg8 arg9 : Memref sig .tc .vmem S1x1x512 .f32) (arg10 : Memref sig .tc .vmem S1x512x2048 .f32)
    (arg11 : Memref sig .tc .vmem S1x1x2048 .f32) (arg12 : Memref sig .tc .vmem S1024x2048 .f32)
    (T0 T1 T2 : S161.Idx → Elt F .i32) (x0 : S1024x2048.Idx → Elt F .bf16) (x1 x2 : S1x2048x512.Idx → Elt F .f32)
    (x3 x4 : S1x1x512.Idx → Elt F .f32) (x5 : S1x512x2048.Idx → Elt F .f32) (x6 : S1x1x2048.Idx → Elt F .f32)
    (y : S1024x2048.Idx → Elt F .f32) : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (arg9.view.loc (c : Thread nD τ) ↦[arg9.view.set]{fullShare} arg9.view.rep x4)
    ∗ (arg10.view.loc (c : Thread nD τ) ↦[arg10.view.set]{fullShare} arg10.view.rep x5)
    ∗ (arg11.view.loc (c : Thread nD τ) ↦[arg11.view.set]{fullShare} arg11.view.rep x6)
    ∗ (tabE.view.loc (c : Thread nD τ) ↦{fullShare.right} T0)
    ∗ (tabN.view.loc (c : Thread nD τ) ↦{fullShare.right} T1)
    ∗ (tabI.view.loc (c : Thread nD τ) ↦{fullShare.right} T2)
    ∗ owns (c : Thread nD τ) arg12 fullShare y)

/-- One quarter's share of the output for 512 rows. -/
abbrev part (x1 x2 : S1x2048x512.Idx → Elt F .f32) (x5 : S1x512x2048.Idx → Elt F .f32) (x : S512x2048.Idx → Elt F .bf16)
    (x3 x4 : S1x1x512.Idx → Elt F .f32) : FVec F S512x2048 .f32 := k0_pay8 x1 x2 x5 x x3 x4

/-- Two stores of 512 rows each, the lower rows last, leave the two put together. -/
theorem read_hi_lo {sp : Space} {e : EltTy} (v : View sig .tc sp S1024x2048 e) (f : v.ty.Contents (Elt F)) (hi lo : S512x2048.Idx → Elt F e) :
    v.read (Elt F) (v.writes (Elt F) f [⟨rectHi, hi⟩, ⟨rectLo, lo⟩]) = both lo hi := by
  funext y
  unfold both
  split
  · rename_i h
    rw [View.read_writes_cons_miss_of_axis v f ⟨rectHi, hi⟩ _ y (0 : Fin 2) 512 512 rfl rfl rfl (.inl h)]
    exact View.read_writes_cons_hit_of_coords v f rectLo lo [] (inLo y h) y (lo_place y h)
  · rename_i h
    exact View.read_writes_cons_hit_of_coords v f rectHi hi _ (inHi y) y (hi_place y h)

/-- Two stores of 512 rows each, the upper rows last. -/
theorem read_lo_hi {sp : Space} {e : EltTy} (v : View sig .tc sp S1024x2048 e) (f : v.ty.Contents (Elt F)) (hi lo : S512x2048.Idx → Elt F e) :
    v.read (Elt F) (v.writes (Elt F) f [⟨rectLo, lo⟩, ⟨rectHi, hi⟩]) = both lo hi := by
  funext y
  unfold both
  split
  · rename_i h
    exact View.read_writes_cons_hit_of_coords v f rectLo lo _ (inLo y h) y (lo_place y h)
  · rename_i h
    rw [View.read_writes_cons_miss_of_axis v f ⟨rectLo, lo⟩ _ y (0 : Fin 2) 0 512 rfl rfl rfl (.inr (by omega))]
    exact View.read_writes_cons_hit_of_coords v f rectHi hi [] (inHi y) y (hi_place y h)

/-- One store of the upper 512 rows over a block leaves the block's lower rows. -/
theorem read_lo {sp : Space} {e : EltTy} (v : View sig .tc sp S1024x2048 e) (y : S1024x2048.Idx → Elt F e) (lo : S512x2048.Idx → Elt F e) :
    v.read (Elt F) (v.writes (Elt F) (v.rep y) [⟨rectLo, lo⟩]) = both lo (rowsHi y) := by
  funext z
  unfold both
  split
  · rename_i h
    exact View.read_writes_cons_hit_of_coords v _ rectLo lo _ (inLo z h) z (lo_place z h)
  · rename_i h
    rw [View.read_writes_cons_miss_of_axis v _ ⟨rectLo, lo⟩ _ z (0 : Fin 2) 0 512 rfl rfl rfl (.inr (by omega)), View.writes_nil, View.read_rep]
    exact congrArg y (rectHi.emb_eq_of_coords (inHi z) z (hi_place z h)).symm

/-- The upper and the lower rows as a load takes them. -/
theorem load_lo {sp : Space} {e : EltTy} (v : View sig .tc sp S1024x2048 e) (x : S1024x2048.Idx → Elt F e) :
    v.readAt (Elt F) rectLo.toLoadRect (v.rep x) = rowsLo x :=
  View.readAt_rep v _ x
theorem load_hi {sp : Space} {e : EltTy} (v : View sig .tc sp S1024x2048 e) (x : S1024x2048.Idx → Elt F e) :
    v.readAt (Elt F) rectHi.toLoadRect (v.rep x) = rowsHi x :=
  View.readAt_rep v _ x

/-- The share of the first quarter, the second bias added. -/
abbrev part0 (x1 x2 : S1x2048x512.Idx → Elt F .f32) (x5 : S1x512x2048.Idx → Elt F .f32) (x : S512x2048.Idx → Elt F .bf16)
    (x3 x4 : S1x1x512.Idx → Elt F .f32) (x6 : S1x1x2048.Idx → Elt F .f32) : FVec F S512x2048 .f32 :=
  k0_pay13 (part x1 x2 x5 x x3 x4) x6

variable (c : Dev nD) (i : grid0.Coords) (arg5 : Memref sig .tc .vmem S1024x2048 .bf16) (harg5 : arg5.IsWhole)
    (arg6 : Memref sig .tc .vmem S1x2048x512 .f32) (harg6 : arg6.IsWhole) (arg7 : Memref sig .tc .vmem S1x2048x512 .f32) (harg7 : arg7.IsWhole)
    (arg8 : Memref sig .tc .vmem S1x1x512 .f32) (harg8 : arg8.IsWhole) (arg9 : Memref sig .tc .vmem S1x1x512 .f32) (harg9 : arg9.IsWhole)
    (arg10 : Memref sig .tc .vmem S1x512x2048 .f32) (harg10 : arg10.IsWhole) (arg11 : Memref sig .tc .vmem S1x1x2048 .f32) (harg11 : arg11.IsWhole)
    (arg12 : Memref sig .tc .vmem S1024x2048 .f32) (harg12 : arg12.IsWhole)
    (T0 T1 T2 : S161.Idx → Elt F .i32) (x0 : S1024x2048.Idx → Elt F .bf16) (x1 x2 : S1x2048x512.Idx → Elt F .f32)
    (x3 x4 : S1x1x512.Idx → Elt F .f32) (x5 : S1x512x2048.Idx → Elt F .f32) (x6 : S1x1x2048.Idx → Elt F .f32)
    (y : S1024x2048.Idx → Elt F .f32)

/-- The body turns the output block `y` into `new` and leaves the rest as it was. -/
def Leaves (new : S1024x2048.Idx → Elt F .f32) : Prop := ∀ K : PUnit → sProp 𝕄,
  iprop(Held c arg5 arg6 arg7 arg8 arg9 arg10 arg11 arg12 T0 T1 T2 x0 x1 x2 x3 x4 x5 x6 y
      ∗ (Held c arg5 arg6 arg7 arg8 arg9 arg10 arg11 arg12 T0 T1 T2 x0 x1 x2 x3 x4 x5 x6 new -∗ K ⟨⟩))
    ⊢ wp frame (wpE (defs₀ (F := F)) Variants.none c none) Set.univ
        (cc0_moe i tabE (Memref.isWhole_whole _) tabN (Memref.isWhole_whole _) tabI (Memref.isWhole_whole _) arg5 harg5 arg6 harg6
          arg7 harg7 arg8 harg8 arg9 harg9 arg10 harg10 arg11 harg11 arg12 harg12) K

/-- What a grid point makes of the output block `y`: with rows only in the upper half, with rows in both, or with none; at the
    first quarter or at a later one. -/
def step (n : BitVec 32) : S1024x2048.Idx → Elt F .f32 :=
  if k0_cond1 i n = 1#1 then both (part0 x1 x2 x5 (rowsLo x0) x3 x4 x6) (k0_pay5 (F := F))
  else if k0_cond2 i n = 1#1 then both (k0_pay2 (part x1 x2 x5 (rowsLo x0) x3 x4) (rowsLo y)) (rowsHi y)
  else if k0_cond3 i n = 1#1 then both (part0 x1 x2 x5 (rowsLo x0) x3 x4 x6) (part0 x1 x2 x5 (rowsHi x0) x3 x4 x6)
  else if k0_cond4 i n = 1#1 then
    both (k0_pay2 (part x1 x2 x5 (rowsLo x0) x3 x4) (rowsLo y)) (k0_pay2 (part x1 x2 x5 (rowsHi x0) x3 x4) (rowsHi y))
  else if k0_cond5 i n = 1#1 then k0_pay3 (F := F)
  else y

/-- At most one of the five courses is taken. -/
theorem courses (n : BitVec 32) :
    (k0_cond1 i n = 1#1 ∧ ¬ k0_cond2 i n = 1#1 ∧ ¬ k0_cond3 i n = 1#1 ∧ ¬ k0_cond4 i n = 1#1 ∧ ¬ k0_cond5 i n = 1#1)
    ∨ (¬ k0_cond1 i n = 1#1 ∧ k0_cond2 i n = 1#1 ∧ ¬ k0_cond3 i n = 1#1 ∧ ¬ k0_cond4 i n = 1#1 ∧ ¬ k0_cond5 i n = 1#1)
    ∨ (¬ k0_cond1 i n = 1#1 ∧ ¬ k0_cond2 i n = 1#1 ∧ k0_cond3 i n = 1#1 ∧ ¬ k0_cond4 i n = 1#1 ∧ ¬ k0_cond5 i n = 1#1)
    ∨ (¬ k0_cond1 i n = 1#1 ∧ ¬ k0_cond2 i n = 1#1 ∧ ¬ k0_cond3 i n = 1#1 ∧ k0_cond4 i n = 1#1 ∧ ¬ k0_cond5 i n = 1#1)
    ∨ (¬ k0_cond1 i n = 1#1 ∧ ¬ k0_cond2 i n = 1#1 ∧ ¬ k0_cond3 i n = 1#1 ∧ ¬ k0_cond4 i n = 1#1 ∧ k0_cond5 i n = 1#1)
    ∨ (¬ k0_cond1 i n = 1#1 ∧ ¬ k0_cond2 i n = 1#1 ∧ ¬ k0_cond3 i n = 1#1 ∧ ¬ k0_cond4 i n = 1#1 ∧ ¬ k0_cond5 i n = 1#1) := by
  simp only [cond1_iff, cond2_iff, cond3_iff, cond4_iff, cond5_iff]
  omega

set_option maxHeartbeats 16000000 in
/-- The body at a grid point makes `step` of the output block and leaves the rest as it was. -/
theorem run : Leaves c i arg5 harg5 arg6 harg6 arg7 harg7 arg8 harg8 arg9 harg9 arg10 harg10 arg11 harg11 arg12 harg12 T0 T1 T2
    x0 x1 x2 x3 x4 x5 x6 y (step i x0 x1 x2 x3 x4 x5 x6 y (count i T1)) := by
  intro K
  unfold Held
  rw [owns_eq_rep (c : Thread nD τ) arg12 fullShare y]
  rw [cc0_moe_eq_skeleton]; unfold cc0_moe_skel
  iintro ⟨⟨H0, H1, H2, H3, H4, H5, H6, HT0, HT1, HT2, HO7⟩, Hk⟩
  have hT0 : (tabE).IsWhole := Memref.isWhole_whole _
  have hT1 : (tabN).IsWhole := Memref.isWhole_whole _
  have hT2 : (tabI).IsWhole := Memref.isWhole_whole _
  obtain ⟨h1, h2, h3, h4, h5⟩ | ⟨h1, h2, h3, h4, h5⟩ | ⟨h1, h2, h3, h4, h5⟩ | ⟨h1, h2, h3, h4, h5⟩ | ⟨h1, h2, h3, h4, h5⟩
    | ⟨h1, h2, h3, h4, h5⟩ := courses i (count i T1)
  all_goals
    sl_exec! (disch := first | (guard_target = k0_cond1 _ _ = _; exact h1) | (guard_target = ¬(k0_cond1 _ _ = _); exact h1) | (guard_target = k0_cond2 _ _ = _; exact h2) | (guard_target = ¬(k0_cond2 _ _ = _); exact h2) | (guard_target = k0_cond3 _ _ = _; exact h3) | (guard_target = ¬(k0_cond3 _ _ = _); exact h3) | (guard_target = k0_cond4 _ _ = _; exact h4) | (guard_target = ¬(k0_cond4 _ _ = _); exact h4) | (guard_target = k0_cond5 _ _ = _; exact h5) | (guard_target = ¬(k0_cond5 _ _ = _); exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    isplitl [HT2]; · iexact HT2
    unfold owns
    iexists _; isplitr; swap
    · iexact HO7
    ipureintro
    unfold step
    simp only [h1, h2, h3, h4, h5, if_true, if_false]
  · refine (read_lo_hi arg12.view _ _ _).trans ?_
    delta run.sl.r_1 run.sl.r_2 run.sl.r_3 run.sl.cst_35
    rw [View.readAt_rep_full arg6.view x1, View.readAt_rep_full arg7.view x2, View.readAt_rep_full arg8.view x3,
      View.readAt_rep_full arg9.view x4, View.readAt_rep_full arg10.view x5, View.readAt_rep_full arg11.view x6,
      load_lo arg5.view x0]
    rfl
  · refine (read_lo arg12.view _ _).trans ?_
    delta run.sl.r_5
    rw [View.readAt_rep_full arg6.view x1, View.readAt_rep_full arg7.view x2, View.readAt_rep_full arg8.view x3,
      View.readAt_rep_full arg9.view x4, View.readAt_rep_full arg10.view x5, load_lo arg5.view x0, load_lo arg12.view y]
  · refine (read_hi_lo arg12.view _ _ _).trans ?_
    delta run.sl.r_11 run.sl.r_10 run.sl.r_9 run.sl.r_8 run.sl.r_7
    rw [View.readAt_rep_full arg6.view x1, View.readAt_rep_full arg7.view x2, View.readAt_rep_full arg8.view x3,
      View.readAt_rep_full arg9.view x4, View.readAt_rep_full arg10.view x5, View.readAt_rep_full arg11.view x6,
      load_lo arg5.view x0, load_hi arg5.view x0]
    rfl
  · refine (read_hi_lo arg12.view _ _ _).trans ?_
    delta run.sl.r_13 run.sl.r_14 run.sl.r_15 run.sl.r_16 run.sl.v94
    rw [View.readAt_rep_full arg6.view x1, View.readAt_rep_full arg7.view x2, View.readAt_rep_full arg8.view x3,
      View.readAt_rep_full arg9.view x4, View.readAt_rep_full arg10.view x5, load_lo arg5.view x0, load_hi arg5.view x0,
      load_lo arg12.view y, load_hi arg12.view y]
    rfl
  · delta run.sl.HO7_1
    exact View.read_writes_full arg12.view _ _ _ _
  · exact View.read_rep arg12.view y

end Cert.Kernel2Ideal.Moe

end
-- ==== Proof.M.Tab.lean ====
/-
  The three tables the expert feed-forward call steers by: which expert a tile of rows belongs to, how many rows it holds and
  which tile of the input it reads. In their ranges every block lies inside its array, so the call's side condition holds; and
  along the grid each tile's four quarters are consecutive points.
-/
module

public import proofs.«01_k».proof.Proof.M.Run
public import proofs.«01_k».proof.Proof.Gen.Kernel2Ideal.Launch

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic

variable {F : FTy → Type} [FloatOps F]

/-- The tables are in range: an expert below 32, at most 1024 rows, a tile below 161. -/
structure InRange (T0 T1 T2 : S161.Idx → BitVec 32) : Prop where
  expert : ∀ x, (T0 x).toNat < 32
  rows : ∀ x, (T1 x).toNat ≤ 1024
  tile : ∀ x, (T2 x).toNat < 161

/-- The entry of a table at a tile. -/
def at161 (j : Fin 161) : S161.Idx := fun a => match a with | ⟨0, _⟩ => ⟨j.val, j.isLt⟩

/-- The tile of a grid point. -/
def tile (i : grid0.Coords) : Fin 161 := ⟨(i 0).val, (i 0).isLt⟩
/-- The quarter of a grid point. -/
def quart (i : grid0.Coords) : Fin 4 := ⟨(i 1).val, (i 1).isLt⟩

theorem ofNat_tile (i : grid0.Coords) : (BitVec.ofNat 32 (i 0).val).toNat = (i 0).val := by
  have : (i 0).val < 161 := (i 0).isLt
  rw [BitVec.toNat_ofNat]; omega

theorem ofNat_quart (i : grid0.Coords) : (BitVec.ofNat 32 (i 1).val).toNat = (i 1).val := by
  have : (i 1).val < 4 := (i 1).isLt
  rw [BitVec.toNat_ofNat]; omega

theorem ofNat_quart4 (i : grid0.Coords) : (Scalar.addi (4#32) (BitVec.ofNat 32 (i 1).val)).toNat = 4 + (i 1).val := by
  have : (i 1).val < 4 := (i 1).isLt
  show (4#32 + BitVec.ofNat 32 (i 1).val).toNat = _
  rw [BitVec.toNat_add, BitVec.toNat_ofNat]; simp; omega

/-- The one entry that a load at a grid point's tile names. -/
theorem unit_first (i : grid0.Coords) (h : (Rect.unit (s := S161) (k0_off1 i) S1.size (k0_off1_inb i)).shape.numel = 1) :
    (Rect.unit (s := S161) (k0_off1 i) S1.size (k0_off1_inb i)).emb (Shape.Idx.first (h.symm ▸ Nat.one_pos)) = at161 (tile i) := by
  have e : k0_off1 i 0 = (i 0).val := by
    show (Scalar.indexCast (BitVec.ofNat 32 (i 0).val)).toNat = _
    have : (i 0).val < 161 := (i 0).isLt
    simp [Scalar.indexCast]
    omega
  have z : ∀ p : 0 < S1.numel, (Shape.Idx.first (s := S1) p 0).val = 0 := fun p => Nat.lt_one_iff.1 (Shape.Idx.first (s := S1) p 0).isLt
  funext a
  match a with
  | ⟨0, _⟩ =>
    refine Fin.ext ?_
    exact (congrArg (fun q => k0_off1 i 0 + 1 * q) (z _)).trans e

variable (T : pre0.Contents (Elt F))

/-- The three tables as arrays of words. -/
def wE : S161.Idx → BitVec 32 := T 0
def wN : S161.Idx → BitVec 32 := T 1
def wI : S161.Idx → BitVec 32 := T 2

theorem wix0 (i : grid0.Coords) : cc0_transform_0 k0_off1_inb numel1_S1 T i = ![(wI T (at161 (tile i))).toNat, 0] := by
  refine funext fun a => ?_
  match a with
  | ⟨0, _⟩ => exact congrArg (fun x => (wI T x).toNat) (unit_first i numel1_S1)
  | ⟨1, _⟩ => rfl

theorem wix1 (i : grid0.Coords) : cc0_transform_1 k0_off1_inb numel1_S1 T i = ![(wE T (at161 (tile i))).toNat, 0, (i 1).val] := by
  refine funext fun a => ?_
  match a with
  | ⟨0, _⟩ => exact congrArg (fun x => (wE T x).toNat) (unit_first i numel1_S1)
  | ⟨1, _⟩ => rfl
  | ⟨2, _⟩ => exact ofNat_quart i

theorem wix2 (i : grid0.Coords) : cc0_transform_2 k0_off1_inb numel1_S1 T i = ![(wE T (at161 (tile i))).toNat, 0, 4 + (i 1).val] := by
  refine funext fun a => ?_
  match a with
  | ⟨0, _⟩ => exact congrArg (fun x => (wE T x).toNat) (unit_first i numel1_S1)
  | ⟨1, _⟩ => rfl
  | ⟨2, _⟩ => exact ofNat_quart4 i

theorem wix3 (i : grid0.Coords) : cc0_transform_3 k0_off1_inb numel1_S1 T i = ![(wE T (at161 (tile i))).toNat, 0, (i 1).val] := by
  refine funext fun a => ?_
  match a with
  | ⟨0, _⟩ => exact congrArg (fun x => (wE T x).toNat) (unit_first i numel1_S1)
  | ⟨1, _⟩ => rfl
  | ⟨2, _⟩ => exact ofNat_quart i

theorem wix4 (i : grid0.Coords) : cc0_transform_4 k0_off1_inb numel1_S1 T i = ![(wE T (at161 (tile i))).toNat, 0, 4 + (i 1).val] := by
  refine funext fun a => ?_
  match a with
  | ⟨0, _⟩ => exact congrArg (fun x => (wE T x).toNat) (unit_first i numel1_S1)
  | ⟨1, _⟩ => rfl
  | ⟨2, _⟩ => exact ofNat_quart4 i

theorem wix5 (i : grid0.Coords) : cc0_transform_5 k0_off1_inb numel1_S1 T i = ![(wE T (at161 (tile i))).toNat, (i 1).val, 0] := by
  refine funext fun a => ?_
  match a with
  | ⟨0, _⟩ => exact congrArg (fun x => (wE T x).toNat) (unit_first i numel1_S1)
  | ⟨1, _⟩ => exact ofNat_quart i
  | ⟨2, _⟩ => rfl

theorem wix6 (i : grid0.Coords) : cc0_transform_6 k0_off1_inb numel1_S1 T i = ![(wE T (at161 (tile i))).toNat, 0, 0] := by
  refine funext fun a => ?_
  match a with
  | ⟨0, _⟩ => exact congrArg (fun x => (wE T x).toNat) (unit_first i numel1_S1)
  | ⟨1, _⟩ => rfl
  | ⟨2, _⟩ => rfl

theorem wix7 (i : grid0.Coords) : cc0_transform_7 i = ![(i 0).val, 0] := by
  refine funext fun a => ?_
  match a with
  | ⟨0, _⟩ => exact ofNat_tile i
  | ⟨1, _⟩ => rfl

/-- The word the body tests is the tile's row count. -/
theorem count_eq (i : grid0.Coords) (T1 : S161.Idx → Elt F .i32) : count i T1 = T1 (at161 (tile i)) :=
  congrArg T1 (unit_first i numel1_S1)

/-- So is the word the schedule tests. -/
theorem atD_eq (i : grid0.Coords) : T.atD 1 (k0_off1 i) = wN T (at161 (tile i)) := by
  have h : ∀ a, k0_off1 i a + 1 ≤ S161.size a := fun a => by
    match a with
    | ⟨0, _⟩ => exact k0_off1_inb i 0
  have z : ∀ p : 0 < S1.numel, (Shape.Idx.first (s := S1) p 0).val = 0 := fun p => Nat.lt_one_iff.1 (Shape.Idx.first (s := S1) p 0).isLt
  refine (dif_pos h).trans (congrArg (wN T) (Eq.trans ?_ (unit_first i numel1_S1)))
  funext a
  match a with
  | ⟨0, _⟩ =>
    refine Fin.ext ?_
    exact (congrArg (fun q => k0_off1 i 0 + 1 * q) (z _)).symm

/-- In range, every block lies inside its array, in whole words. -/
theorem ok_of (h : InRange (wE T) (wN T) (wI T)) : ok0 T := by
  refine ⟨fun i => ⟨?_, .inr (Affine.block_words_dvd (s := S164864x2048) (p := EltTy.packing .bf16) (by decide) (by decide))⟩,
    fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩⟩
  all_goals
    have hi : (i 1).val < 4 := (i 1).isLt
    have he := h.expert (at161 (tile i))
    have ht := h.tile (at161 (tile i))
    intro a
  · rw [wix0]
    match a with
    | ⟨0, _⟩ => show ((wI T (at161 (tile i))).toNat + 1) * 1024 ≤ 164864; omega
    | ⟨1, _⟩ => show (0 + 1) * 2048 ≤ 2048; omega
  · rw [wix1]
    match a with
    | ⟨0, _⟩ => show ((wE T (at161 (tile i))).toNat + 1) * 1 ≤ 32; omega
    | ⟨1, _⟩ => show (0 + 1) * 2048 ≤ 2048; omega
    | ⟨2, _⟩ => show ((i 1).val + 1) * 512 ≤ 4096; omega
  · rw [wix2]
    match a with
    | ⟨0, _⟩ => show ((wE T (at161 (tile i))).toNat + 1) * 1 ≤ 32; omega
    | ⟨1, _⟩ => show (0 + 1) * 2048 ≤ 2048; omega
    | ⟨2, _⟩ => show (4 + (i 1).val + 1) * 512 ≤ 4096; omega
  · rw [wix3]
    match a with
    | ⟨0, _⟩ => show ((wE T (at161 (tile i))).toNat + 1) * 1 ≤ 32; omega
    | ⟨1, _⟩ => show (0 + 1) * 1 ≤ 1; omega
    | ⟨2, _⟩ => show ((i 1).val + 1) * 512 ≤ 4096; omega
  · rw [wix4]
    match a with
    | ⟨0, _⟩ => show ((wE T (at161 (tile i))).toNat + 1) * 1 ≤ 32; omega
    | ⟨1, _⟩ => show (0 + 1) * 1 ≤ 1; omega
    | ⟨2, _⟩ => show (4 + (i 1).val + 1) * 512 ≤ 4096; omega
  · rw [wix5]
    match a with
    | ⟨0, _⟩ => show ((wE T (at161 (tile i))).toNat + 1) * 1 ≤ 32; omega
    | ⟨1, _⟩ => show ((i 1).val + 1) * 512 ≤ 2048; omega
    | ⟨2, _⟩ => show (0 + 1) * 2048 ≤ 2048; omega
  · rw [wix6]
    match a with
    | ⟨0, _⟩ => show ((wE T (at161 (tile i))).toNat + 1) * 1 ≤ 32; omega
    | ⟨1, _⟩ => show (0 + 1) * 1 ≤ 1; omega
    | ⟨2, _⟩ => show (0 + 1) * 2048 ≤ 2048; omega

/-! ## The grid's order -/

theorem crd_eq : ∀ t : Fin grid0.N, (grid0.coords t 0).val = t.val / 4 ∧ (grid0.coords t 1).val = t.val % 4 := by
  decide +kernel

variable (a : (pcfg0 (F := F)).Adm)

/-- A tile's block of the output is written back at its last quarter. -/
theorem flush7 (t : Fin (cfg0 a).N) : ((cfg0 a).win 7).flush t = decide ((t.val + 1) % 4 = 0) := by
  have hN : (cfg0 a).N = 644 := N_0
  have ht : t.val < 644 := hN ▸ t.isLt
  have e : ∀ s : Fin (cfg0 a).N, ((cfg0 a).win 7).index s = ![s.val / 4, 0] := fun s =>
    (wix7 (grid0.coords s)).trans (by rw [(crd_eq s).1])
  unfold Pipeline.Window.flush
  rw [show ((cfg0 a).win 7).isOut = true from rfl, Bool.true_and]
  rw [← Bool.decide_or]
  refine decide_eq_decide.2 ?_
  constructor
  · rintro (h | ⟨h, hne⟩)
    · have : t.val + 1 = 644 := h.trans hN
      omega
    · rw [e, e] at hne
      by_contra hc
      refine hne ?_
      have : (t.val + 1) / 4 = t.val / 4 := by omega
      show ![(t.val + 1) / 4, 0] = _
      rw [this]
  · intro h
    by_cases hl : t.val + 1 = 644
    · exact .inl (hl.trans hN.symm)
    · refine .inr ⟨lt_of_lt_of_eq (show t.val + 1 < 644 by omega) hN.symm, fun hc => ?_⟩
      rw [e, e] at hc
      have := congrFun hc 0
      have h2 : (t.val + 1) / 4 = t.val / 4 := this
      omega

/-- The schedule's test for a point that stores nothing, in the words of the body's. -/
theorem idle7 (i : grid0.Coords) : (cfg0 a).idle 7 i = true ↔ ¬ k0_cond1 i (wN a.1 (at161 (tile i))) = 1#1
    ∧ ¬ k0_cond2 i (wN a.1 (at161 (tile i))) = 1#1 ∧ ¬ k0_cond3 i (wN a.1 (at161 (tile i))) = 1#1
    ∧ ¬ k0_cond4 i (wN a.1 (at161 (tile i))) = 1#1 ∧ ¬ k0_cond5 i (wN a.1 (at161 (tile i))) = 1#1 := by
  have e := atD_eq a.1 i
  show (idle0 a.1 7 i) = true ↔ _
  rw [← e]
  simp only [idle0, Bool.and_eq_true, Bool.not_eq_true', beq_eq_false_iff_ne, ne_eq, and_assoc]

/-- At a tile's first quarter something is stored, its row count being in range. -/
theorem live_first (h : InRange (wE a.1) (wN a.1) (wI a.1)) (i : grid0.Coords) (hi : (i 1).val = 0) : (cfg0 a).idle 7 i = false := by
  rw [Bool.eq_false_iff, ne_eq, idle7]
  have hr := h.rows (at161 (tile i))
  have e := BitVec.toInt_eq_toNat_of_lt (x := (wN a.1 (at161 (tile i)))) (by omega)
  have hz : ((i 1).val : Int) = 0 := by omega
  rintro ⟨h1, -, h3, -, h5⟩
  rw [cond1_iff] at h1; rw [cond3_iff] at h3; rw [cond5_iff] at h5
  have e' : (wN a.1 (at161 (tile i))).toInt = ((wN a.1 (at161 (tile i))).toNat : Int) := e
  have hr' : (wN a.1 (at161 (tile i))).toNat ≤ 1024 := hr
  rw [e'] at h1 h3 h5
  omega

/-- Nothing is stored into the output's buffer since its last write-back exactly at a tile's first quarter. -/
theorem fresh7 (h : InRange (wE a.1) (wN a.1) (wI a.1)) (n : ℕ) (hn : n ≤ (cfg0 a).N) :
    (cfg0 a).fresh 7 n = decide (n % 4 = 0) := by
  refine (cfg0 a).fresh_tab 7 (fun n => decide (n % 4 = 0)) rfl (fun t => ?_) n hn
  rw [flush7]
  by_cases hz : t.val % 4 = 0
  · rw [show (cfg0 a).idle 7 ((cfg0 a).grid.coords t) = false from live_first a h _ ((crd_eq t).2.trans hz), Bool.false_and, Bool.or_false]
  · rw [decide_eq_false hz, Bool.and_false, Bool.or_false]

end Cert.Kernel2Ideal.Moe

end
-- ==== Proof.M.Frame.lean ====
/-
  The expert feed-forward call along its grid: what the output's block holds after each point, the body's contract at every
  point, and the run of the whole program from tables in range.
-/
module

public import proofs.«01_k».proof.Proof.M.Tab
public import Idealize.ShloMosaic.Lib.Claim

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-- The buffers as the host operations leave them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The host operations write none of the arguments. -/
theorem V_arg (c : Dev nD) (b : Ref sig .tc) (h : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    obtain ⟨h0, h1, h2, h3, h4, h5⟩ := h
    simp only [hostOps0, List.Forall, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- A grid point's coordinates. -/
abbrev crd (t : Fin (cfg0 a).N) : grid0.Coords := (cfg0 a).grid.coords t

/-- Window `w`'s block at a point, read off its array. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V m c (Pipeline.arrRef spec0 w))

/-- What a point makes of the output's block. -/
def stp (c : Dev nD) (t : Fin (cfg0 a).N) (y : S1024x2048.Idx → Elt F .f32) : S1024x2048.Idx → Elt F .f32 :=
  step (crd a t) (iblk m a c 0 t) (iblk m a c 1 t) (iblk m a c 2 t) (iblk m a c 3 t) (iblk m a c 4 t) (iblk m a c 5 t) (iblk m a c 6 t) y
    (count (crd a t) (a.1 1))

/-- What the output's block holds after each point. -/
def traj (c : Dev nD) : (n : ℕ) → n < (cfg0 a).N → (S1024x2048.Idx → Elt F .f32)
  | 0, h => stp m a c ⟨0, h⟩ (k0_pay3 (F := F))
  | n + 1, h => stp m a c ⟨n + 1, h⟩ (traj c n (Nat.lt_of_succ_lt h))

/-- After a point that is not the first: that point's step of what the point before left. -/
theorem traj_succ (c : Dev nD) (t : Fin (cfg0 a).N) (h : t.val ≠ 0) :
    traj m a c t.val t.isLt = stp m a c t (traj m a c (t.val - 1) (lt_of_le_of_lt (Nat.sub_le _ _) t.isLt)) := by
  obtain ⟨n, hn⟩ := t
  cases n with
  | zero => exact absurd rfl h
  | succ n => rfl

/-- A point that stores nothing leaves the block. -/
theorem stp_idle (c : Dev nD) (t : Fin (cfg0 a).N) (h : (cfg0 a).idle 7 (crd a t) = true) (y : S1024x2048.Idx → Elt F .f32) :
    stp m a c t y = y := by
  obtain ⟨h1, h2, h3, h4, h5⟩ := (idle7 a (crd a t)).1 h
  have e : count (crd a t) (a.1 1) = wN a.1 (at161 (tile (crd a t))) := count_eq (crd a t) _
  unfold stp step
  rw [e, if_neg h1, if_neg h2, if_neg h3, if_neg h4, if_neg h5]

variable (hin : InRange (wE a.1) (wN a.1) (wI a.1))
include hin

/-- A tile's first quarter overwrites the block, whatever it held. -/
theorem stp_first (c : Dev nD) (t : Fin (cfg0 a).N) (h : t.val % 4 = 0) (y z : S1024x2048.Idx → Elt F .f32) :
    stp m a c t y = stp m a c t z := by
  have h0 : (crd a t 1).val = 0 := (crd_eq t).2.trans h
  have hl := live_first a hin (crd a t) h0
  have e : count (crd a t) (a.1 1) = wN a.1 (at161 (tile (crd a t))) := count_eq (crd a t) _
  have h2 : ¬ k0_cond2 (crd a t) (wN a.1 (at161 (tile (crd a t)))) = 1#1 := fun k => by
    have := ((cond2_iff _ _).1 k).2; omega
  have h4 : ¬ k0_cond4 (crd a t) (wN a.1 (at161 (tile (crd a t)))) = 1#1 := fun k => by
    have := ((cond4_iff _ _).1 k).2; omega
  unfold stp step
  rw [e]
  by_cases h1 : k0_cond1 (crd a t) (wN a.1 (at161 (tile (crd a t)))) = 1#1
  · rw [if_pos h1, if_pos h1]
  rw [if_neg h1, if_neg h1, if_neg h2, if_neg h2]
  by_cases h3 : k0_cond3 (crd a t) (wN a.1 (at161 (tile (crd a t)))) = 1#1
  · rw [if_pos h3, if_pos h3]
  rw [if_neg h3, if_neg h3, if_neg h4, if_neg h4]
  by_cases h5 : k0_cond5 (crd a t) (wN a.1 (at161 (tile (crd a t)))) = 1#1
  · rw [if_pos h5, if_pos h5]
  rw [((idle7 a (crd a t)).2 ⟨h1, h2, h3, h4, h5⟩)] at hl
  exact absurd hl (by decide)

omit hin

/-! ## The proof data -/

/-- The pipeline's proof data on a core: the arrays as the host operations leave them, each input's buffer at its block after a
    point, the output's at what the points so far made of it, the tables held throughout. -/
def dats (_ : Fin 1) (c : Dev nD) : Dat τ (Elt F) Unit ℕ (UR sig nD τ) ℕ (cfg0 a) c where
  A w := V m c (Pipeline.arrRef spec0 w)
  after w t := match w with
    | ⟨0, _⟩ => iblk m a c (0 : Fin 8) t
    | ⟨1, _⟩ => iblk m a c (1 : Fin 8) t
    | ⟨2, _⟩ => iblk m a c (2 : Fin 8) t
    | ⟨3, _⟩ => iblk m a c (3 : Fin 8) t
    | ⟨4, _⟩ => iblk m a c (4 : Fin 8) t
    | ⟨5, _⟩ => iblk m a c (5 : Fin 8) t
    | ⟨6, _⟩ => iblk m a c (6 : Fin 8) t
    | ⟨7, _⟩ => traj m a c t.val t.isLt
  Φ _ := iprop(Pipeline.ΦA spec0 c ∗ Pipeline.ΦT pre0 a.1 c)
  q w := Pipeline.shareOf spec0 w
  owed _ := 0

/-- Each input's buffer keeps its block; the output's follows the trajectory. -/
theorem after_0 (c : Dev nD) (t : Fin (cfg0 a).N) : (dats m a 0 c).after ((0 : Fin 8)) t = iblk m a c (0 : Fin 8) t := rfl
theorem after_1 (c : Dev nD) (t : Fin (cfg0 a).N) : (dats m a 0 c).after ((1 : Fin 8)) t = iblk m a c (1 : Fin 8) t := rfl
theorem after_2 (c : Dev nD) (t : Fin (cfg0 a).N) : (dats m a 0 c).after ((2 : Fin 8)) t = iblk m a c (2 : Fin 8) t := rfl
theorem after_3 (c : Dev nD) (t : Fin (cfg0 a).N) : (dats m a 0 c).after ((3 : Fin 8)) t = iblk m a c (3 : Fin 8) t := rfl
theorem after_4 (c : Dev nD) (t : Fin (cfg0 a).N) : (dats m a 0 c).after ((4 : Fin 8)) t = iblk m a c (4 : Fin 8) t := rfl
theorem after_5 (c : Dev nD) (t : Fin (cfg0 a).N) : (dats m a 0 c).after ((5 : Fin 8)) t = iblk m a c (5 : Fin 8) t := rfl
theorem after_6 (c : Dev nD) (t : Fin (cfg0 a).N) : (dats m a 0 c).after ((6 : Fin 8)) t = iblk m a c (6 : Fin 8) t := rfl
theorem after_7 (c : Dev nD) (t : Fin (cfg0 a).N) : (dats m a 0 c).after (7 : Fin 8) t = traj m a c t.val t.isLt := rfl

/-- When the body runs each input's buffer holds its block. -/
theorem before_0 (c : Dev nD) (t : Fin (cfg0 a).N) (d) : (dats m a 0 c).before (0 : Fin 8) t d = iblk m a c (0 : Fin 8) t :=
  ((dats m a 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfg0 a).N) (d) : (dats m a 0 c).before (1 : Fin 8) t d = iblk m a c (1 : Fin 8) t :=
  ((dats m a 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfg0 a).N) (d) : (dats m a 0 c).before (2 : Fin 8) t d = iblk m a c (2 : Fin 8) t :=
  ((dats m a 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfg0 a).N) (d) : (dats m a 0 c).before (3 : Fin 8) t d = iblk m a c (3 : Fin 8) t :=
  ((dats m a 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfg0 a).N) (d) : (dats m a 0 c).before (4 : Fin 8) t d = iblk m a c (4 : Fin 8) t :=
  ((dats m a 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfg0 a).N) (d) : (dats m a 0 c).before (5 : Fin 8) t d = iblk m a c (5 : Fin 8) t :=
  ((dats m a 0 c).before_in_eq_fetched (5 : Fin 8) rfl (fun _ => rfl) (fun _ _ _ => rfl) (fun t => by rw [after_5]; unfold Dat.blockOf iblk; rfl) t d).trans
    (by unfold Dat.fetched Dat.blockOf iblk; rfl)
theorem before_6 (c : Dev nD) (t : Fin (cfg0 a).N) (d) : (dats m a 0 c).before (6 : Fin 8) t d = iblk m a c (6 : Fin 8) t :=
  ((dats m a 0 c).before_in_eq_fetched (6 : Fin 8) rfl (fun _ => rfl) (fun _ _ _ => rfl) (fun t => by rw [after_6]; unfold Dat.blockOf iblk; rfl) t d).trans
    (by unfold Dat.fetched Dat.blockOf iblk; rfl)

include hin

/-- What the body makes of the output's buffer, whichever way it comes: what the trajectory says. -/
theorem stp_before (c : Dev nD) (t : Fin (cfg0 a).N) (d) :
    stp m a c t ((dats m a 0 c).before (7 : Fin 8) t d) = traj m a c t.val t.isLt := by
  have hc : ∀ (t : Fin (cfg0 a).N) (ht : t.val ≠ 0), (cfg0 a).idle (7 : Fin 8) ((cfg0 a).grid.coords t) = true → (cfg0 a).fresh (7 : Fin 8) t.val = false →
      (dats m a 0 c).after (7 : Fin 8) t = (dats m a 0 c).after (7 : Fin 8) ⟨t.val - 1, by omega⟩ := fun t ht hi _ => by
    rw [after_7, after_7, traj_succ m a c t ht, stp_idle m a c t hi]
  rw [(dats m a 0 c).before_out_traj (7 : Fin 8) rfl (fun _ _ => rfl) hc t.val t rfl d, fresh7 a hin t.val t.isLt.le]
  by_cases h : t.val % 4 = 0
  · by_cases h0 : t.val = 0
    · obtain ⟨n, hn⟩ := t
      obtain rfl : n = 0 := h0
      exact stp_first m a hin c _ h _ _
    · rw [traj_succ m a c t h0]
      exact stp_first m a hin c t h _ _
  · have h0 : t.val ≠ 0 := fun e => h (by rw [e])
    rw [decide_eq_false h, traj_succ m a c t h0, if_neg (by decide), after_7]

omit hin

abbrev ms_0 (t : Fin (cfg0 a).N) : Memref sig .tc .vmem S1024x2048 .bf16 := spec0_0.stage ((cfg0 a).slots t (0 : Fin 8))
theorem hs_0 (t : Fin (cfg0 a).N) : (ms_0 a t).IsWhole := hstage0_0 (((cfg0 a).slots t (0 : Fin 8)).cast nbuf0_0)
abbrev ms_1 (t : Fin (cfg0 a).N) : Memref sig .tc .vmem S1x2048x512 .f32 := spec0_1.stage ((cfg0 a).slots t (1 : Fin 8))
theorem hs_1 (t : Fin (cfg0 a).N) : (ms_1 a t).IsWhole := hstage0_1 (((cfg0 a).slots t (1 : Fin 8)).cast nbuf0_1)
abbrev ms_2 (t : Fin (cfg0 a).N) : Memref sig .tc .vmem S1x2048x512 .f32 := spec0_2.stage ((cfg0 a).slots t (2 : Fin 8))
theorem hs_2 (t : Fin (cfg0 a).N) : (ms_2 a t).IsWhole := hstage0_2 (((cfg0 a).slots t (2 : Fin 8)).cast nbuf0_2)
abbrev ms_3 (t : Fin (cfg0 a).N) : Memref sig .tc .vmem S1x1x512 .f32 := spec0_3.stage ((cfg0 a).slots t (3 : Fin 8))
theorem hs_3 (t : Fin (cfg0 a).N) : (ms_3 a t).IsWhole := hstage0_3 (((cfg0 a).slots t (3 : Fin 8)).cast nbuf0_3)
abbrev ms_4 (t : Fin (cfg0 a).N) : Memref sig .tc .vmem S1x1x512 .f32 := spec0_4.stage ((cfg0 a).slots t (4 : Fin 8))
theorem hs_4 (t : Fin (cfg0 a).N) : (ms_4 a t).IsWhole := hstage0_4 (((cfg0 a).slots t (4 : Fin 8)).cast nbuf0_4)
abbrev ms_5 (t : Fin (cfg0 a).N) : Memref sig .tc .vmem S1x512x2048 .f32 := spec0_5.stage ((cfg0 a).slots t (5 : Fin 8))
theorem hs_5 (t : Fin (cfg0 a).N) : (ms_5 a t).IsWhole := hstage0_5 (((cfg0 a).slots t (5 : Fin 8)).cast nbuf0_5)
abbrev ms_6 (t : Fin (cfg0 a).N) : Memref sig .tc .vmem S1x1x2048 .f32 := spec0_6.stage ((cfg0 a).slots t (6 : Fin 8))
theorem hs_6 (t : Fin (cfg0 a).N) : (ms_6 a t).IsWhole := hstage0_6 (((cfg0 a).slots t (6 : Fin 8)).cast nbuf0_6)
abbrev ms_7 (t : Fin (cfg0 a).N) : Memref sig .tc .vmem S1024x2048 .f32 := spec0_7.stage ((cfg0 a).slots t (7 : Fin 8))
theorem hs_7 (t : Fin (cfg0 a).N) : (ms_7 a t).IsWhole := hstage0_7 (((cfg0 a).slots t (7 : Fin 8)).cast nbuf0_7)

/-- The body at a point on its buffers. -/
abbrev bodyAt (t : Fin (cfg0 a).N) : Prog (TpuEff nD τ sig (Elt F) Λ₀ .tc) PUnit :=
  cc0_moe (crd a t) tabE (Memref.isWhole_whole _) tabN (Memref.isWhole_whole _) tabI (Memref.isWhole_whole _) (ms_0 a t) (hs_0 a t) (ms_1 a t) (hs_1 a t) (ms_2 a t) (hs_2 a t) (ms_3 a t) (hs_3 a t) (ms_4 a t) (hs_4 a t) (ms_5 a t) (hs_5 a t) (ms_6 a t) (hs_6 a t) (ms_7 a t) (hs_7 a t)

/-- The tables one by one. -/
theorem tables_eq (c : Dev nD) : (Pipeline.ΦT pre0 a.1 c : sProp 𝕄)
    = iprop((tabE.view.loc (c : Thread nD τ) ↦{fullShare.right} a.1 0) ∗ (tabN.view.loc (c : Thread nD τ) ↦{fullShare.right} a.1 1)
      ∗ (tabI.view.loc (c : Thread nD τ) ↦{fullShare.right} a.1 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

include hin

set_option maxHeartbeats 6400000 in
/-- The body's contract at every point: from the buffers as the pipeline fills them the body runs and leaves each as the proof
    data say. -/
theorem sound_body (c : Dev nD) (t : Fin (cfg0 a).N) :
    iprop((dats m a 0 c).Φ t.castSucc ∗ (dats m a 0 c).owesAt () t.castSucc
        ∗ (∃ d, owns (c : Thread nD τ) (ms_0 a t) fullShare ((dats m a 0 c).before (0 : Fin 8) t d))
        ∗ (∃ d, owns (c : Thread nD τ) (ms_1 a t) fullShare ((dats m a 0 c).before (1 : Fin 8) t d))
        ∗ (∃ d, owns (c : Thread nD τ) (ms_2 a t) fullShare ((dats m a 0 c).before (2 : Fin 8) t d))
        ∗ (∃ d, owns (c : Thread nD τ) (ms_3 a t) fullShare ((dats m a 0 c).before (3 : Fin 8) t d))
        ∗ (∃ d, owns (c : Thread nD τ) (ms_4 a t) fullShare ((dats m a 0 c).before (4 : Fin 8) t d))
        ∗ (∃ d, owns (c : Thread nD τ) (ms_5 a t) fullShare ((dats m a 0 c).before (5 : Fin 8) t d))
        ∗ (∃ d, owns (c : Thread nD τ) (ms_6 a t) fullShare ((dats m a 0 c).before (6 : Fin 8) t d))
        ∗ (∃ d, owns (c : Thread nD τ) (ms_7 a t) fullShare ((dats m a 0 c).before (7 : Fin 8) t d)))
      ⊢ wp frame (wpE (defs₀ (F := F)) Variants.none c none) Set.univ (bodyAt a t) fun _ =>
          iprop((dats m a 0 c).Φ t.succ ∗ (dats m a 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats m a 0 c).before w t d))
                  | true => owns (c : Thread nD τ) (((cfg0 a).win w).stage ((cfg0 a).slots t w)) fullShare ((dats m a 0 c).after w t)
                | false => owns (c : Thread nD τ) (((cfg0 a).win w).stage ((cfg0 a).slots t w)) fullShare ((dats m a 0 c).after w t)) := by
  rw [bigSep_W0]
  simp only [before_0, before_1, before_2, before_3, before_4, before_5, before_6, after_0, after_1, after_2, after_3, after_4, after_5, after_6]
  rewrite [show (dats m a 0 c).Φ t.succ = iprop(Pipeline.ΦA spec0 c ∗ Pipeline.ΦT pre0 a.1 c) from rfl,
    show (dats m a 0 c).Φ t.castSucc = iprop(Pipeline.ΦA spec0 c ∗ Pipeline.ΦT pre0 a.1 c) from rfl,
    show (dats m a 0 c).owesAt () t.succ = (dats m a 0 c).owesAt () t.castSucc from rfl, tables_eq]
  iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (crd a t) (ms_0 a t) (hs_0 a t) (ms_1 a t) (hs_1 a t) (ms_2 a t) (hs_2 a t) (ms_3 a t) (hs_3 a t) (ms_4 a t) (hs_4 a t) (ms_5 a t) (hs_5 a t) (ms_6 a t) (hs_6 a t) (ms_7 a t) (hs_7 a t) (a.1 0) (a.1 1) (a.1 2) (iblk m a c (0 : Fin 8) t) (iblk m a c (1 : Fin 8) t) (iblk m a c (2 : Fin 8) t) (iblk m a c (3 : Fin 8) t) (iblk m a c (4 : Fin 8) t) (iblk m a c (5 : Fin 8) t) (iblk m a c (6 : Fin 8) t)
    ((dats m a 0 c).before (7 : Fin 8) t d7) _)
  unfold Held
  isplitl [H0 H1 H2 H3 H4 H5 H6 HT0 HT1 HT2 H7]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    iexact H7
  iintro ⟨H0, H1, H2, H3, H4, H5, H6, HT0, HT1, HT2, H7⟩
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  rw [show step (crd a t) (iblk m a c (0 : Fin 8) t) (iblk m a c (1 : Fin 8) t) (iblk m a c (2 : Fin 8) t) (iblk m a c (3 : Fin 8) t)
      (iblk m a c (4 : Fin 8) t) (iblk m a c (5 : Fin 8) t) (iblk m a c (6 : Fin 8) t) ((dats m a 0 c).before (7 : Fin 8) t d7)
      (count (crd a t) (a.1 1)) = stp m a c t ((dats m a 0 c).before (7 : Fin 8) t d7) from rfl]
  cases i7 : (cfg0 a).idle (7 : Fin 8) ((cfg0 a).grid.coords t)
  · rw [show idle0 a.1 7 ((pcfg0.gridAt a.1).coords t) = false from i7, stp_before m a hin, ← after_7]; iexact H7
  · rw [show idle0 a.1 7 ((pcfg0.gridAt a.1).coords t) = true from i7]
    cases f7 : ((cfg0 a).win (7 : Fin 8)).flush t
    · rw [stp_idle m a c t i7]; iexists d7; iexact H7
    · rw [stp_before m a hin, ← after_7]; iexact H7

/-- The pipeline's obligation on the body. -/
theorem body_obligation (c : Dev nD) : BodyObligation (dats m a 0 c) (defs₀ (F := F)) Variants.none () Set.univ := fun t => by
  rw [bigSep_W0]
  exact sound_body m a hin c t

set_option backward.isDefEq.respectTransparency.types false in
set_option maxHeartbeats 4000000 in
/-- From tables in range the program runs to the end, every array at what the proof data say and every semaphore at zero. -/
theorem run_main (hpf : ∀ (c : Dev nD) (k : Fin 3), V m c (pre0.ref k) = a.1 k) :
    θ_run (defs (F := F)) (onTc (τ := τ) (main (F := F))) ⟨m, fun _ => 0, ρ⟩
      (fun r => Pipeline.FramePost (Pipeline.pin (pcfgs (F := F)) fun _ => a) (dats m a) 0 (V m) r ∧ r.2.sem = fun _ => 0) :=
  Pipeline.θ_run_frameP_shared (Q' := _) (pcfgs (F := F)) (fun _ => a) (dats m a) (0 : Fin 1) launch₀0 defs₀ Variants.none m ρ main
    (hbody := fun c => (body_obligation m a hin c).loose) (hq := fun _ _ _ => rfl) (howed := fun _ _ => rfl) (V := V m)
    (hmain := Pipeline.hmainP_prefix (pcfgs (F := F)) 0 defs₀ Variants.none m main hostOps0 hostOps0_sub hostOps0_fresh main_chain)
    (hA := fun _ _ => rfl) (hpf := hpf) (hΦ := fun _ _ => rfl) (hQ' := fun _ h => h)

end Cert.Kernel2Ideal.Moe

end
-- ==== Proof.M.Pre.lean ====
/-
  What the precondition on the tables gives, and what it gives the whole call: from tables in range the program runs to the
  end, its arguments unchanged and every semaphore at zero, with any kind of floats.
-/
module

public import proofs.«01_k».proof.Proof.M.Frame
public import proofs.«01_k».proof.Proof.Gen.Pre_in_range
public import Idealize.ShloMosaic.Lib.ReduceAll

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

theorem both_one {a b : BitVec 1} (h : IntOp.andi a b = 1#1) : a = 1#1 ∧ b = 1#1 := by
  revert a b; decide

theorem ge_zero (x : BitVec 32) : IntOp.cmpi .sge x (0#32) = 1#1 ↔ 0 ≤ x.toInt := by
  simp [IntOp.cmpi, BitVec.sle, bit_iff]
theorem lt_word (x b : BitVec 32) : IntOp.cmpi .slt x b = 1#1 ↔ x.toInt < b.toInt := by
  simp [IntOp.cmpi, BitVec.slt, bit_iff]
theorem le_word (x b : BitVec 32) : IntOp.cmpi .sle x b = 1#1 ↔ x.toInt ≤ b.toInt := by
  simp [IntOp.cmpi, BitVec.sle, bit_iff]

/-- A word that is not negative is the number its bits spell. -/
theorem toInt_nonneg {x : BitVec 32} (h : 0 ≤ x.toInt) : x.toInt = (x.toNat : Int) := by
  rw [BitVec.toInt_eq_toNat_cond] at h ⊢
  have := x.isLt
  split at h <;> split <;> omega

section

variable {F : FTy → Type} [FloatOps F]

/-- An array of bits whose conjunction is one holds ones. -/
theorem all_ones {s t u : Shape} [Subsingleton t.Idx] (x : IVec s 1) {axes : List (Fin s.rank)} {init : IVec u 1}
    (h : s.ReducesTo axes t) (hu : 0 < u.numel) (j : t.Idx) (e : Host.reduce IntOp.andi x init h hu j = 1#1) (i : s.Idx) :
    x i = 1#1 := Host.reduce_andi_all _ _ h hu j e i

theorem inRange_of (x0 x1 x2 : IVec S161 32) (x3 : FVec F S164864x2048 .bf16) (x4 : FVec F S1x32x2048x4096 .f32)
    (x5 : FVec F S1x32x4096 .f32) (x6 : FVec F S1x32x2048x2048 .f32) (x7 : FVec F S1x32x2048 .f32)
    (h : Cert.Pre_in_range.fn (F := F) x0 x1 x2 x3 x4 x5 x6 x7 = fun _ => 1#1) : InRange x0 x1 x2 := by
  have j : Cert.Pre_in_range.S_.Idx := fun a => a.elim0
  have e := congrFun h j
  unfold Cert.Pre_in_range.fn Cert.Pre_in_range.fn_part1 at e
  dsimp only at e
  obtain ⟨e, e2⟩ := both_one e
  obtain ⟨e0, e1⟩ := both_one e
  refine ⟨fun x => ?_, fun x => ?_, fun x => ?_⟩
  · obtain ⟨p, q⟩ := both_one (all_ones _ _ _ j e0 x)
    have p' := (ge_zero _).1 p
    have q' : (x0 x).toInt < (32#32).toInt := (lt_word _ _).1 q
    rw [toInt_nonneg p', show (32#32).toInt = 32 from by decide] at q'
    omega
  · obtain ⟨p, q⟩ := both_one (all_ones _ _ _ j e1 x)
    have p' := (ge_zero _).1 p
    have q' : (x1 x).toInt ≤ (1024#32).toInt := (le_word _ _).1 q
    rw [toInt_nonneg p', show (1024#32).toInt = 1024 from by decide] at q'
    omega
  · obtain ⟨p, q⟩ := both_one (all_ones _ _ _ j e2 x)
    have p' := (ge_zero _).1 p
    have q' : (x2 x).toInt < (161#32).toInt := (lt_word _ _).1 q
    rw [toInt_nonneg p', show (161#32).toInt = 161 from by decide] at q'
    omega

variable (m : (ℓ : Loc nD τ sig) → Buf (Elt F) ℓ)

/-- The precondition, of the argument arrays in a memory. -/
abbrev Pre : Prop := ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1

/-- The three tables as a memory holds them. -/
def tabs : pre0.Contents (Elt F) := fun k => m (((0 : Dev nD).tc : Thread nD τ).loc (pre0.ref k))

theorem tabs_in (h : Pre m) : InRange (wE (tabs m)) (wN (tabs m)) (wI (tabs m)) :=
  inRange_of _ _ _ _ _ _ _ _ (h 0)

/-- The tables, with the side condition on them. -/
def adm (h : Pre m) : (pcfg0 (F := F)).Adm := ⟨tabs m, ok_of _ (tabs_in m h)⟩

theorem adm_tabs (h : Pre m) (c : Dev nD) (k : Fin 3) : V m c (pre0.ref k) = (adm m h).1 k := by
  obtain rfl : c = 0 := Subsingleton.elim _ _
  match k with
  | ⟨0, _⟩ => exact V_arg m 0 main_arg0 (by decide)
  | ⟨1, _⟩ => exact V_arg m 0 main_arg1 (by decide)
  | ⟨2, _⟩ => exact V_arg m 0 main_arg2 (by decide)

/-- The run from tables in range. -/
theorem run_pre (ρ : Dev nD → PrngReg) (h : Pre m) :
    θ_run (defs (F := F)) (onTc (τ := τ) (main (F := F))) ⟨m, fun _ => 0, ρ⟩
      (fun r => Pipeline.FramePost (Pipeline.pin (pcfgs (F := F)) fun _ => adm m h) (dats m (adm m h)) 0 (V m) r ∧ r.2.sem = fun _ => 0) :=
  run_main m ρ (adm m h) (tabs_in m h) (adm_tabs m h)

/-- What the run leaves in the arguments and in the result. -/
theorem run_arrays (ρ : Dev nD → PrngReg) (h : Pre m) :
    θ_run (defs (F := F)) (onTc (τ := τ) (main (F := F))) ⟨m, fun _ => 0, ρ⟩ (fun r => (∀ c : Dev nD,
      r.2.mem ((c.tc : Thread nD τ).loc main_v6) = (dats m (adm m h) 0 c).arrAt 7 (cfg0 (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => ⟨(hr.1 c).1 7, ((hr.1 c).2 main_arg0 (Pipeline.mem_restRefs_of main_arg0 (by decide) (by decide : ∀ w : Fin 8, (spec0 w).arr.view.ref ≠ main_arg0))).trans (V_arg m c main_arg0 (by decide)),
    ((hr.1 c).2 main_arg1 (Pipeline.mem_restRefs_of main_arg1 (by decide) (by decide : ∀ w : Fin 8, (spec0 w).arr.view.ref ≠ main_arg1))).trans (V_arg m c main_arg1 (by decide)),
    ((hr.1 c).2 main_arg2 (Pipeline.mem_restRefs_of main_arg2 (by decide) (by decide : ∀ w : Fin 8, (spec0 w).arr.view.ref ≠ main_arg2))).trans (V_arg m c main_arg2 (by decide)),
    ((hr.1 c).1 0).trans (((dats m (adm m h) 0 c).arrAt_in 0 rfl _).trans (V_arg m c main_arg3 (by decide))),
    ((hr.1 c).2 main_arg4 (Pipeline.mem_restRefs_of main_arg4 (by decide) (by decide : ∀ w : Fin 8, (spec0 w).arr.view.ref ≠ main_arg4))).trans (V_arg m c main_arg4 (by decide)),
    ((hr.1 c).2 main_arg5 (Pipeline.mem_restRefs_of main_arg5 (by decide) (by decide : ∀ w : Fin 8, (spec0 w).arr.view.ref ≠ main_arg5))).trans (V_arg m c main_arg5 (by decide)),
    ((hr.1 c).2 main_arg6 (Pipeline.mem_restRefs_of main_arg6 (by decide) (by decide : ∀ w : Fin 8, (spec0 w).arr.view.ref ≠ main_arg6))).trans (V_arg m c main_arg6 (by decide)),
    ((hr.1 c).2 main_arg7 (Pipeline.mem_restRefs_of main_arg7 (by decide) (by decide : ∀ w : Fin 8, (spec0 w).arr.view.ref ≠ main_arg7))).trans (V_arg m c main_arg7 (by decide))⟩, hr.2⟩) (run_pre m ρ h)

/-- The program runs to the end, its arguments unchanged. -/
theorem frame (ρ : Dev nD → PrngReg) (h : Pre m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c => (hr.1 c).2, hr.2⟩) (run_arrays m ρ h)

end

end Cert.Kernel2Ideal.Moe

end
-- ==== Proof.M.Spec.lean ====
/-
  What the expert feed-forward call computes, entry by entry: each tile of 1024 rows goes through its expert's two layers with
  the clamped gated unit between them; a half of a tile that holds no rows is zero.
-/
module

public import proofs.«01_k».proof.Proof.Spec

@[expose] public section

noncomputable section

namespace Cert.Moe

open Idealize.ShloMosaic Idealize.ShloMosaic.Pointwise

/-- The shapes of the arguments. -/
abbrev St : Shape := ⟨1, ![161]⟩
abbrev Sx : Shape := ⟨2, ![164864, 2048]⟩
abbrev Sw : Shape := ⟨4, ![1, 32, 2048, 4096]⟩
abbrev Sb : Shape := ⟨3, ![1, 32, 4096]⟩
abbrev Su : Shape := ⟨4, ![1, 32, 2048, 2048]⟩
abbrev Sd : Shape := ⟨3, ![1, 32, 2048]⟩

/-- The gated unit: the gate at most 7, the linear part within 7 of zero. -/
def unit (g l : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- The first of a row's half of its tile. -/
def start (r : Fin 1024) : ℕ := if r.val < 512 then 0 else 512

variable (x0 x1 x2 : St.Idx → BitVec 32) (x3 : Vec Ideal Sx .bf16) (x4 : Vec Ideal Sw .f32) (x5 : Vec Ideal Sb .f32)
  (x6 : Vec Ideal Su .f32) (x7 : Vec Ideal Sd .f32)

/-- A tile's expert, its number of rows and the place of its first row. -/
def ex (j : Fin 161) : Fin 32 := ⟨min (x0 (ix1 j)).toNat 31, by omega⟩
def cnt (j : Fin 161) : ℕ := (x1 (ix1 j)).toNat
def src (j : Fin 161) (r : Fin 1024) : Fin 164864 := ⟨min (x2 (ix1 j)).toNat 160 * 1024 + r.val, by omega⟩

/-- The first layer. -/
def hid (j : Fin 161) (r : Fin 1024) (f : Fin 4096) : EReal :=
  ∑ k : Fin 2048, x3 (ix2 (src x2 j r) k) * x4 (ix4 0 (ex x0 j) k f) + x5 (ix3 0 (ex x0 j) f)

/-- The hidden units. -/
def act (j : Fin 161) (r : Fin 1024) (f : Fin 2048) : EReal :=
  unit (hid x0 x2 x3 x4 x5 j r ⟨f.val, by omega⟩) (hid x0 x2 x3 x4 x5 j r ⟨2048 + f.val, by omega⟩)

/-- The second layer. -/
def row (j : Fin 161) (r : Fin 1024) (d : Fin 2048) : EReal :=
  ∑ f : Fin 2048, act x0 x2 x3 x4 x5 j r f * x6 (ix4 0 (ex x0 j) f d) + x7 (ix3 0 (ex x0 j) d)

/-- The result, by tile and row. -/
def out (j : Fin 161) (r : Fin 1024) (d : Fin 2048) : EReal :=
  if start r < cnt x1 j then row x0 x2 x3 x4 x5 x6 x7 j r d else 0

/-- The result as one array. -/
def outArr : Vec Ideal Sx .f32 := fun i =>
  out x0 x1 x2 x3 x4 x5 x6 x7 ⟨(i 0).val / 1024, by have : (i 0).val < 164864 := (i 0).isLt; omega⟩ ⟨(i 0).val % 1024, by omega⟩ (i 1)

/-- One quarter of the hidden units' part of the second layer. -/
def piece (j : Fin 161) (r : Fin 1024) (d : Fin 2048) (q : Fin 4) : EReal :=
  ∑ f : Fin 512, act x0 x2 x3 x4 x5 j r ⟨512 * q.val + f.val, by omega⟩ * x6 (ix4 0 (ex x0 j) ⟨512 * q.val + f.val, by omega⟩ d)

/-- A sum over 2048 in four quarters. -/
theorem sum_quarters (g : Fin 2048 → EReal) :
    ∑ f, g f = ∑ q : Fin 4, ∑ f : Fin 512, g ⟨512 * q.val + f.val, by omega⟩ := by
  rw [← Fintype.sum_prod_type']
  refine (Fintype.sum_equiv (finProdFinEquiv (m := 4) (n := 512)) _ _ fun p => ?_).symm
  refine congrArg g (Fin.ext ?_)
  show 512 * p.1.val + p.2.val = p.2.val + 512 * p.1.val
  omega

/-- The quarters added in the call's order give the second layer. -/
theorem row_eq (j : Fin 161) (r : Fin 1024) (d : Fin 2048) :
    piece x0 x2 x3 x4 x5 x6 j r d 0 + x7 (ix3 0 (ex x0 j) d) + piece x0 x2 x3 x4 x5 x6 j r d 1
      + piece x0 x2 x3 x4 x5 x6 j r d 2 + piece x0 x2 x3 x4 x5 x6 j r d 3 = row x0 x2 x3 x4 x5 x6 x7 j r d := by
  unfold row
  rw [sum_quarters, Fin.sum_univ_four]
  show _ = piece x0 x2 x3 x4 x5 x6 j r d 0 + piece x0 x2 x3 x4 x5 x6 j r d 1 + piece x0 x2 x3 x4 x5 x6 j r d 2
    + piece x0 x2 x3 x4 x5 x6 j r d 3 + x7 (ix3 0 (ex x0 j) d)
  ac_rfl

end Cert.Moe

end
-- ==== Proof.M.Blk.lean ====
/-
  The blocks that the call reads at a grid point, as parts of the arguments: the tile's rows, and its expert's weights and biases
  for one quarter of the hidden units.
-/
module

public import proofs.«01_k».proof.Proof.M.Pre
public import proofs.«01_k».proof.Proof.M.Spec
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel2Ideal.Moe

open Cert.Kernel2Ideal Cert.Kernel2Ideal.Gen Idealize.ShloMosaic Idealize.ShloMosaic.TcCoe Idealize.ShloMosaic.Tactic Idealize.SL.Sem
open Idealize.ShloMosaic.Pointwise Cert.Moe

variable (m : (ℓ : Loc nD τ sig) → Buf (Elt Ideal) ℓ) (c : Dev nD)

theorem V_v0 (e : Fin 32) (k : Fin 2048) (f : Fin 4096) : (V m c main_v0 : Vec Ideal S32x2048x4096 .f32) (ix3 e k f)
    = (m ((c.tc : Thread nD τ).loc main_arg4) : Vec Ideal S1x32x2048x4096 .f32) (ix4 0 e k f) := by
  unfold V
  after_reads_at
theorem V_v4 (e : Fin 32) (f : Fin 4096) : (V m c main_v4 : Vec Ideal S32x1x4096 .f32) (ix3 e 0 f)
    = (m ((c.tc : Thread nD τ).loc main_arg5) : Vec Ideal S1x32x4096 .f32) (ix3 0 e f) := by
  unfold V
  after_reads_at
theorem V_v2 (e : Fin 32) (k d : Fin 2048) : (V m c main_v2 : Vec Ideal S32x2048x2048 .f32) (ix3 e k d)
    = (m ((c.tc : Thread nD τ).loc main_arg6) : Vec Ideal S1x32x2048x2048 .f32) (ix4 0 e k d) := by
  unfold V
  after_reads_at
theorem V_v5 (e : Fin 32) (d : Fin 2048) : (V m c main_v5 : Vec Ideal S32x1x2048 .f32) (ix3 e 0 d)
    = (m ((c.tc : Thread nD τ).loc main_arg7) : Vec Ideal S1x32x2048 .f32) (ix3 0 e d) := by
  unfold V
  after_reads_at

variable (a : (pcfg0 (F := Ideal)).Adm) (hin : InRange (wE a.1) (wN a.1) (wI a.1)) (t : Fin (cfg0 a).N)

/-- The tile and the quarter of a grid point. -/
abbrev jt : Fin 161 := tile (crd a t)
abbrev qt : Fin 4 := quart (crd a t)

theorem at161_eq (j : Fin 161) : at161 j = ix1 j := by
  funext b
  match b with
  | ⟨0, _⟩ => rfl

include hin
theorem expert_eq (j : Fin 161) : (wE a.1 (at161 j)).toNat = (ex (wE a.1) j).val := by
  have := hin.expert (at161 j)
  show _ = min (wE a.1 (ix1 j)).toNat 31
  rw [← at161_eq]
  omega
theorem source_eq (j : Fin 161) : (wI a.1 (at161 j)).toNat = min (wI a.1 (ix1 j)).toNat 160 := by
  have := hin.tile (at161 j)
  rw [← at161_eq]
  omega

theorem index0 : ((cfg0 a).win 0).index t = ![min (wI a.1 (ix1 (jt a t))).toNat 160, 0] := by
  rw [← source_eq a hin]; exact wix0 a.1 (crd a t)
theorem index1 : ((cfg0 a).win 1).index t = ![(ex (wE a.1) (jt a t)).val, 0, (qt a t).val] := by
  rw [← expert_eq a hin]; exact wix1 a.1 (crd a t)
theorem index2 : ((cfg0 a).win 2).index t = ![(ex (wE a.1) (jt a t)).val, 0, 4 + (qt a t).val] := by
  rw [← expert_eq a hin]; exact wix2 a.1 (crd a t)
theorem index3 : ((cfg0 a).win 3).index t = ![(ex (wE a.1) (jt a t)).val, 0, (qt a t).val] := by
  rw [← expert_eq a hin]; exact wix3 a.1 (crd a t)
theorem index4 : ((cfg0 a).win 4).index t = ![(ex (wE a.1) (jt a t)).val, 0, 4 + (qt a t).val] := by
  rw [← expert_eq a hin]; exact wix4 a.1 (crd a t)
theorem index5 : ((cfg0 a).win 5).index t = ![(ex (wE a.1) (jt a t)).val, (qt a t).val, 0] := by
  rw [← expert_eq a hin]; exact wix5 a.1 (crd a t)
theorem index6 : ((cfg0 a).win 6).index t = ![(ex (wE a.1) (jt a t)).val, 0, 0] := by
  rw [← expert_eq a hin]; exact wix6 a.1 (crd a t)

theorem blk0 (r : Fin 1024) (k : Fin 2048) : (iblk m a c 0 t : Vec Ideal S1024x2048 .bf16) (ix2 r k)
    = (m ((c.tc : Thread nD τ).loc main_arg3) : Vec Ideal S164864x2048 .bf16) (ix2 (src (wI a.1) (jt a t) r) k) := by
  refine Eq.trans ?_ (congrFun (V_arg m c main_arg3 (by decide)) (ix2 (src (wI a.1) (jt a t) r) k : S164864x2048.Idx))
  blk_ext [iblk, src, index0 a hin t]
theorem blk1 (k : Fin 2048) (f : Fin 512) : (iblk m a c 1 t : Vec Ideal S1x2048x512 .f32) (ix3 0 k f)
    = (m ((c.tc : Thread nD τ).loc main_arg4) : Vec Ideal S1x32x2048x4096 .f32)
      (ix4 0 (ex (wE a.1) (jt a t)) k ⟨512 * (qt a t).val + f.val, by have := (qt a t).isLt; omega⟩) := by
  refine Eq.trans ?_ (V_v0 m c _ _ _)
  blk_ext [iblk, index1 a hin t]
theorem blk2 (k : Fin 2048) (f : Fin 512) : (iblk m a c 2 t : Vec Ideal S1x2048x512 .f32) (ix3 0 k f)
    = (m ((c.tc : Thread nD τ).loc main_arg4) : Vec Ideal S1x32x2048x4096 .f32)
      (ix4 0 (ex (wE a.1) (jt a t)) k ⟨2048 + (512 * (qt a t).val + f.val), by have := (qt a t).isLt; omega⟩) := by
  refine Eq.trans ?_ (V_v0 m c _ _ _)
  blk_ext [iblk, index2 a hin t]
theorem blk3 (f : Fin 512) : (iblk m a c 3 t : Vec Ideal S1x1x512 .f32) (ix3 0 0 f)
    = (m ((c.tc : Thread nD τ).loc main_arg5) : Vec Ideal S1x32x4096 .f32)
      (ix3 0 (ex (wE a.1) (jt a t)) ⟨512 * (qt a t).val + f.val, by have := (qt a t).isLt; omega⟩) := by
  refine Eq.trans ?_ (V_v4 m c _ _)
  blk_ext [iblk, index3 a hin t]
theorem blk4 (f : Fin 512) : (iblk m a c 4 t : Vec Ideal S1x1x512 .f32) (ix3 0 0 f)
    = (m ((c.tc : Thread nD τ).loc main_arg5) : Vec Ideal S1x32x4096 .f32)
      (ix3 0 (ex (wE a.1) (jt a t)) ⟨2048 + (512 * (qt a t).val + f.val), by have := (qt a t).isLt; omega⟩) := by
  refine Eq.trans ?_ (V_v4 m c _ _)
  blk_ext [iblk, index4 a hin t]
theorem blk5 (f : Fin 512) (d : Fin 2048) : (iblk m a c 5 t : Vec Ideal S1x512x2048 .f32) (ix3 0 f d)
    = (m ((c.tc : Thread nD τ).loc main_arg6) : Vec Ideal S1x32x2048x2048 .f32)
      (ix4 0 (ex (wE a.1) (jt a t)) ⟨512 * (qt a t).val + f.val, by have := (qt a t).isLt; omega⟩ d) := by
  refine Eq.trans ?_ (V_v2 m c _ _ _)
  blk_ext [iblk, index5 a hin t]
theorem blk6 (d : Fin 2048) : (iblk m a c 6 t : Vec Ideal S1x1x2048 .f32) (ix3 0 0 d)
    = (m ((c.tc : Thread nD τ).loc main_arg7) : Vec Ideal S1x32x2048 .f32) (ix3 0 (ex (wE a.1) (jt a t)) d) := by
  refine Eq.trans ?_ (V_v5 m c _ _)
  blk_ext [iblk, index6 a hin t]

end Cert.Kernel2Ideal.Moe

end
-- ==== Proof.M.Pay.lean ====
/-
  What the body's stores write, entry by entry.
-/
module

public import proofs.«01_k».proof.Proof.M.Pre
public import proofs.«01_k».proof.Proof.M.Spec
public import Idealize.ShloMosaic.Lib.Pointwise

@[expose] public section

set_option maxRecDepth 16384

noncomputable section

namespace Cert.Kernel2Ideal.Moe

open Cert.Kernel2Ideal Cert.Kernel2Ideal.Gen Idealize.ShloMosaic Idealize.ShloMosaic.TcCoe Idealize.ShloMosaic.Tactic Idealize.SL.Sem
open Idealize.ShloMosaic.Pointwise Cert.Moe

variable (x1 x2 : Vec Ideal S1x2048x512 .f32) (x5 : Vec Ideal S1x512x2048 .f32) (x : Vec Ideal S512x2048 .bf16)
    (x3 x4 : Vec Ideal S1x1x512 .f32) (x6 : Vec Ideal S1x1x2048 .f32)

/-- One quarter's part of the output: the gated units of its columns times the second layer's rows. -/
theorem pay8_at (r : Fin 512) (d : Fin 2048) : k0_pay8 (F := Ideal) x1 x2 x5 x x3 x4 (ix2 r d)
    = ∑ f : Fin 512, unit (∑ k : Fin 2048, x (ix2 r k) * x1 (ix3 0 k f) + x3 (ix3 0 0 f))
        (∑ k : Fin 2048, x (ix2 r k) * x2 (ix3 0 k f) + x4 (ix3 0 0 f)) * x5 (ix3 0 f d) := by
  pointwise [k0_pay8]
  rfl
theorem pay13_at (v : FVec Ideal S512x2048 .f32) (r : Fin 512) (d : Fin 2048) : k0_pay13 (F := Ideal) v x6 (ix2 r d) = v (ix2 r d) + x6 (ix3 0 0 d) := by
  pointwise [k0_pay13]
theorem pay2_at (v w : FVec Ideal S512x2048 .f32) (r : Fin 512) (d : Fin 2048) : k0_pay2 (F := Ideal) v w (ix2 r d) = w (ix2 r d) + v (ix2 r d) := by
  pointwise [k0_pay2]
theorem pay5_at (r : Fin 512) (d : Fin 2048) : (k0_pay5 (F := Ideal) (ix2 r d) : EReal) = 0 := by
  pointwise [k0_pay5]
theorem pay3_at (r : Fin 1024) (d : Fin 2048) : (k0_pay3 (F := Ideal) (ix2 r d) : EReal) = 0 := by
  pointwise [k0_pay3]

end Cert.Kernel2Ideal.Moe

end
-- ==== Proof.M.Step.lean ====
/-
  What a grid point makes of one entry of the output block: at a tile's first quarter the quarter's part and the bias, at a later
  one the quarter's part added, in the halves that hold rows; zero, or what the entry was, in the others.
-/
module

public import proofs.«01_k».proof.Proof.M.Pay

@[expose] public section

set_option maxRecDepth 16384

noncomputable section

namespace Cert.Kernel2Ideal.Moe

open Cert.Kernel2Ideal Cert.Kernel2Ideal.Gen Idealize.ShloMosaic Idealize.ShloMosaic.TcCoe Idealize.ShloMosaic.Tactic Idealize.SL.Sem
open Idealize.ShloMosaic.Pointwise Cert.Moe

variable (i : grid0.Coords) (x0 : Vec Ideal S1024x2048 .bf16) (x1 x2 : Vec Ideal S1x2048x512 .f32) (x3 x4 : Vec Ideal S1x1x512 .f32)
  (x5 : Vec Ideal S1x512x2048 .f32) (x6 : Vec Ideal S1x1x2048 .f32) (y : Vec Ideal S1024x2048 .f32) (n : BitVec 32)

/-- A quarter's part of one entry. -/
def share (r : Fin 1024) (d : Fin 2048) : EReal :=
  ∑ f : Fin 512, unit (∑ k : Fin 2048, x0 (ix2 r k) * x1 (ix3 0 k f) + x3 (ix3 0 0 f))
    (∑ k : Fin 2048, x0 (ix2 r k) * x2 (ix3 0 k f) + x4 (ix3 0 0 f)) * x5 (ix3 0 f d)

theorem rowsLo_at {α : Type} (x : S1024x2048.Idx → α) (r : Fin 512) (k : Fin 2048) :
    rowsLo x (ix2 r k) = x (ix2 ⟨r.val, by omega⟩ k) := by
  refine congrArg x (funext fun b => ?_)
  match b with
  | ⟨0, _⟩ => exact Fin.ext (show 0 + 1 * r.val = r.val by omega)
  | ⟨1, _⟩ => exact Fin.ext (show 0 + 1 * k.val = k.val by omega)
theorem rowsHi_at {α : Type} (x : S1024x2048.Idx → α) (r : Fin 512) (k : Fin 2048) :
    rowsHi x (ix2 r k) = x (ix2 ⟨512 + r.val, by omega⟩ k) := by
  refine congrArg x (funext fun b => ?_)
  match b with
  | ⟨0, _⟩ => exact Fin.ext (show 512 + 1 * r.val = 512 + r.val by omega)
  | ⟨1, _⟩ => exact Fin.ext (show 0 + 1 * k.val = k.val by omega)

theorem both_at {α : Type} (lo hi : S512x2048.Idx → α) (r : Fin 1024) (d : Fin 2048) :
    both lo hi (ix2 r d) = if h : r.val < 512 then lo (ix2 ⟨r.val, h⟩ d) else hi (ix2 ⟨r.val - 512, by omega⟩ d) := by
  unfold both
  by_cases h : r.val < 512
  · rw [dif_pos h]
    refine (dif_pos (show ((ix2 r d : S1024x2048.Idx) 0).val < 512 from h)).trans (congrArg lo (funext fun b => ?_))
    match b with
    | ⟨0, _⟩ => rfl
    | ⟨1, _⟩ => rfl
  · rw [dif_neg h]
    refine (dif_neg (show ¬ ((ix2 r d : S1024x2048.Idx) 0).val < 512 from h)).trans (congrArg hi (funext fun b => ?_))
    match b with
    | ⟨0, _⟩ => rfl
    | ⟨1, _⟩ => rfl

theorem part_lo (r : Fin 1024) (h : r.val < 512) (d : Fin 2048) :
    part x1 x2 x5 (rowsLo x0) x3 x4 (ix2 ⟨r.val, h⟩ d) = share x0 x1 x2 x3 x4 x5 r d := by
  have e : ∀ k : Fin 2048, rowsLo x0 (ix2 ⟨r.val, h⟩ k) = x0 (ix2 r k) := fun k => rowsLo_at x0 ⟨r.val, h⟩ k
  refine (pay8_at ..).trans (Finset.sum_congr rfl fun f _ => ?_)
  simp only [e]
theorem part_hi (r : Fin 1024) (h : ¬ r.val < 512) (d : Fin 2048) :
    part x1 x2 x5 (rowsHi x0) x3 x4 (ix2 ⟨r.val - 512, by omega⟩ d) = share x0 x1 x2 x3 x4 x5 r d := by
  have e : ∀ k : Fin 2048, rowsHi x0 (ix2 ⟨r.val - 512, by omega⟩ k) = x0 (ix2 r k) := fun k =>
    (rowsHi_at x0 ⟨r.val - 512, by omega⟩ k).trans
      (congrArg (fun s => x0 (ix2 s k)) (Fin.ext (show 512 + (r.val - 512) = r.val by omega)))
  refine (pay8_at ..).trans (Finset.sum_congr rfl fun f _ => ?_)
  simp only [e]

/-- The row count as a number. -/
theorem toInt_count (hn : n.toNat ≤ 1024) : n.toInt = (n.toNat : Int) := BitVec.toInt_eq_toNat_of_lt (by omega)

/-- At a tile's first quarter. -/
theorem step_first (hn : n.toNat ≤ 1024) (hi : (i 1).val = 0) (r : Fin 1024) (d : Fin 2048) :
    (step i x0 x1 x2 x3 x4 x5 x6 y n (ix2 r d) : EReal)
      = if start r < n.toNat then share x0 x1 x2 x3 x4 x5 r d + x6 (ix3 0 0 d) else 0 := by
  have hN := toInt_count n hn
  have hz : ((i 1).val : Int) = 0 := by omega
  unfold step start
  simp only [cond1_iff, cond2_iff, cond3_iff, cond4_iff, cond5_iff]
  by_cases h0 : n.toNat = 0
  · rw [if_neg (by omega), if_neg (by omega), if_neg (by omega), if_neg (by omega), if_pos (by omega), pay3_at, if_neg (by split <;> omega)]
  by_cases h5 : n.toNat ≤ 512
  · rw [if_pos (by omega), both_at]
    by_cases h : r.val < 512
    · rw [dif_pos h, if_pos h, if_pos (by omega)]
      exact (pay13_at ..).trans (congrArg (· + x6 (ix3 0 0 d)) (part_lo ..))
    · rw [dif_neg h, if_neg h, if_neg (by omega)]
      exact pay5_at ..
  · rw [if_neg (by omega), if_neg (by omega), if_pos (by omega), both_at]
    by_cases h : r.val < 512
    · rw [dif_pos h, if_pos h, if_pos (by omega)]
      exact (pay13_at ..).trans (congrArg (· + x6 (ix3 0 0 d)) (part_lo ..))
    · rw [dif_neg h, if_neg h, if_pos (by omega)]
      exact (pay13_at ..).trans (congrArg (· + x6 (ix3 0 0 d)) (part_hi _ _ _ _ _ _ _ h _))

/-- At a later quarter. -/
theorem step_next (hn : n.toNat ≤ 1024) (hi : 0 < (i 1).val) (r : Fin 1024) (d : Fin 2048) :
    (step i x0 x1 x2 x3 x4 x5 x6 y n (ix2 r d) : EReal)
      = if start r < n.toNat then y (ix2 r d) + share x0 x1 x2 x3 x4 x5 r d else y (ix2 r d) := by
  have hN := toInt_count n hn
  unfold step start
  simp only [cond1_iff, cond2_iff, cond3_iff, cond4_iff, cond5_iff]
  have hlo : ∀ h : r.val < 512, (k0_pay2 (F := Ideal) (part x1 x2 x5 (rowsLo x0) x3 x4) (rowsLo y) (ix2 ⟨r.val, h⟩ d) : EReal)
      = y (ix2 r d) + share x0 x1 x2 x3 x4 x5 r d := fun h =>
    (pay2_at ..).trans (congrArg₂ (· + ·) (rowsLo_at ..) (part_lo ..))
  have hr : ∀ h : ¬ r.val < 512, rowsHi y (ix2 ⟨r.val - 512, by omega⟩ d) = y (ix2 r d) := fun h =>
    (rowsHi_at ..).trans (congrArg (fun s => y (ix2 s d)) (Fin.ext (show 512 + (r.val - 512) = r.val by omega)))
  have hhi : ∀ h : ¬ r.val < 512, (k0_pay2 (F := Ideal) (part x1 x2 x5 (rowsHi x0) x3 x4) (rowsHi y) (ix2 ⟨r.val - 512, by omega⟩ d) : EReal)
      = y (ix2 r d) + share x0 x1 x2 x3 x4 x5 r d := fun h =>
    (pay2_at ..).trans (congrArg₂ (· + ·) (hr h) (part_hi _ _ _ _ _ _ _ h _))
  by_cases h0 : n.toNat = 0
  · rw [if_neg (by omega), if_neg (by omega), if_neg (by omega), if_neg (by omega), if_neg (by omega), if_neg (by split <;> omega)]
  by_cases h5 : n.toNat ≤ 512
  · rw [if_neg (by omega), if_pos (by omega), both_at]
    by_cases h : r.val < 512
    · rw [dif_pos h, if_pos h, if_pos (by omega)]
      exact hlo h
    · rw [dif_neg h, if_neg h, if_neg (by omega)]
      exact hr h
  · rw [if_neg (by omega), if_neg (by omega), if_neg (by omega), if_pos (by omega), both_at]
    by_cases h : r.val < 512
    · rw [dif_pos h, if_pos h, if_pos (by omega)]
      exact hlo h
    · rw [dif_neg h, if_neg h, if_pos (by omega)]
      exact hhi h

end Cert.Kernel2Ideal.Moe

end
-- ==== Proof.M.Arr.lean ====
/-
  The call's result array: each tile's block is written back at its last quarter, when its four quarters' parts and the bias
  have been added in the halves that hold rows.
-/
module

public import proofs.«01_k».proof.Proof.M.Blk
public import proofs.«01_k».proof.Proof.M.Step

@[expose] public section

set_option maxRecDepth 16384

noncomputable section

namespace Cert.Kernel2Ideal.Moe

open Cert.Kernel2Ideal Cert.Kernel2Ideal.Gen Idealize.ShloMosaic Idealize.ShloMosaic.TcCoe Idealize.ShloMosaic.Tactic Idealize.SL.Sem
open Idealize.ShloMosaic.Pointwise Cert.Moe

variable (m : (ℓ : Loc nD τ sig) → Buf (Elt Ideal) ℓ) (c : Dev nD)
  (a : (pcfg0 (F := Ideal)).Adm) (hin : InRange (wE a.1) (wN a.1) (wI a.1))

/-- The arguments as arrays. -/
abbrev X3 : Vec Ideal Cert.Moe.Sx .bf16 := m ((c.tc : Thread nD τ).loc main_arg3)
abbrev X4 : Vec Ideal Cert.Moe.Sw .f32 := m ((c.tc : Thread nD τ).loc main_arg4)
abbrev X5 : Vec Ideal Cert.Moe.Sb .f32 := m ((c.tc : Thread nD τ).loc main_arg5)
abbrev X6 : Vec Ideal Cert.Moe.Su .f32 := m ((c.tc : Thread nD τ).loc main_arg6)
abbrev X7 : Vec Ideal Cert.Moe.Sd .f32 := m ((c.tc : Thread nD τ).loc main_arg7)

/-- A quarter's part of the second layer, from the arguments in a memory. -/
abbrev part4 (j : Fin 161) (r : Fin 1024) (d : Fin 2048) (q : Fin 4) : EReal :=
  piece (wE a.1) (wI a.1) (X3 m c) (X4 m c) (X5 m c) (X6 m c) j r d q

include hin

theorem share_eq (t : Fin (cfg0 a).N) (r : Fin 1024) (d : Fin 2048) :
    share (iblk m a c 0 t) (iblk m a c 1 t) (iblk m a c 2 t) (iblk m a c 3 t) (iblk m a c 4 t) (iblk m a c 5 t) r d
      = part4 m c a (jt a t) r d (qt a t) := by
  unfold share
  refine Finset.sum_congr rfl fun f _ => ?_
  refine congrArg₂ (· * ·) (congrArg₂ unit
    (congrArg₂ (· + ·) (Finset.sum_congr rfl fun k _ => congrArg₂ (· * ·) (blk0 m c a hin t r k) (blk1 m c a hin t k f)) (blk3 m c a hin t f))
    (congrArg₂ (· + ·) (Finset.sum_congr rfl fun k _ => congrArg₂ (· * ·) (blk0 m c a hin t r k) (blk2 m c a hin t k f)) (blk4 m c a hin t f)))
    (blk5 m c a hin t f d)

theorem stp_first_at (t : Fin (cfg0 a).N) (h : (qt a t).val = 0) (y : Vec Ideal S1024x2048 .f32) (r : Fin 1024) (d : Fin 2048) :
    (stp m a c t y (ix2 r d) : EReal) = if start r < cnt (wN a.1) (jt a t) then
      part4 m c a (jt a t) r d (qt a t) + X7 m c (ix3 0 (ex (wE a.1) (jt a t)) d) else 0 := by
  have e : count (crd a t) (a.1 1) = wN a.1 (ix1 (jt a t)) := (count_eq (crd a t) _).trans (congrArg (wN a.1) (at161_eq _))
  have hr := hin.rows (ix1 (jt a t))
  unfold stp
  rw [e]
  refine (step_first (crd a t) _ _ _ _ _ _ _ y _ hr h r d).trans ?_
  rw [share_eq m c a hin t]
  exact if_congr Iff.rfl (congrArg (part4 m c a (jt a t) r d (qt a t) + ·) (blk6 m c a hin t d)) rfl

theorem stp_next_at (t : Fin (cfg0 a).N) (h : 0 < (qt a t).val) (y : Vec Ideal S1024x2048 .f32) (r : Fin 1024) (d : Fin 2048) :
    (stp m a c t y (ix2 r d) : EReal) = if start r < cnt (wN a.1) (jt a t) then
      y (ix2 r d) + part4 m c a (jt a t) r d (qt a t) else y (ix2 r d) := by
  have e : count (crd a t) (a.1 1) = wN a.1 (ix1 (jt a t)) := (count_eq (crd a t) _).trans (congrArg (wN a.1) (at161_eq _))
  have hr := hin.rows (ix1 (jt a t))
  unfold stp
  rw [e]
  refine (step_next (crd a t) _ _ _ _ _ _ _ y _ hr h r d).trans ?_
  rw [share_eq m c a hin t]
  rfl

omit hin

/-- The parts added so far. -/
def acc (P : Fin 4 → EReal) (b : EReal) : ℕ → EReal
  | 0 => P 0 + b
  | q + 1 => acc P b q + P ⟨(q + 1) % 4, by omega⟩

/-- The output's block after a point is that point's step of something. -/
theorem traj_stp (t : Fin (cfg0 a).N) : ∃ y, traj m a c t.val t.isLt = stp m a c t y := by
  obtain ⟨n, hn⟩ := t
  cases n with
  | zero => exact ⟨_, rfl⟩
  | succ n => exact ⟨_, rfl⟩

theorem tile_at (j : Fin 161) (q : ℕ) (hq : q < 4) (h : 4 * j.val + q < (cfg0 a).N) : jt a ⟨4 * j.val + q, h⟩ = j :=
  Fin.ext (((crd_eq ⟨4 * j.val + q, h⟩).1).trans (show (4 * j.val + q) / 4 = j.val by omega))
theorem quart_at (j : Fin 161) (q : ℕ) (hq : q < 4) (h : 4 * j.val + q < (cfg0 a).N) : qt a ⟨4 * j.val + q, h⟩ = ⟨q, hq⟩ :=
  Fin.ext (((crd_eq ⟨4 * j.val + q, h⟩).2).trans (show (4 * j.val + q) % 4 = q by omega))

include hin

/-- The block along a tile's quarters. -/
theorem traj_at (j : Fin 161) (r : Fin 1024) (d : Fin 2048) (q : ℕ) (hq : q < 4) (h : 4 * j.val + q < (cfg0 a).N) :
    (traj m a c (4 * j.val + q) h (ix2 r d) : EReal) = if start r < cnt (wN a.1) j then
      acc (part4 m c a j r d) (X7 m c (ix3 0 (ex (wE a.1) j) d)) q else 0 := by
  induction q with
  | zero =>
    obtain ⟨y, e⟩ := traj_stp m c a ⟨4 * j.val + 0, h⟩
    refine (congrFun e (ix2 r d)).trans ?_
    rw [stp_first_at m c a hin _ (by rw [quart_at a j 0 hq h]), tile_at a j 0 hq h, quart_at a j 0 hq h]
    rfl
  | succ q ih =>
    have ih := ih (by omega) (Nat.lt_of_succ_lt h)
    refine (stp_next_at m c a hin ⟨4 * j.val + (q + 1), h⟩ (by rw [quart_at a j (q + 1) hq h]; exact Nat.succ_pos q) _ r d).trans ?_
    rw [tile_at a j (q + 1) hq h, quart_at a j (q + 1) hq h]
    by_cases hs : start r < cnt (wN a.1) j
    · rw [if_pos hs] at ih ⊢
      rw [if_pos hs]
      refine congrArg₂ (· + ·) ih (congrArg (part4 m c a j r d) (Fin.ext (Nat.mod_eq_of_lt hq).symm))
    · rw [if_neg hs] at ih ⊢
      rw [if_neg hs]
      exact ih

/-- At the last quarter: the whole second layer. -/
theorem traj_last (j : Fin 161) (r : Fin 1024) (d : Fin 2048) (h : 4 * j.val + 3 < (cfg0 a).N) :
    (traj m a c (4 * j.val + 3) h (ix2 r d) : EReal)
      = out (wE a.1) (wN a.1) (wI a.1) (X3 m c) (X4 m c) (X5 m c) (X6 m c) (X7 m c) j r d := by
  rw [traj_at m c a hin j r d 3 (by omega) h]
  exact if_congr Iff.rfl (row_eq (wE a.1) (wI a.1) (X3 m c) (X4 m c) (X5 m c) (X6 m c) (X7 m c) j r d) rfl

omit hin

theorem index7 (t : Fin (cfg0 a).N) : ((cfg0 a).win 7).index t = ![(jt a t).val, 0] := wix7 (crd a t)

/-- Where a point's block lies in the result. -/
theorem emb7 (t : Fin (cfg0 a).N) (r : Fin 1024) (d : Fin 2048) :
    (((cfg0 a).win 7).blk t).view.emb (ix2 r d : S1024x2048.Idx)
      = (ix2 ⟨1024 * (jt a t).val + r.val, by have := (jt a t).isLt; omega⟩ d : S164864x2048.Idx) := by
  blk_ext [index7 a t]

theorem ix2_eta (n k : ℕ) (y : (⟨2, ![n, k]⟩ : Shape).Idx) : y = ix2 (y 0) (y 1) := by
  funext b
  match b with
  | ⟨0, _⟩ => rfl
  | ⟨1, _⟩ => rfl

theorem outArr_at (x0 x1 x2 : Cert.Moe.St.Idx → BitVec 32) (x3 : Vec Ideal Cert.Moe.Sx .bf16) (x4 : Vec Ideal Cert.Moe.Sw .f32)
    (x5 : Vec Ideal Cert.Moe.Sb .f32) (x6 : Vec Ideal Cert.Moe.Su .f32) (x7 : Vec Ideal Cert.Moe.Sd .f32) (j : Fin 161) (r : Fin 1024)
    (d : Fin 2048) (h : 1024 * j.val + r.val < 164864) :
    outArr x0 x1 x2 x3 x4 x5 x6 x7 (ix2 ⟨1024 * j.val + r.val, h⟩ d) = out x0 x1 x2 x3 x4 x5 x6 x7 j r d :=
  congrArg₂ (fun j r => out x0 x1 x2 x3 x4 x5 x6 x7 j r d) (Fin.ext (show (1024 * j.val + r.val) / 1024 = j.val by omega))
    (Fin.ext (show (1024 * j.val + r.val) % 1024 = r.val by omega))

/-- An index a view's index is sent to is in the view's set. -/
theorem mem_of_emb {α β : Type} [Fintype α] (e : α ↪ β) {y : α} {i : β} (h : e y = i) : i ∈ Finset.univ.map e :=
  h ▸ Finset.mem_map_of_mem e (Finset.mem_univ y)

/-- Every index of the result is in a block written back. -/
theorem cover7 (i : S164864x2048.Idx) : ∃ t : Fin (cfg0 a).N, ((cfg0 a).win 7).flush t = true ∧
    i ∈ (((cfg0 a).win 7).blk t).view.set := by
  have hN : (cfg0 a).N = 644 := N_0
  have h0 : (i 0).val < 164864 := (i 0).isLt
  have hj : (i 0).val / 1024 < 161 := by omega
  have h3 : 4 * ((i 0).val / 1024) + 3 < (cfg0 a).N := lt_of_lt_of_eq (show 4 * ((i 0).val / 1024) + 3 < 644 by omega) hN.symm
  refine ⟨⟨4 * ((i 0).val / 1024) + 3, h3⟩, (flush7 a _).trans (decide_eq_true (show (4 * ((i 0).val / 1024) + 3 + 1) % 4 = 0 by omega)), ?_⟩
  have e := emb7 a ⟨4 * ((i 0).val / 1024) + 3, h3⟩ ⟨(i 0).val % 1024, by omega⟩ (i 1)
  have ej := tile_at a ⟨(i 0).val / 1024, hj⟩ 3 (by omega) h3
  have ei : (ix2 ⟨1024 * (jt a ⟨4 * ((i 0).val / 1024) + 3, h3⟩).val + (i 0).val % 1024, by
      have := (jt a ⟨4 * ((i 0).val / 1024) + 3, h3⟩).isLt; omega⟩ (i 1) : S164864x2048.Idx) = i := by
    refine Eq.trans (congrArg (fun s => (ix2 s (i 1) : S164864x2048.Idx)) (Fin.ext ?_)) (ix2_eta 164864 2048 i).symm
    show 1024 * (jt a ⟨4 * ((i 0).val / 1024) + 3, h3⟩).val + (i 0).val % 1024 = (i 0).val
    have := congrArg Fin.val ej
    have e2 : (jt a ⟨4 * ((i 0).val / 1024) + 3, h3⟩).val = (i 0).val / 1024 := this
    rw [e2]; omega
  have ee := e.trans ei
  exact mem_of_emb _ ee

include hin

/-- A block written back is the result's block. -/
theorem block7 (j : Fin 161) (h3 : 4 * j.val + 3 < (cfg0 a).N) (y : S1024x2048.Idx) :
    traj m a c (4 * j.val + 3) h3 y
      = outArr (wE a.1) (wN a.1) (wI a.1) (X3 m c) (X4 m c) (X5 m c) (X6 m c) (X7 m c)
        ((((cfg0 a).win 7).blk ⟨4 * j.val + 3, h3⟩).view.emb y) := by
  rw [ix2_eta 1024 2048 y]
  refine (traj_last m c a hin j (y 0) (y 1) h3).trans ?_
  refine Eq.trans ?_ (congrArg (outArr (wE a.1) (wN a.1) (wI a.1) (X3 m c) (X4 m c) (X5 m c) (X6 m c) (X7 m c))
    (emb7 a ⟨4 * j.val + 3, h3⟩ (y 0) (y 1)).symm)
  refine Eq.trans ?_ (outArr_at (wE a.1) (wN a.1) (wI a.1) (X3 m c) (X4 m c) (X5 m c) (X6 m c) (X7 m c) _ (y 0) (y 1) _).symm
  rw [tile_at a j 3 (by omega) h3]

/-- The result array. -/
theorem arr7 : (dats m a 0 c).arrAt 7 (cfg0 a).N
    = outArr (wE a.1) (wN a.1) (wI a.1) (X3 m c) (X4 m c) (X5 m c) (X6 m c) (X7 m c) := by
  have hN : (cfg0 a).N = 644 := N_0
  refine (dats m a 0 c).arrAt_eq_of_emb 7 _ (fun t hf y => ?_) (fun i => ?_)
  · rw [after_7]
    have hm : (t.val + 1) % 4 = 0 := of_decide_eq_true ((flush7 a t).symm.trans hf)
    have ht : t.val < 644 := hN ▸ t.isLt
    have hj : t.val / 4 < 161 := by omega
    have h3 : 4 * (⟨t.val / 4, hj⟩ : Fin 161).val + 3 < (cfg0 a).N := lt_of_lt_of_eq (show 4 * (t.val / 4) + 3 < 644 by omega) hN.symm
    have et : t = ⟨4 * (⟨t.val / 4, hj⟩ : Fin 161).val + 3, h3⟩ := Fin.ext (show t.val = 4 * (t.val / 4) + 3 by omega)
    generalize (⟨t.val / 4, hj⟩ : Fin 161) = j at h3 et
    subst et
    exact block7 m c a hin j h3 y
  · exact cover7 a i

end Cert.Kernel2Ideal.Moe

end
-- ==== Proof.M.Gather.lean ====
/-
  Picking a slice for each of a list of places: the gather along the first axis, read at an index.
-/
module

public import Idealize.ShloMosaic.Lib.Pointwise
public import Idealize.ShloMosaic.Lib.StableHlo

@[expose] public section

noncomputable section

namespace Cert.Moe

open Idealize.ShloMosaic Idealize.ShloMosaic.Pointwise

variable {α : Type}

/-- The gather's dimension numbers for slices of rank two, and of rank one. -/
abbrev pick3 (N T A B : ℕ) (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf
abbrev pick2 (N T A : ℕ) (wf : GatherDims.WF ⟨2, ![N, A]⟩ ⟨2, ![T, 1]⟩ ⟨2, ![T, A]⟩ [1] [0] [] [0] [] 1 ![1, A]) :
    GatherDims ⟨2, ![N, A]⟩ ⟨2, ![T, 1]⟩ ⟨2, ![T, A]⟩ where
  offsetDims := [1]
  collapsedSliceDims := [0]
  operandBatchingDims := []
  startIndicesBatchingDims := []
  startIndexMap := [0]
  indexVectorDim := 1
  sliceSizes := ![1, A]
  wf := wf

theorem pick3_at {N T A B : ℕ} (hN : 0 < N) (wf) (x : (⟨3, ![N, A, B]⟩ : Shape).Idx → α) (idx : IVec ⟨2, ![T, 1]⟩ 32)
    (t : Fin T) (p : Fin A) (q : Fin B) :
    Host.gather (pick3 N T A B wf) x idx (ix3 t p q) = x (ix3 ⟨min (idx (ix2 t 0)).toInt.toNat (N - 1), by omega⟩ p q) := by
  unfold Host.gather
  refine congrArg x (funext fun a => Fin.ext ?_)
  show (pick3 N T A B wf).start (ix3 t p q) idx a + (pick3 N T A B wf).batchCoord (ix3 t p q) a + (pick3 N T A B wf).offCoord (ix3 t p q) a = _
  rw [GatherDims.batchCoord_eq_zero _ _ _ List.not_mem_nil, Nat.add_zero]
  match a with
  | ⟨0, _⟩ =>
    have hs : (pick3 N T A B wf).siIdx (ix3 t p q) ⟨List.idxOf (0 : Fin 3) (pick3 N T A B wf).startIndexMap,
        List.idxOf_lt_length_iff.2 (List.mem_singleton.mpr rfl)⟩ = ix2 t 0 := by
      funext b
      match b with
      | ⟨0, _⟩ => exact Fin.ext rfl
      | ⟨1, _⟩ => exact Fin.ext rfl
    rw [GatherDims.offCoord_eq_zero _ _ _ (fun h => ((GatherDims.mem_sKept _ _).mp h).1 (List.mem_singleton.mpr rfl)), Nat.add_zero]
    refine (dif_pos (show (0 : Fin 3) ∈ (pick3 N T A B wf).startIndexMap from List.mem_singleton.mpr rfl)).trans ?_
    exact congrArg (fun s => min (idx s).toInt.toNat (N - 1)) hs
  | ⟨1, _⟩ =>
    refine (congrArg (· + _) (dif_neg (show (1 : Fin 3) ∉ (pick3 N T A B wf).startIndexMap from (by decide : (1 : Fin 3) ∉ [(0 : Fin 3)])))).trans ?_
    exact (Nat.zero_add _).trans rfl
  | ⟨2, _⟩ =>
    refine (congrArg (· + _) (dif_neg (show (2 : Fin 3) ∉ (pick3 N T A B wf).startIndexMap from (by decide : (2 : Fin 3) ∉ [(0 : Fin 3)])))).trans ?_
    exact (Nat.zero_add _).trans rfl

theorem pick2_at {N T A : ℕ} (hN : 0 < N) (wf) (x : (⟨2, ![N, A]⟩ : Shape).Idx → α) (idx : IVec ⟨2, ![T, 1]⟩ 32)
    (t : Fin T) (p : Fin A) :
    Host.gather (pick2 N T A wf) x idx (ix2 t p) = x (ix2 ⟨min (idx (ix2 t 0)).toInt.toNat (N - 1), by omega⟩ p) := by
  unfold Host.gather
  refine congrArg x (funext fun a => Fin.ext ?_)
  show (pick2 N T A wf).start (ix2 t p) idx a + (pick2 N T A wf).batchCoord (ix2 t p) a + (pick2 N T A wf).offCoord (ix2 t p) a = _
  rw [GatherDims.batchCoord_eq_zero _ _ _ List.not_mem_nil, Nat.add_zero]
  match a with
  | ⟨0, _⟩ =>
    have hs : (pick2 N T A wf).siIdx (ix2 t p) ⟨List.idxOf (0 : Fin 2) (pick2 N T A wf).startIndexMap,
        List.idxOf_lt_length_iff.2 (List.mem_singleton.mpr rfl)⟩ = ix2 t 0 := by
      funext b
      match b with
      | ⟨0, _⟩ => exact Fin.ext rfl
      | ⟨1, _⟩ => exact Fin.ext rfl
    rw [GatherDims.offCoord_eq_zero _ _ _ (fun h => ((GatherDims.mem_sKept _ _).mp h).1 (List.mem_singleton.mpr rfl)), Nat.add_zero]
    refine (dif_pos (show (0 : Fin 2) ∈ (pick2 N T A wf).startIndexMap from List.mem_singleton.mpr rfl)).trans ?_
    exact congrArg (fun s => min (idx s).toInt.toNat (N - 1)) hs
  | ⟨1, _⟩ =>
    refine (congrArg (· + _) (dif_neg (show (1 : Fin 2) ∉ (pick2 N T A wf).startIndexMap from (by decide : (1 : Fin 2) ∉ [(0 : Fin 2)])))).trans ?_
    exact (Nat.zero_add _).trans rfl

end Cert.Moe

end
-- ==== Proof.M.Ref.lean ====
/-
  The reference, entry by entry: the tile's rows, its expert's arrays, the first layer, the gated unit, the second layer, and
  the rows past a tile's number left zero are those of Spec.
-/
module

public import proofs.«01_k».proof.Proof.Gen.Reference2Ideal.Read
public import proofs.«01_k».proof.Proof.M.Spec
public import proofs.«01_k».proof.Proof.M.Gather

@[expose] public section

set_option maxRecDepth 16384

noncomputable section

namespace Cert.Reference2Ideal.Moe

open Cert.Reference2Ideal Cert.Reference2Ideal.Read Idealize.ShloMosaic Idealize.ShloMosaic.TcCoe Idealize.ShloMosaic.Tactic
open Idealize.ShloMosaic.Pointwise Cert.Moe

variable (x0 x1 x2 : S161.Idx → BitVec 32) (x3 : Vec Ideal S164864x2048 .bf16) (x4 : Vec Ideal S1x32x2048x4096 .f32)
  (x5 : Vec Ideal S1x32x4096 .f32) (x6 : Vec Ideal S1x32x2048x2048 .f32) (x7 : Vec Ideal S1x32x2048 .f32)

theorem nat_of_small (b : BitVec 32) (h : b.toNat < 2 ^ 31) : b.toInt.toNat = b.toNat := by
  rw [BitVec.toInt_eq_toNat_of_lt (by omega)]
  exact Int.toNat_natCast _

/-- Comparing two words below 2^31. -/
theorem slt_small (a b : BitVec 32) (ha : a.toNat < 2 ^ 31) (hb : b.toNat < 2 ^ 31) :
    IntOp.cmpi .slt a b = BitVec.ofBool (decide (a.toNat < b.toNat)) := by
  refine congrArg BitVec.ofBool (decide_eq_decide.mpr ?_)
  rw [BitVec.toInt_eq_toNat_of_lt (by omega), BitVec.toInt_eq_toNat_of_lt (by omega)]
  exact Int.ofNat_lt

/-- Choosing by a decided condition. -/
theorem select_dec {α : Type} (p : Prop) [Decidable p] (x y : α) :
    Scalar.select (BitVec.ofBool (decide p)) x y = if p then x else y := by
  by_cases h : p
  · rw [if_pos h, decide_eq_true h]; rfl
  · rw [if_neg h, decide_eq_false h]; rfl

theorem v1_at (p : Fin 161) (r : Fin 1024) (k : Fin 2048) :
    val_main_v1 (F := Ideal) x3 (ix3 p r k) = x3 (ix2 ⟨p.val * 1024 + r.val, by omega⟩ k) := by
  pointwise [val_main_v1, val_main_v0]

theorem v2_at (j : Fin 161) : val_main_v2 (F := Ideal) x2 (ix2 j 0) = x2 (ix1 j) := by
  pointwise [val_main_v2]

theorem v4_at (e : Fin 32) (k : Fin 2048) (f : Fin 4096) :
    val_main_v4 (F := Ideal) x4 (ix3 e k f) = x4 (ix4 0 e k f) := by
  pointwise [val_main_v4]

theorem v8_at (e : Fin 32) (f : Fin 4096) : val_main_v8 (F := Ideal) x5 (ix2 e f) = x5 (ix3 0 e f) := by
  pointwise [val_main_v8]

theorem v31_at (e : Fin 32) (f d : Fin 2048) :
    val_main_v31 (F := Ideal) x6 (ix3 e f d) = x6 (ix4 0 e f d) := by
  pointwise [val_main_v31]

theorem v35_at (e : Fin 32) (d : Fin 2048) : val_main_v35 (F := Ideal) x7 (ix2 e d) = x7 (ix3 0 e d) := by
  pointwise [val_main_v35]

/-- The tile's rows. -/
theorem v3_at (h2 : ∀ j, (x2 j).toNat < 161) (j : Fin 161) (r : Fin 1024) (k : Fin 2048) :
    val_main_v3 (F := Ideal) x2 x3 (ix3 j r k) = x3 (ix2 (src x2 j r) k) := by
  have hn := nat_of_small (x2 (ix1 j)) (by have := h2 (ix1 j); omega)
  refine (pick3_at (by decide) _ _ _ j r k).trans ((v1_at x3 _ r k).trans (congrArg (fun s => x3 (ix2 s k)) (Fin.ext ?_)))
  show min (val_main_v2 (F := Ideal) x2 (ix2 j 0)).toInt.toNat (161 - 1) * 1024 + r.val = min (x2 (ix1 j)).toNat 160 * 1024 + r.val
  rw [v2_at, hn]

/-- The expert a tile picks. -/
theorem pick_ex (h0 : ∀ j, (x0 j).toNat < 32) (j : Fin 161) :
    (⟨min (x0 (ix1 j)).toInt.toNat (32 - 1), by omega⟩ : Fin 32) = ex x0 j :=
  Fin.ext (congrArg (min · 31) (nat_of_small (x0 (ix1 j)) (by have := h0 (ix1 j); omega)))

theorem v6_at (h0 : ∀ j, (x0 j).toNat < 32) (j : Fin 161) (k : Fin 2048) (f : Fin 4096) :
    val_main_v6 (F := Ideal) x0 x4 (ix3 j k f) = x4 (ix4 0 (ex x0 j) k f) := by
  refine (pick3_at (by decide) _ _ _ j k f).trans ((v4_at x4 _ k f).trans (congrArg (fun s => x4 (ix4 0 s k f)) ?_))
  exact (congrArg (fun b : BitVec 32 => (⟨min b.toInt.toNat (32 - 1), by omega⟩ : Fin 32)) (v2_at x0 j)).trans (pick_ex x0 h0 j)

theorem v10_at (h0 : ∀ j, (x0 j).toNat < 32) (j : Fin 161) (f : Fin 4096) :
    val_main_v10 (F := Ideal) x0 x5 (ix2 j f) = x5 (ix3 0 (ex x0 j) f) := by
  refine (pick2_at (by decide) _ _ _ j f).trans ((v8_at x5 _ f).trans (congrArg (fun s => x5 (ix3 0 s f)) ?_))
  exact (congrArg (fun b : BitVec 32 => (⟨min b.toInt.toNat (32 - 1), by omega⟩ : Fin 32)) (v2_at x0 j)).trans (pick_ex x0 h0 j)

theorem v33_at (h0 : ∀ j, (x0 j).toNat < 32) (j : Fin 161) (f d : Fin 2048) :
    val_main_v33 (F := Ideal) x0 x6 (ix3 j f d) = x6 (ix4 0 (ex x0 j) f d) := by
  refine (pick3_at (by decide) _ _ _ j f d).trans ((v31_at x6 _ f d).trans (congrArg (fun s => x6 (ix4 0 s f d)) ?_))
  exact (congrArg (fun b : BitVec 32 => (⟨min b.toInt.toNat (32 - 1), by omega⟩ : Fin 32)) (v2_at x0 j)).trans (pick_ex x0 h0 j)

theorem v37_at (h0 : ∀ j, (x0 j).toNat < 32) (j : Fin 161) (d : Fin 2048) :
    val_main_v37 (F := Ideal) x0 x7 (ix2 j d) = x7 (ix3 0 (ex x0 j) d) := by
  refine (pick2_at (by decide) _ _ _ j d).trans ((v35_at x7 _ d).trans (congrArg (fun s => x7 (ix3 0 s d)) ?_))
  exact (congrArg (fun b : BitVec 32 => (⟨min b.toInt.toNat (32 - 1), by omega⟩ : Fin 32)) (v2_at x0 j)).trans (pick_ex x0 h0 j)

/-- The first layer. -/
theorem v13_at (h0 : ∀ j, (x0 j).toNat < 32) (h2 : ∀ j, (x2 j).toNat < 161) (j : Fin 161) (r : Fin 1024) (f : Fin 4096) :
    val_main_v13 (F := Ideal) x0 x2 x3 x4 x5 (ix3 j r f) = hid x0 x2 x3 x4 x5 j r f := by
  pointwise [val_main_v13, val_main_v12, val_main_v11, val_main_v7]
  simp only [v3_at x2 x3 h2, v6_at x0 x4 h0, v10_at x0 x5 h0]
  rfl

/-- The hidden units. -/
theorem v30_at (h0 : ∀ j, (x0 j).toNat < 32) (h2 : ∀ j, (x2 j).toNat < 161) (j : Fin 161) (r : Fin 1024) (f : Fin 2048) :
    val_main_v30 (F := Ideal) x0 x2 x3 x4 x5 (ix3 j r f) = act x0 x2 x3 x4 x5 j r f := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_call0_v0, val_main_call0_v1, val_main_call0_v2, val_main_call0_v3, val_main_call0_v4, val_main_cst, val_main_cst_0, val_main_cst_1, val_main_cst_2, val_main_cst_3, val_main_cst_4, val_main_cst_5]
  simp only [v13_at x0 x2 x3 x4 x5 h0 h2]
  rfl

/-- The second layer. -/
theorem v40_at (h0 : ∀ j, (x0 j).toNat < 32) (h2 : ∀ j, (x2 j).toNat < 161) (j : Fin 161) (r : Fin 1024) (d : Fin 2048) :
    val_main_v40 (F := Ideal) x0 x2 x3 x4 x5 x6 x7 (ix3 j r d) = row x0 x2 x3 x4 x5 x6 x7 j r d := by
  pointwise [val_main_v40, val_main_v39, val_main_v38, val_main_v34]
  simp only [v30_at x0 x2 x3 x4 x5 h0 h2, v33_at x0 x6 h0, v37_at x0 x7 h0]
  rfl

/-- A row's half of its tile starts here. -/
theorem v44_at (r : Fin 1024) : (val_main_v44 (F := Ideal) (ix1 r) : BitVec 32) = BitVec.ofNat 32 (start r) := by
  pointwise [val_main_v44, val_main_v43, val_main_v42, val_main_v41, val_main_call1_v0, val_main_call1_v1, val_main_c, val_main_c_6, val_main_c_7]
  have hr := r.isLt
  have hn : (BitVec.ofNat 32 r.val).toNat = r.val := (BitVec.toNat_ofNat r.val 32).trans (Nat.mod_eq_of_lt (by omega))
  rw [slt_small _ _ (by omega) (by decide), hn, select_dec]
  unfold start
  by_cases h : r.val < 512
  · rw [if_pos (show r.val < (512#32).toNat from h), if_pos h]
  · rw [if_neg (show ¬ r.val < (512#32).toNat from h), if_neg h]

theorem v48_at (j : Fin 161) (r : Fin 1024) : (val_main_v48 (F := Ideal) (ix2 j r) : BitVec 32) = BitVec.ofNat 32 (start r) := by
  refine Eq.trans ?_ (v44_at r)
  have e : val_main_v47 (F := Ideal) = val_main_v45 (F := Ideal) := rfl
  unfold val_main_v48
  rw [e]
  pointwise [val_main_v45]

/-- The result by tile and row. -/
theorem v52_at (h0 : ∀ j, (x0 j).toNat < 32) (h1 : ∀ j, (x1 j).toNat ≤ 1024) (h2 : ∀ j, (x2 j).toNat < 161) (j : Fin 161) (r : Fin 1024) (d : Fin 2048) :
    val_main_v52 (F := Ideal) x0 x1 x2 x3 x4 x5 x6 x7 (ix3 j r d) = out x0 x1 x2 x3 x4 x5 x6 x7 j r d := by
  have hs : start r < 1024 := by unfold start; split <;> omega
  have hn : (BitVec.ofNat 32 (start r)).toNat = start r := (BitVec.toNat_ofNat _ 32).trans (Nat.mod_eq_of_lt (by omega))
  have hc := h1 (ix1 j)
  pointwise [val_main_v52, val_main_call2_v0, val_main_call2_v1, val_main_call2_v2, val_main_v51, val_main_v50, val_main_v49, val_main_v46, val_main_cst_8]
  simp only [v40_at x0 x2 x3 x4 x5 x6 x7 h0 h2]
  rw [v48_at, slt_small _ _ (by omega) (by omega), hn, select_dec]
  refine if_congr Iff.rfl rfl ?_
  show Ideal.ofBits .f32 0x00000000#32 = 0
  exact Ideal.ofBits_zero_f32

/-- The result as one array. -/
theorem v53_at (s : Fin 164864) (d : Fin 2048) : val_main_v53 (F := Ideal) x0 x1 x2 x3 x4 x5 x6 x7 (ix2 s d)
    = val_main_v52 (F := Ideal) x0 x1 x2 x3 x4 x5 x6 x7 (ix3 ⟨s.val / 1024, by omega⟩ ⟨s.val % 1024, by omega⟩ d) := by
  pointwise [val_main_v53]

theorem v53_eq (h0 : ∀ j, (x0 j).toNat < 32) (h1 : ∀ j, (x1 j).toNat ≤ 1024) (h2 : ∀ j, (x2 j).toNat < 161) :
    val_main_v53 (F := Ideal) x0 x1 x2 x3 x4 x5 x6 x7 = outArr x0 x1 x2 x3 x4 x5 x6 x7 := by
  funext i
  rw [eq_ix2 i]
  exact (v53_at x0 x1 x2 x3 x4 x5 x6 x7 (i 0) (i 1)).trans (v52_at x0 x1 x2 x3 x4 x5 x6 x7 h0 h1 h2 _ _ (i 1))

end Cert.Reference2Ideal.Moe

end
-- ==== Proof.M.Claims.lean ====
/-
  The claims about the expert feed-forward call: each program's frame, and the equality of the kernel's and the reference's
  result over the extended reals.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_in_range
public import proofs.«01_k».proof.Proof.M.Pre
public import proofs.«01_k».proof.Proof.M.Arr
public import proofs.«01_k».proof.Proof.M.Ref
public import Idealize.ShloMosaic.Lib.Exec
public import Idealize.ShloMosaic.Lib.Tactic
public import Idealize.ShloMosaic.Adequacy

@[expose] public section

set_option maxRecDepth 16384

noncomputable section

namespace Cert.Moe

open Idealize.ShloMosaic Idealize.ShloMosaic.Tactic Idealize.SL.Sem

/-- The printed program is the idealized one: no operation of this call is replaced. -/
theorem main_same (c : Dev Cert.Kernel2.nD) : Cert.Kernel2.main (F := Bits) c = Cert.Kernel2Ideal.main (F := Bits) c := by
  sl_kernel_rfl
theorem defs_same : Cert.Kernel2.defs (F := Bits) = Cert.Kernel2Ideal.defs (F := Bits) := by
  sl_kernel_rfl

theorem frame_kernel : Cert.quiescent_Kernel2 (hKernel2 := Cert.Kernel2.Gen.facts) (hPre_in_range := Cert.Pre_in_range.Gen.facts) := by
  intro m g hp
  have h := Cert.Kernel2Ideal.Moe.frame (F := Bits) m g hp
  rw [← defs_same, ← (funext main_same : Cert.Kernel2.main (F := Bits) = Cert.Kernel2Ideal.main (F := Bits))] at h
  exact h

theorem frame_ideal : Cert.quiescent_Kernel2Ideal (hKernel2Ideal := Cert.Kernel2Ideal.Gen.facts)
    (hPre_in_range := Cert.Pre_in_range.Gen.facts) := fun m g hp => Cert.Kernel2Ideal.Moe.frame (F := Ideal) m g hp

/-- The reference declares no semaphore. -/
theorem frame_ref : Cert.quiescent_Reference2Ideal (hReference2Ideal := Cert.Reference2Ideal.Gen.facts)
    (hPre_in_range := Cert.Pre_in_range.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

set_option maxHeartbeats 4000000 in
/-- Where the tables are in range, kernel and reference end with the same array. -/
theorem algebraic : Cert.algebraic_Kernel2Ideal_Reference2Ideal (hKernel2Ideal := Cert.Kernel2Ideal.Gen.facts)
    (hReference2Ideal := Cert.Reference2Ideal.Gen.facts) (hPre_in_range := Cert.Pre_in_range.Gen.facts) := by
  intro m g m' g' hp ha
  have hin := Cert.Kernel2Ideal.Moe.tabs_in m hp
  refine ⟨fun c => (Cert.Kernel2Ideal.Moe.dats m (Cert.Kernel2Ideal.Moe.adm m hp) 0 c).arrAt 7 (Cert.Kernel2Ideal.cfg0 (Cert.Kernel2Ideal.Moe.adm m hp)).N,
    (θ_run Cert.Kernel2Ideal.defs _ _).mono (fun r h => h.1) (Cert.Kernel2Ideal.Moe.run_arrays (F := Ideal) m g hp),
    (θ_run Cert.Reference2Ideal.defs _ _).mono (fun r h c => ?_) (Cert.Reference2Ideal.Value.run (F := Ideal) m' g')⟩
  obtain ⟨r0, hk⟩ := h c
  obtain ⟨a0, a1, a2, a3, a4, a5, a6, a7⟩ := ha c
  refine ⟨r0.trans ((Cert.Reference2Ideal.Read.val_main_v53_eq m' c).trans (Eq.trans ?_
    (Cert.Kernel2Ideal.Moe.arr7 m c (Cert.Kernel2Ideal.Moe.adm m hp) hin).symm)), hk⟩
  rw [a0, a1, a2, a3, a4, a5, a6, a7]
  obtain rfl : c = 0 := Subsingleton.elim _ _
  exact Cert.Reference2Ideal.Moe.v53_eq _ _ _ _ _ _ _ _ hin.expert hin.rows hin.tile

end Cert.Moe

end
-- ==== Proof.G.Spec.lean ====
/-
  What the merge call computes, entry by entry: the attention's and the pooling's outputs go through their layers, each weighted
  by its gate; their sum goes through the output layer and is added to the input; the sum is normed.
-/
module

public import proofs.«01_k».proof.Proof.Spec

@[expose] public section

noncomputable section

namespace Cert.Merge

open Idealize.ShloMosaic Idealize.ShloMosaic.Pointwise Cert.Front

/-- The shapes of the arguments and of the results. -/
abbrev Sa : Shape := ⟨3, ![8, 16, 1024]⟩
abbrev Sm : Shape := ⟨3, ![1, 1024, 2048]⟩
abbrev So : Shape := ⟨3, ![1, 2048, 2048]⟩
abbrev Sr : Shape := ⟨2, ![128, 2048]⟩

/-- One entry of the gated sum of the two mixers, from one token's rows. -/
def mix (X G : Fin 2048 → EReal) (A P : Fin 1024 → EReal) (Wg : Fin 2048 → Fin 4096 → EReal)
    (Wa Wb : Fin 1024 → Fin 2048 → EReal) (d : Fin 2048) : EReal :=
  Ideal.logistic (proj X G fun x => Wg x ⟨d.val, by omega⟩) * ∑ k, A k * Wa k d
    + Ideal.logistic (proj X G fun x => Wg x ⟨2048 + d.val, by omega⟩) * ∑ k, P k * Wb k d

/-- One entry of the token's row with the output layer of the mixers added. -/
def added (X G : Fin 2048 → EReal) (A P : Fin 1024 → EReal) (Wg : Fin 2048 → Fin 4096 → EReal)
    (Wa Wb : Fin 1024 → Fin 2048 → EReal) (Wo : Fin 2048 → Fin 2048 → EReal) (n : Fin 2048) : EReal :=
  X n + ∑ d, mix X G A P Wg Wa Wb d * Wo d n

/-- A row normed by its root mean square and weighted. -/
def normed (Y G : Fin 2048 → EReal) (n : Fin 2048) : EReal :=
  Y n * Ideal.rsqrt (Ideal.div (∑ x, Y x * Y x) (Ideal.ofBits .f32 0x45000000#32) + Ideal.ofBits .f32 0x3727C5AC#32) * G n

/-- One logit of the router. -/
def logit (H : Fin 2048 → EReal) (W : Fin 2048 → Fin 32 → EReal) (B : Fin 32 → EReal) (e : Fin 32) : EReal := ∑ x, H x * W x e + B e

variable (x0 : Arr Sx) (x1 x2 : Vec Ideal Sa .bf16) (x3 : Arr Sg) (x4 : Arr Sw) (x5 x6 : Arr Sm) (x7 : Arr So) (x8 : Arr Sg)

/-- The first result, by sample, token and entry. -/
def sum (b : Fin 8) (t : Fin 16) (n : Fin 2048) : EReal :=
  added (fun x => x0 (ix3 b t x)) (fun x => x3 (ix2 0 x)) (fun k => x1 (ix3 b t k)) (fun k => x2 (ix3 b t k))
    (fun x f => x4 (ix3 0 x ⟨2304 + f.val, by omega⟩)) (fun k d => x5 (ix3 0 k d)) (fun k d => x6 (ix3 0 k d))
    (fun d f => x7 (ix3 0 d f)) n

/-- The second result, by sample, token and entry. -/
def norm (b : Fin 8) (t : Fin 16) (n : Fin 2048) : EReal :=
  normed (sum x0 x1 x2 x3 x4 x5 x6 x7 b t) (fun x => x8 (ix2 0 x)) n

/-- The sample and the token of a row. -/
def smp (r : Fin 128) : Fin 8 := ⟨r.val / 16, by omega⟩
def tok (r : Fin 128) : Fin 16 := ⟨r.val % 16, by omega⟩

/-- The two results as arrays. -/
def sumArr : Arr Sr := fun i => sum x0 x1 x2 x3 x4 x5 x6 x7 (smp (i 0)) (tok (i 0)) (i 1)
def normArr : Arr Sr := fun i => norm x0 x1 x2 x3 x4 x5 x6 x7 x8 (smp (i 0)) (tok (i 0)) (i 1)

/-- The router's logits of a row. -/
def logits (x9 : Arr ⟨3, ![1, 2048, 32]⟩) (x10 : Arr ⟨2, ![1, 32]⟩) (r : Fin 128) : Fin 32 → EReal :=
  logit (norm x0 x1 x2 x3 x4 x5 x6 x7 x8 (smp r) (tok r)) (fun x e => x9 (ix3 0 x e)) (fun e => x10 (ix2 0 e))

end Cert.Merge

end
-- ==== Proof.G.Pay.lean ====
/-
  What the merge's kernel computes from its blocks, entry by entry.
-/
module

public import proofs.«01_k».proof.Proof.Gen.Kernel3Ideal.Skeleton
public import proofs.«01_k».proof.Proof.G.Spec
public import Idealize.ShloMosaic.Lib.Pointwise

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic Idealize.SL.Sem
open Idealize.ShloMosaic.Pointwise Cert.Front Cert.Merge

/-! The blocks: `x0` the rows, `x1` and `x2` the attention's and the pooling's outputs, `x3` and `x8` the norms' weights, `wg` and
`wh` the two gates' projections, `x5` and `x6` the mixers' layers, `x7` the output layer. -/

variable (x0 : Vec Ideal S128x2048 .f32) (x1 x2 : Vec Ideal S128x1024 .bf16) (x3 : Vec Ideal S1x2048 .f32)
  (wg wh : Vec Ideal S2048x2048 .bf16) (x5 x6 : Vec Ideal S1024x2048 .bf16) (x7 : Vec Ideal S2048x2048 .bf16) (x8 : Vec Ideal S1x2048 .f32)

theorem pay4_at (r : Fin 128) (n : Fin 2048) : k0_pay4 (F := Ideal) x0 (ix2 r n) = x0 (ix2 r n) := by
  pointwise [k0_pay4]

/-- The first gate on the attention's layer. -/
theorem pay6_at (r : Fin 128) (d : Fin 2048) : k0_pay6 (F := Ideal) x0 x3 wg x1 x5 (ix2 r d)
    = Ideal.logistic (proj (fun x => x0 (ix2 r x)) (fun x => x3 (ix2 0 x)) fun x => wg (ix2 x d)) * ∑ k, x1 (ix2 r k) * x5 (ix2 k d) := by
  pointwise [k0_pay6, k0_pay5, k0_pay4]
  rfl

/-- The second gate on the pooling's layer. -/
theorem pay7_at (r : Fin 128) (d : Fin 2048) : k0_pay7 (F := Ideal) x0 x3 wh x2 x6 (ix2 r d)
    = Ideal.logistic (proj (fun x => x0 (ix2 r x)) (fun x => x3 (ix2 0 x)) fun x => wh (ix2 x d)) * ∑ k, x2 (ix2 r k) * x6 (ix2 k d) := by
  pointwise [k0_pay7, k0_pay5, k0_pay4]
  rfl

/-- The first output, from the gated layers `a` and `p`. -/
theorem pay8_at (v a p : Vec Ideal S128x2048 .f32) (r : Fin 128) (n : Fin 2048) :
    k0_pay8 (F := Ideal) v a p x7 (ix2 r n) = v (ix2 r n) + ∑ d, (a (ix2 r d) + p (ix2 r d)) * x7 (ix2 d n) := by
  pointwise [k0_pay8]

/-- The second output. -/
theorem pay9_at (v a p : Vec Ideal S128x2048 .f32) (r : Fin 128) (n : Fin 2048) :
    k0_pay9 (F := Ideal) v a p x7 x8 (ix2 r n) = normed (fun x => k0_pay8 (F := Ideal) v a p x7 (ix2 r x)) (fun x => x8 (ix2 0 x)) n := by
  pointwise [k0_pay9]
  rfl

/-- The first output, from the blocks. -/
theorem added_at (x4 : Vec Ideal S2048x4096 .bf16) (hg : ∀ x d : Fin 2048, (wg (ix2 x d) : EReal) = x4 (ix2 x ⟨d.val, by omega⟩))
    (hh : ∀ x d : Fin 2048, (wh (ix2 x d) : EReal) = x4 (ix2 x ⟨2048 + d.val, by omega⟩)) (r : Fin 128) (n : Fin 2048) :
    k0_pay8 (F := Ideal) (k0_pay4 x0) (k0_pay6 x0 x3 wg x1 x5) (k0_pay7 x0 x3 wh x2 x6) x7 (ix2 r n)
      = added (fun x => x0 (ix2 r x)) (fun x => x3 (ix2 0 x)) (fun k => x1 (ix2 r k)) (fun k => x2 (ix2 r k)) (fun x f => x4 (ix2 x f))
        (fun k d => x5 (ix2 k d)) (fun k d => x6 (ix2 k d)) (fun d f => x7 (ix2 d f)) n := by
  rw [pay8_at, pay4_at]
  simp only [pay6_at, pay7_at, hg, hh]
  rfl

end Cert.Kernel3Ideal.Merge

end
-- ==== Proof.G.Blk.lean ====
/-
  The blocks that the merge's one grid point reads, as parts of the arguments.
-/
module

public import proofs.«01_k».proof.Proof.Gen.Kernel3Ideal.Frame
public import proofs.«01_k».proof.Proof.G.Spec
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel3Ideal.Merge

open Cert.Kernel3Ideal Cert.Kernel3Ideal.Gen Idealize.ShloMosaic Idealize.ShloMosaic.Pointwise Idealize.SL.Sem Cert.Front Cert.Merge

variable (m : (ℓ : Loc nD τ sig) → Buf (Elt Ideal) ℓ) (c : Dev nD)

theorem idx : ∀ t : Fin cfg0.N,
    (win0_0.index t = ![0, 0] ∧ win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0] ∧ win0_8.index t = ![0, 0])
    ∧ (win0_9.index t = ![0, 0] ∧ win0_10.index t = ![0, 0])
    ∧ (win0_11.index t = ![0, 0] ∧ win0_12.index t = ![0, 0] ∧ win0_13.index t = ![0, 0] ∧ win0_14.index t = ![0, 0]) :=
  (by decide +kernel : ∀ t : Fin grid0.N, _)

/-! The arrays that the call reads, from the arguments. -/

theorem V_v18 (r : Fin 128) (x : Fin 2048) : (V m c main_v18 : Vec Ideal S128x2048 .f32) (ix2 r x)
    = (m ((c.tc : Thread nD τ).loc main_arg0) : Vec Ideal S8x16x2048 .f32) (ix3 (smp r) (tok r) x) := by
  unfold V
  after_reads_at
  rfl
theorem V_v19 (r : Fin 128) (k : Fin 1024) : (V m c main_v19 : Vec Ideal S128x1024 .bf16) (ix2 r k)
    = (m ((c.tc : Thread nD τ).loc main_arg1) : Vec Ideal S8x16x1024 .bf16) (ix3 (smp r) (tok r) k) := by
  unfold V
  after_reads_at
  rfl
theorem V_v20 (r : Fin 128) (k : Fin 1024) : (V m c main_v20 : Vec Ideal S128x1024 .bf16) (ix2 r k)
    = (m ((c.tc : Thread nD τ).loc main_arg2) : Vec Ideal S8x16x1024 .bf16) (ix3 (smp r) (tok r) k) := by
  unfold V
  after_reads_at
  rfl
theorem V_v4 (x : Fin 2048) : (V m c main_v4 : Vec Ideal S1x2048 .f32) (ix2 0 x)
    = (m ((c.tc : Thread nD τ).loc main_arg3) : Vec Ideal S1x2048 .f32) (ix2 0 x) := by
  unfold V
  after_reads_at
theorem V_v6 (x : Fin 2048) : (V m c main_v6 : Vec Ideal S1x2048 .f32) (ix2 0 x)
    = (m ((c.tc : Thread nD τ).loc main_arg8) : Vec Ideal S1x2048 .f32) (ix2 0 x) := by
  unfold V
  after_reads_at
theorem V_v2 (x : Fin 2048) (f : Fin 4096) : (V m c main_v2 : Vec Ideal S2048x4096 .bf16) (ix2 x f)
    = (m ((c.tc : Thread nD τ).loc main_arg4) : Vec Ideal S1x2048x6400 .f32) (ix3 0 x ⟨2304 + f.val, by omega⟩) := by
  unfold V
  after_reads_at
theorem V_v8 (k : Fin 1024) (d : Fin 2048) : (V m c main_v8 : Vec Ideal S1024x2048 .bf16) (ix2 k d)
    = (m ((c.tc : Thread nD τ).loc main_arg5) : Vec Ideal S1x1024x2048 .f32) (ix3 0 k d) := by
  unfold V
  after_reads_at
theorem V_v10 (k : Fin 1024) (d : Fin 2048) : (V m c main_v10 : Vec Ideal S1024x2048 .bf16) (ix2 k d)
    = (m ((c.tc : Thread nD τ).loc main_arg6) : Vec Ideal S1x1024x2048 .f32) (ix3 0 k d) := by
  unfold V
  after_reads_at
theorem V_v12 (d n : Fin 2048) : (V m c main_v12 : Vec Ideal S2048x2048 .bf16) (ix2 d n)
    = (m ((c.tc : Thread nD τ).loc main_arg7) : Vec Ideal S1x2048x2048 .f32) (ix3 0 d n) := by
  unfold V
  after_reads_at
theorem V_v15 (e : Fin 32) (x : Fin 2048) : (V m c main_v15 : Vec Ideal S32x2048 .bf16) (ix2 e x)
    = (m ((c.tc : Thread nD τ).loc main_arg9) : Vec Ideal S1x2048x32 .f32) (ix3 0 x e) := by
  unfold V
  after_reads_at
theorem V_v17 (e : Fin 32) : (V m c main_v17 : Vec Ideal S32x1 .f32) (ix2 e 0)
    = (m ((c.tc : Thread nD τ).loc main_arg10) : Vec Ideal S1x32 .f32) (ix2 0 e) := by
  unfold V
  after_reads_at

/-! Each window's block is its whole array. -/

theorem blk0 (t : Fin cfg0.N) (r : Fin 128) (x : Fin 2048) : (iblk m c 0 t : Vec Ideal S128x2048 .f32) (ix2 r x) = (V m c main_v18 : Vec Ideal S128x2048 .f32) (ix2 r x) := by
  blk_ext [iblk, idx t]
theorem blk1 (t : Fin cfg0.N) (r : Fin 128) (k : Fin 1024) : (iblk m c 1 t : Vec Ideal S128x1024 .bf16) (ix2 r k) = (V m c main_v19 : Vec Ideal S128x1024 .bf16) (ix2 r k) := by
  blk_ext [iblk, idx t]
theorem blk2 (t : Fin cfg0.N) (r : Fin 128) (k : Fin 1024) : (iblk m c 2 t : Vec Ideal S128x1024 .bf16) (ix2 r k) = (V m c main_v20 : Vec Ideal S128x1024 .bf16) (ix2 r k) := by
  blk_ext [iblk, idx t]
theorem blk3 (t : Fin cfg0.N) (x : Fin 2048) : (iblk m c 3 t : Vec Ideal S1x2048 .f32) (ix2 0 x) = (V m c main_v4 : Vec Ideal S1x2048 .f32) (ix2 0 x) := by
  blk_ext [iblk, idx t]
theorem blk4 (t : Fin cfg0.N) (x : Fin 2048) (f : Fin 4096) : (iblk m c 4 t : Vec Ideal S2048x4096 .bf16) (ix2 x f) = (V m c main_v2 : Vec Ideal S2048x4096 .bf16) (ix2 x f) := by
  blk_ext [iblk, idx t]
theorem blk5 (t : Fin cfg0.N) (k : Fin 1024) (d : Fin 2048) : (iblk m c 5 t : Vec Ideal S1024x2048 .bf16) (ix2 k d) = (V m c main_v8 : Vec Ideal S1024x2048 .bf16) (ix2 k d) := by
  blk_ext [iblk, idx t]
theorem blk6 (t : Fin cfg0.N) (k : Fin 1024) (d : Fin 2048) : (iblk m c 6 t : Vec Ideal S1024x2048 .bf16) (ix2 k d) = (V m c main_v10 : Vec Ideal S1024x2048 .bf16) (ix2 k d) := by
  blk_ext [iblk, idx t]
theorem blk7 (t : Fin cfg0.N) (d : Fin 2048) (n : Fin 2048) : (iblk m c 7 t : Vec Ideal S2048x2048 .bf16) (ix2 d n) = (V m c main_v12 : Vec Ideal S2048x2048 .bf16) (ix2 d n) := by
  blk_ext [iblk, idx t]
theorem blk8 (t : Fin cfg0.N) (x : Fin 2048) : (iblk m c 8 t : Vec Ideal S1x2048 .f32) (ix2 0 x) = (V m c main_v6 : Vec Ideal S1x2048 .f32) (ix2 0 x) := by
  blk_ext [iblk, idx t]
theorem blk9 (t : Fin cfg0.N) (e : Fin 32) (x : Fin 2048) : (iblk m c 9 t : Vec Ideal S32x2048 .bf16) (ix2 e x) = (V m c main_v15 : Vec Ideal S32x2048 .bf16) (ix2 e x) := by
  blk_ext [iblk, idx t]
theorem blk10 (t : Fin cfg0.N) (e : Fin 32) : (iblk m c 10 t : Vec Ideal S32x1 .f32) (ix2 e 0) = (V m c main_v17 : Vec Ideal S32x1 .f32) (ix2 e 0) := by
  blk_ext [iblk, idx t]

end Cert.Kernel3Ideal.Merge

end
-- ==== Proof.G.Arr.lean ====
/-
  The merge's two results after the call are the functions of Spec.
-/
module

public import proofs.«01_k».proof.Proof.G.Pay
public import proofs.«01_k».proof.Proof.G.Blk
public import proofs.«01_k».proof.Proof.Gen.Kernel3Ideal.Value

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic Idealize.SL.Sem
open Idealize.ShloMosaic.Pointwise Cert.Front Cert.Merge

variable (x0 : Vec Ideal S128x2048 .f32) (x1 x2 : Vec Ideal S128x1024 .bf16) (x3 : Vec Ideal S1x2048 .f32)
  (x4 : Vec Ideal S2048x4096 .bf16) (x5 x6 : Vec Ideal S1024x2048 .bf16) (x7 : Vec Ideal S2048x2048 .bf16) (x8 : Vec Ideal S1x2048 .f32)
  (x9 : Vec Ideal S32x2048 .bf16) (x10 : Vec Ideal S32x1 .f32)

/-- 2048 columns of the gates' projection, from column `c` on. -/
theorem ld_cols (c : ℕ) (inb : ∀ a, (![0, c] : Fin 2 → ℕ) a + (![2048, 2048] : Fin 2 → ℕ) a ≤ S2048x4096.size a) (x d : Fin 2048) :
    (View.ld (Val := Elt Ideal) (S := S2048x4096) (e' := .bf16) x4 (Rect.unit (s := S2048x4096) ![0, c] ![2048, 2048] inb) : S2048x2048.Idx → EReal) (ix2 x d)
      = x4 (ix2 x ⟨c + d.val, by have : c + 2048 ≤ 4096 := inb 1; omega⟩) := by
  refine congrArg x4 (funext fun a => Fin.ext ?_)
  match a with
  | ⟨0, _⟩ => show 0 + 1 * x.val = x.val; omega
  | ⟨1, _⟩ => show c + 1 * d.val = c + d.val; omega
theorem ld_low (inb) (x d : Fin 2048) : (View.ld (Val := Elt Ideal) (S := S2048x4096) (e' := .bf16) x4 (Rect.unit (s := S2048x4096) ![0, 0] ![2048, 2048] inb) : S2048x2048.Idx → EReal) (ix2 x d)
      = x4 (ix2 x ⟨d.val, by omega⟩) :=
  (ld_cols x4 0 inb x d).trans (congrArg (fun k => x4 (ix2 x k)) (Fin.ext (Nat.zero_add _)))

/-- The first result's block, from the blocks read. -/
theorem out11_at (c : Dev nD) (i : grid0.Coords) (arg1 : Memref sig .tc .vmem S128x2048 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S1x2048 .f32) (harg4 : arg4.IsWhole) (arg5 : Memref sig .tc .vmem S2048x4096 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S32x2048 .bf16) (harg10 : arg10.IsWhole) (arg11 : Memref sig .tc .vmem S32x1 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S4x128 .i32) (harg14 : arg14.IsWhole) (arg15 : Memref sig .tc .vmem S4x128 .f32) (harg15 : arg15.IsWhole) (hc0 : ¬cond0_0 i) (hc1 : cond0_1 i)
    (r : Fin 128) (n : Fin 2048) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 r n)
      = added (fun x => x0 (ix2 r x)) (fun x => x3 (ix2 0 x)) (fun k => x1 (ix2 r k)) (fun k => x2 (ix2 r k)) (fun x f => x4 (ix2 x f))
        (fun k d => x5 (ix2 k d)) (fun k d => x6 (ix2 k d)) (fun d f => x7 (ix2 d f)) n := by
  unfold out0_A_11 kernelRun0_A
  dsimp only
  sl_unfold_words
  simp only [View.readAt_eq_ld, Memref.IsWhole.read_unread]
  have z2 : (![0, 0] : Fin 2 → ℕ) = fun _ => 0 := by decide
  simp only [View.ld_unit_zero (S := S128x2048) z2, View.ld_unit_zero (S := S1x2048) z2, View.ld_unit_zero (S := S128x1024) z2, View.ld_unit_zero (S := S1024x2048) z2, View.ld_unit_zero (S := S2048x2048) z2]
  rw [View.read_writes_junk_eq_canon, View.canon_unit_zero (S := S128x2048) z2]
  exact added_at x0 x1 x2 x3 _ _ x5 x6 x7 x4 (ld_low x4 _) (ld_cols x4 2048 _) r n

/-- The second result's block, from the blocks read. -/
theorem out12_at (c : Dev nD) (i : grid0.Coords) (arg1 : Memref sig .tc .vmem S128x2048 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S1x2048 .f32) (harg4 : arg4.IsWhole) (arg5 : Memref sig .tc .vmem S2048x4096 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S32x2048 .bf16) (harg10 : arg10.IsWhole) (arg11 : Memref sig .tc .vmem S32x1 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S4x128 .i32) (harg14 : arg14.IsWhole) (arg15 : Memref sig .tc .vmem S4x128 .f32) (harg15 : arg15.IsWhole) (hc0 : ¬cond0_0 i) (hc1 : cond0_1 i)
    (r : Fin 128) (n : Fin 2048) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 r n)
      = normed (added (fun x => x0 (ix2 r x)) (fun x => x3 (ix2 0 x)) (fun k => x1 (ix2 r k)) (fun k => x2 (ix2 r k)) (fun x f => x4 (ix2 x f))
        (fun k d => x5 (ix2 k d)) (fun k d => x6 (ix2 k d)) (fun d f => x7 (ix2 d f))) (fun x => x8 (ix2 0 x)) n := by
  unfold out0_A_12 kernelRun0_A
  dsimp only
  sl_unfold_words
  simp only [View.readAt_eq_ld, Memref.IsWhole.read_unread]
  have z2 : (![0, 0] : Fin 2 → ℕ) = fun _ => 0 := by decide
  simp only [View.ld_unit_zero (S := S128x2048) z2, View.ld_unit_zero (S := S1x2048) z2, View.ld_unit_zero (S := S128x1024) z2, View.ld_unit_zero (S := S1024x2048) z2, View.ld_unit_zero (S := S2048x2048) z2]
  rw [View.read_writes_junk_eq_canon, View.canon_unit_zero (S := S128x2048) z2]
  rw [pay9_at]
  exact congrArg (fun Y => normed Y _ n) (funext fun y => added_at x0 x1 x2 x3 _ _ x5 x6 x7 x4 (ld_low x4 _) (ld_cols x4 2048 _) r y)

variable (m : (ℓ : Loc nD τ sig) → Buf (Elt Ideal) ℓ) (c : Dev nD)

/-- What the grid point leaves of the first result. -/
theorem out11 (t : Fin cfg0.N) (r : Fin 128) (n : Fin 2048) : ((outsAt0 m c t).1 (ix2 r n) : EReal)
    = Cert.Merge.sum (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) (smp r) (tok r) n := by
  dsimp only [outsAt0]
  rw [out11_at]
  simp only [fun a b => (blk0 m c t a b).trans (V_v18 m c a b),
    fun a b => (blk1 m c t a b).trans (V_v19 m c a b),
    fun a b => (blk2 m c t a b).trans (V_v20 m c a b),
    fun x => (blk3 m c t x).trans (V_v4 m c x),
    fun a b => (blk4 m c t a b).trans (V_v2 m c a b),
    fun a b => (blk5 m c t a b).trans (V_v8 m c a b),
    fun a b => (blk6 m c t a b).trans (V_v10 m c a b),
    fun a b => (blk7 m c t a b).trans (V_v12 m c a b)]
  rfl

/-- What the grid point leaves of the second result. -/
theorem out12 (t : Fin cfg0.N) (r : Fin 128) (n : Fin 2048) : ((outsAt0 m c t).2.1 (ix2 r n) : EReal)
    = norm (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) (m ((c.tc : Thread nD τ).loc main_arg8) : Arr Sg) (smp r) (tok r) n := by
  dsimp only [outsAt0]
  rw [out12_at]
  simp only [fun a b => (blk0 m c t a b).trans (V_v18 m c a b),
    fun a b => (blk1 m c t a b).trans (V_v19 m c a b),
    fun a b => (blk2 m c t a b).trans (V_v20 m c a b),
    fun x => (blk3 m c t x).trans (V_v4 m c x),
    fun a b => (blk4 m c t a b).trans (V_v2 m c a b),
    fun a b => (blk5 m c t a b).trans (V_v8 m c a b),
    fun a b => (blk6 m c t a b).trans (V_v10 m c a b),
    fun a b => (blk7 m c t a b).trans (V_v12 m c a b),
    fun x => (blk8 m c t x).trans (V_v6 m c x)]
  rfl

/-- The one block is the whole array. -/
theorem emb11 (t : Fin cfg0.N) (r : Fin 128) (n : Fin 2048) :
    ((cfg0.win 11).blk t).view.emb (ix2 r n : S128x2048.Idx) = (ix2 r n : S128x2048.Idx) := by
  blk_ext [idx t]
theorem emb12 (t : Fin cfg0.N) (r : Fin 128) (n : Fin 2048) :
    ((cfg0.win 12).blk t).view.emb (ix2 r n : S128x2048.Idx) = (ix2 r n : S128x2048.Idx) := by
  blk_ext [idx t]

/-- The first result after the call. -/
theorem arr11 : (dats m 0 c).arrAt 11 cfg0.N = sumArr (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) := by
  refine (dats m 0 c).arrAt_eq_of_covers 11 _ (by decide +kernel) fun t hf y => ?_
  rw [after0_11]
  refine Eq.trans (congrArg (outsAt0 m c t).1 (eq_ix2 (n0 := 128) (n1 := 2048) y)) ?_
  refine (out11 m c t (y 0) (y 1)).trans (congrArg (sumArr (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So)) ?_)
  exact (eq_ix2 (n0 := 128) (n1 := 2048) y).trans <| (emb11 t (y 0) (y 1)).symm.trans (congrArg ((cfg0.win 11).blk t).view.emb (eq_ix2 (n0 := 128) (n1 := 2048) y).symm)

/-- The second result after the call. -/
theorem arr12 : (dats m 0 c).arrAt 12 cfg0.N = normArr (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) (m ((c.tc : Thread nD τ).loc main_arg8) : Arr Sg) := by
  refine (dats m 0 c).arrAt_eq_of_covers 12 _ (by decide +kernel) fun t hf y => ?_
  rw [after0_12]
  refine Eq.trans (congrArg (outsAt0 m c t).2.1 (eq_ix2 (n0 := 128) (n1 := 2048) y)) ?_
  refine (out12 m c t (y 0) (y 1)).trans (congrArg (normArr (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) (m ((c.tc : Thread nD τ).loc main_arg8) : Arr Sg)) ?_)
  exact (eq_ix2 (n0 := 128) (n1 := 2048) y).trans <| (emb12 t (y 0) (y 1)).symm.trans (congrArg ((cfg0.win 12).blk t).view.emb (eq_ix2 (n0 := 128) (n1 := 2048) y).symm)

end Cert.Kernel3Ideal.Merge

end
-- ==== Proof.G.Ref.lean ====
/-
  The merge's reference, entry by entry: its two results are the functions of Spec.
-/
module

public import proofs.«01_k».proof.Proof.Gen.Reference3Ideal.Read
public import proofs.«01_k».proof.Proof.G.Spec

@[expose] public section

set_option maxRecDepth 16384

noncomputable section

namespace Cert.Reference3Ideal.Merge

open Cert.Reference3Ideal Cert.Reference3Ideal.Read Idealize.ShloMosaic Idealize.ShloMosaic.TcCoe Idealize.ShloMosaic.Tactic
open Idealize.ShloMosaic.Pointwise Cert.Front Cert.Merge

variable (x0 : Vec Ideal S8x16x2048 .f32) (x1 x2 : Vec Ideal S8x16x1024 .bf16) (x3 : Vec Ideal S1x2048 .f32)
  (x4 : Vec Ideal S1x2048x6400 .f32) (x5 x6 : Vec Ideal S1x1024x2048 .f32) (x7 : Vec Ideal S1x2048x2048 .f32) (x8 : Vec Ideal S1x2048 .f32)

/-- The projection of the normed input. -/
theorem v15_at (b : Fin 8) (t : Fin 16) (n : Fin 6400) : val_main_v15 (F := Ideal) x0 x3 x4 (ix3 b t n) = z x0 x3 x4 b t n := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gated sum of the two mixers. -/
theorem v42_at (b : Fin 8) (t : Fin 16) (d : Fin 2048) : val_main_v42 (F := Ideal) x0 x1 x2 x3 x4 x5 x6 (ix3 b t d)
    = mix (fun x => x0 (ix3 b t x)) (fun x => x3 (ix2 0 x)) (fun k => x1 (ix3 b t k)) (fun k => x2 (ix3 b t k))
      (fun x f => x4 (ix3 0 x ⟨2304 + f.val, by omega⟩)) (fun k d => x5 (ix3 0 k d)) (fun k d => x6 (ix3 0 k d)) d := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, val_main_cst_5]
  simp only [v15_at]
  have e : (⟨4352 + d.val, by omega⟩ : Fin 6400) = ⟨2304 + (2048 + d.val), by omega⟩ := Fin.ext (by show 4352 + d.val = 2304 + (2048 + d.val); omega)
  rw [e]
  rfl

/-- The mixers' output added to the input. -/
theorem v45_at (b : Fin 8) (t : Fin 16) (n : Fin 2048) :
    val_main_v45 (F := Ideal) x0 x1 x2 x3 x4 x5 x6 x7 (ix3 b t n) = Cert.Merge.sum x0 x1 x2 x3 x4 x5 x6 x7 b t n := by
  pointwise [val_main_v45, val_main_v44, val_main_v43]
  simp only [v42_at]
  rfl

/-- The second norm. -/
theorem v59_at (b : Fin 8) (t : Fin 16) (n : Fin 2048) :
    val_main_v59 (F := Ideal) x0 x1 x2 x3 x4 x5 x6 x7 x8 (ix3 b t n) = norm x0 x1 x2 x3 x4 x5 x6 x7 x8 b t n := by
  pointwise [val_main_v59, val_main_v58, val_main_v57, val_main_v56, val_main_v55, val_main_v54, val_main_v53, val_main_v52, val_main_v51, val_main_v50, val_main_v49, val_main_v48, val_main_v47, val_main_v46, val_main_cst_6, val_main_cst_7, val_main_cst_8]
  simp only [v45_at]
  rfl

theorem v61_at (r : Fin 128) (n : Fin 2048) :
    val_main_v61 (F := Ideal) x0 x1 x2 x3 x4 x5 x6 x7 (ix2 r n) = Cert.Merge.sum x0 x1 x2 x3 x4 x5 x6 x7 (smp r) (tok r) n := by
  pointwise [val_main_v61]
  exact v45_at x0 x1 x2 x3 x4 x5 x6 x7 (smp r) (tok r) n
theorem v60_at (r : Fin 128) (n : Fin 2048) :
    val_main_v60 (F := Ideal) x0 x1 x2 x3 x4 x5 x6 x7 x8 (ix2 r n) = norm x0 x1 x2 x3 x4 x5 x6 x7 x8 (smp r) (tok r) n := by
  pointwise [val_main_v60]
  exact v59_at x0 x1 x2 x3 x4 x5 x6 x7 x8 (smp r) (tok r) n

/-- The first result. -/
theorem v61_eq : val_main_v61 (F := Ideal) x0 x1 x2 x3 x4 x5 x6 x7 = sumArr x0 x1 x2 x3 x4 x5 x6 x7 :=
  funext fun i => (congrArg _ (eq_ix2 i)).trans (v61_at x0 x1 x2 x3 x4 x5 x6 x7 (i 0) (i 1))
/-- The second result. -/
theorem v60_eq : val_main_v60 (F := Ideal) x0 x1 x2 x3 x4 x5 x6 x7 x8 = normArr x0 x1 x2 x3 x4 x5 x6 x7 x8 :=
  funext fun i => (congrArg _ (eq_ix2 i)).trans (v60_at x0 x1 x2 x3 x4 x5 x6 x7 x8 (i 0) (i 1))

end Cert.Reference3Ideal.Merge

end
-- ==== Proof.G.Claims.lean ====
/-
  The claims about the merge call: each program's frame, and the equality of the kernel's and the reference's first two results
  over the extended reals.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.G.Arr
public import proofs.«01_k».proof.Proof.G.Ref
public import Idealize.ShloMosaic.Adequacy

@[expose] public section

set_option maxRecDepth 16384

noncomputable section

namespace Cert.Merge

open Idealize.ShloMosaic Idealize.SL.Sem

theorem frame_kernel : Cert.quiescent_Kernel3 (hKernel3 := Cert.Kernel3.Gen.facts) := fun m g _ => Cert.Kernel3.Gen.frame m g

theorem frame_ideal : Cert.quiescent_Kernel3Ideal (hKernel3Ideal := Cert.Kernel3Ideal.Gen.facts) :=
  fun m g _ => Cert.Kernel3Ideal.Gen.frame m g

/-- The reference declares no semaphore. -/
theorem frame_ref : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

set_option maxHeartbeats 4000000 in
/-- Kernel and reference end with the same two arrays. -/
theorem algebraic : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    (θ_run Cert.Kernel3Ideal.defs _ _).mono (fun r h c => ⟨(h c).1, (h c).2.1, (h c).2.2.2.2⟩)
      (Cert.Kernel3Ideal.Value.run_blocks (F := Ideal) m g),
    (θ_run Cert.Reference3Ideal.defs _ _).mono (fun r h c => ?_) (Cert.Reference3Ideal.Value.run (F := Ideal) m' g')⟩
  obtain ⟨r0, r1, hk⟩ := h c
  obtain ⟨a0, a1, a2, a3, a4, a5, a6, a7, a8, _⟩ := ha c
  refine ⟨r0.trans (Eq.trans (Cert.Reference3Ideal.Read.val_main_v61_eq _ _ _ _ _ _ _ _) (Eq.trans ?_ (Cert.Kernel3Ideal.Merge.arr11 m c).symm)),
    r1.trans ((Cert.Reference3Ideal.Read.val_main_v60_eq m' c).trans (Eq.trans ?_ (Cert.Kernel3Ideal.Merge.arr12 m c).symm)), hk⟩
  · rw [a0, a1, a2, a3, a4, a5, a6, a7]
    exact Cert.Reference3Ideal.Merge.v61_eq _ _ _ _ _ _ _ _
  · rw [a0, a1, a2, a3, a4, a5, a6, a7, a8]
    exact Cert.Reference3Ideal.Merge.v60_eq _ _ _ _ _ _ _ _ _

end Cert.Merge

end
-- ==== Proof.G.Top.lean ====
/-
  The four greatest of a row, by a stable sort and by taking the greatest four times over.
-/
module

public import Idealize.ShloMosaic.Lib.SortFacts
public import Idealize.ShloMosaic.Lib.Pointwise

@[expose] public section

noncomputable section

namespace Cert.Router

open Idealize.ShloMosaic

/-- Inserting into a sorted list asks only whether a later entry goes before an earlier one. -/
theorem stableSort_later {ι : Type} (R T : ι → ι → Bool) (l : List ι) (h : l.Pairwise fun a b => R b a = T b a) :
    stableSort R l = stableSort T l := by
  induction l with
  | nil => rfl
  | cons a l ih =>
    rw [List.pairwise_cons] at h
    unfold stableSort
    rw [ih h.2]
    exact insertBefore_congr R T a _ fun b hb => h.1 b ((perm_stableSort T l).mem_iff.mp hb)

variable {n : ℕ} (L : Fin n → EReal)

/-- `a` goes before `b`: it is greater, or as great and earlier. -/
def Before (a b : Fin n) : Prop := L b < L a ∨ (L a = L b ∧ a < b)

instance (a b : Fin n) : Decidable (Before L a b) := Classical.propDecidable _

theorem before_asymm {a b : Fin n} : Before L a b → ¬ Before L b a := by
  rintro (h | ⟨h, h'⟩) (k | ⟨k, k'⟩)
  · exact absurd h (not_lt.mpr k.le)
  · exact absurd h (not_lt.mpr k.ge)
  · exact absurd k (not_lt.mpr h.ge)
  · omega

theorem before_total {a b : Fin n} (h : a ≠ b) (k : ¬ Before L b a) : Before L a b := by
  unfold Before at *
  push Not at k
  rcases lt_or_eq_of_le k.1 with hl | he
  · exact .inl hl
  · exact .inr ⟨he.symm, lt_of_le_of_ne (k.2 he) h⟩

theorem before_trans {a b c : Fin n} (h : ¬ Before L a b) (k : ¬ Before L b c) : ¬ Before L a c := by
  unfold Before at *
  push Not at *
  refine ⟨h.1.trans k.1, fun e => ?_⟩
  have e1 : L a = L b := le_antisymm h.1 (by rw [e]; exact k.1)
  exact (k.2 (e1.symm.trans e)).trans (h.2 e1)

/-- The positions in descending order of their entries. -/
def order (k : Fin n) : Fin n := sortedFrom (fun a b => FloatOps.cmpfTotal (F := Ideal) (φ := .f32) .gt (L a) (L b) == 1#1) k

/-- The comparison of the sort is strict, so that equal entries stay in place. -/
theorem order_eq : order L = sortedFrom fun a b => decide (Before L a b) := by
  have e : sortPositions n (fun a b => FloatOps.cmpfTotal (F := Ideal) (φ := .f32) .gt (L a) (L b) == 1#1)
      = sortPositions n fun a b => decide (Before L a b) := by
    refine stableSort_later _ _ _ ((List.pairwise_lt_finRange n).imp fun {a b} h => ?_)
    have e1 : (FloatOps.cmpfTotal (F := Ideal) (φ := .f32) .gt (L b) (L a) == 1#1) = decide (L a < L b) := by
      show (BitVec.ofBool (decide (L a < L b)) == 1#1) = _
      cases decide (L a < L b) <;> rfl
    rw [e1]
    refine decide_eq_decide.mpr ⟨.inl, fun k => k.elim id fun k => absurd k.2 (not_lt.mpr h.le)⟩
  have g : ∀ (k : Fin n) (l l' : List (Fin n)) (h : n = l.length) (h' : n = l'.length), l = l' → l.get (Fin.cast h k) = l'.get (Fin.cast h' k) := by
    rintro k l _ h h' rfl
    rfl
  exact funext fun k => g k _ _ (length_sortPositions _ _).symm (length_sortPositions _ _).symm e

theorem order_before {i j : Fin n} (h : i < j) : Before L (order L i) (order L j) := by
  rw [order_eq]
  refine before_total L (fun e => h.ne (sortedFrom_injective _ e)) ?_
  have := sortedFrom_noInversion (fun a b => decide (Before L a b)) (fun a b => decide (Before L a b))
    (fun a b h => by simpa using before_asymm L (by simpa using h)) (fun a b h => h)
    (fun a b c h k => by simpa using before_trans L (by simpa using h) (by simpa using k)) i j h
  simpa using this

/-- Every position comes at some place. -/
theorem order_surj (p : Fin n) : ∃ j, order L j = p :=
  (Finite.injective_iff_surjective.mp (sortedFrom_injective _) : Function.Surjective (order L)) p

theorem order_inj {i j : Fin n} (h : order L i = order L j) : i = j := sortedFrom_injective _ h

open Classical in
/-- The row without its `k` greatest. -/
def masked (k : ℕ) (e : Fin n) : EReal := if ∃ i : Fin n, i.val < k ∧ order L i = e then ⊥ else L e

theorem masked_zero (e : Fin n) : masked L 0 e = L e := if_neg (by rintro ⟨i, h, _⟩; omega)

theorem masked_succ (k : Fin n) (e : Fin n) : masked L (k.val + 1) e = if e = order L k then ⊥ else masked L k.val e := by
  unfold masked
  by_cases h : e = order L k
  · rw [if_pos h, if_pos ⟨k, by omega, h.symm⟩]
  · rw [if_neg h]
    refine if_congr ⟨?_, fun ⟨i, hi, he⟩ => ⟨i, by omega, he⟩⟩ rfl rfl
    rintro ⟨i, hi, he⟩
    refine ⟨i, lt_of_le_of_ne (by omega) fun e1 => h ?_, he⟩
    rw [← he, Fin.ext e1]

theorem masked_at (k : Fin n) : masked L k.val (order L k) = L (order L k) :=
  if_neg (by rintro ⟨i, h, he⟩; have := order_inj L he; omega)

/-- Of what is left, the next in order is the first of the greatest. -/
theorem masked_first (hL : ∀ e, L e ≠ ⊥) (k q : Fin n) (hq : q ≠ order L k) : Before (masked L k.val) (order L k) q := by
  obtain ⟨j, rfl⟩ := order_surj L q
  unfold Before
  rw [masked_at]
  by_cases h : j.val < k.val
  · left
    rw [show masked L k.val (order L j) = ⊥ from if_pos ⟨j, h, rfl⟩]
    exact bot_lt_iff_ne_bot.mpr (hL _)
  · rw [show masked L k.val (order L j) = L (order L j) from if_neg (by rintro ⟨i, hi, he⟩; have := order_inj L he; omega)]
    refine order_before L (lt_of_le_of_ne (not_lt.mp h) fun e => hq ?_)
    rw [e]

/-- The greatest of the entries is the first's. -/
theorem fold_max_first (M : Fin n → EReal) (p : Fin n) (h : ∀ q, q ≠ p → Before M p q) : Finset.univ.fold max ⊥ M = M p := by
  refine le_antisymm ?_ ?_
  · refine (Finset.fold_max_le _).mpr ⟨bot_le, fun q _ => ?_⟩
    by_cases e : q = p
    · rw [e]
    · rcases h q e with h | ⟨h, _⟩
      · exact h.le
      · exact h.ge
  · exact (Finset.le_fold_max _).mpr (.inr ⟨p, Finset.mem_univ _, le_rfl⟩)

theorem minsi_left {a b : BitVec 32} (h : a.toInt < b.toInt) : IntOp.minsi a b = a := if_pos (decide_eq_true h)
theorem minsi_right {a b : BitVec 32} (h : b.toInt < a.toInt) : IntOp.minsi a b = b :=
  if_neg (by simp only [BitVec.slt, decide_eq_true_eq, not_lt]; exact h.le)
theorem minsi_gt {a b : BitVec 32} {c : ℤ} (ha : c < a.toInt) (hb : c < b.toInt) : c < (IntOp.minsi a b).toInt := by
  unfold IntOp.minsi
  split_ifs
  · exact ha
  · exact hb

/-- The signed least of the positions holding the greatest is the first's. -/
theorem fold_min_first (M : Fin 32 → EReal) (p : Fin 32) (h : ∀ q, q ≠ p → Before M p q) :
    Finset.univ.fold IntOp.minsi 2147483647#32 (fun e : Fin 32 => if M e = M p then BitVec.ofNat 32 e.val else 32#32) = BitVec.ofNat 32 p.val := by
  have hp : (BitVec.ofNat 32 p.val).toInt = p.val := by
    rw [BitVec.toInt_eq_toNat_cond, BitVec.toNat_ofNat, Nat.mod_eq_of_lt (by omega), if_pos (by omega)]
  have later : ∀ q, q ≠ p → (p.val : ℤ) < (if M q = M p then BitVec.ofNat 32 q.val else 32#32).toInt := by
    intro q hq
    split_ifs with e
    · rcases h q hq with h | ⟨_, h⟩
      · exact absurd h (by rw [e]; exact lt_irrefl _)
      · rw [BitVec.toInt_eq_toNat_cond, BitVec.toNat_ofNat, Nat.mod_eq_of_lt (by omega), if_pos (by omega)]
        exact_mod_cast h
    · rw [show (32#32).toInt = 32 from by decide]
      omega
  have key : ∀ s : Finset (Fin 32),
      (p ∈ s → s.fold IntOp.minsi 2147483647#32 (fun e : Fin 32 => if M e = M p then BitVec.ofNat 32 e.val else 32#32) = BitVec.ofNat 32 p.val)
      ∧ (p ∉ s → (p.val : ℤ) < (s.fold IntOp.minsi 2147483647#32 (fun e : Fin 32 => if M e = M p then BitVec.ofNat 32 e.val else 32#32)).toInt) := by
    intro s
    induction s using Finset.induction_on with
    | empty =>
      refine ⟨fun h => absurd h (Finset.notMem_empty _), fun _ => ?_⟩
      rw [Finset.fold_empty, show (2147483647#32).toInt = 2147483647 from by decide]
      omega
    | insert q s hq ih =>
      rw [Finset.fold_insert hq]
      by_cases e : q = p
      · subst e
        refine ⟨fun _ => ?_, fun h => absurd (Finset.mem_insert_self _ _) h⟩
        have h1 := ih.2 hq
        rw [if_pos rfl]
        exact minsi_left (by rw [hp]; exact h1)
      · have h1 := later q e
        refine ⟨fun hm => ?_, fun hm => minsi_gt h1 (ih.2 fun k => hm (Finset.mem_insert_of_mem k))⟩
        rw [ih.1 ((Finset.mem_insert.mp hm).resolve_left (Ne.symm e))]
        exact minsi_right (by rw [hp]; exact h1)
  exact (key _).1 (Finset.mem_univ _)

/-- The entries of the `k`-th in order are at most the first's. -/
theorem order_le (L : Fin 32 → EReal) (k : Fin 32) : L (order L k) ≤ L (order L 0) := by
  by_cases e : k = 0
  · rw [e]
  · rcases order_before L (i := 0) (j := k) (by omega) with h | ⟨h, _⟩
    · exact h.le
    · exact h.ge

/-- The `k`-th gate of a token: the softmax of its four greatest logits. -/
def gate (L : Fin 32 → EReal) (k : Fin 4) : EReal :=
  Ideal.div (Ideal.exp (L (order L ⟨k.val, by omega⟩) - L (order L 0))) (∑ j : Fin 4, Ideal.exp (L (order L ⟨j.val, by omega⟩) - L (order L 0)))

/-- The four positions and the four gates of every row, as arrays. -/
def picksArr (L : Fin 128 → Fin 32 → EReal) : IVec (⟨2, ![4, 128]⟩ : Shape) 32 :=
  fun i => BitVec.ofNat 32 (order (L (i 1)) ⟨(i 0).val, Nat.lt_trans (i 0).isLt (by decide)⟩).val
def gatesArr (L : Fin 128 → Fin 32 → EReal) : Vec Ideal (⟨2, ![4, 128]⟩ : Shape) .f32 := fun i => gate (L (i 1)) (i 0)

end Cert.Router

end
-- ==== Proof.G.Rout.lean ====
/-
  What the merge's kernel computes of the router from its blocks.
-/
module

public import proofs.«01_k».proof.Proof.G.Pay
public import proofs.«01_k».proof.Proof.G.Top
public import proofs.«01_k».proof.Proof.Num

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic Idealize.SL.Sem
open Idealize.ShloMosaic.Pointwise Cert.Front Cert.Merge Cert.Router

variable (v a p : Vec Ideal S128x2048 .f32) (x7 : Vec Ideal S2048x2048 .bf16) (x8 : Vec Ideal S1x2048 .f32) (x9 : Vec Ideal S32x2048 .bf16) (x10 : Vec Ideal S32x1 .f32)

theorem pay10_at (e : Fin 32) (r : Fin 128) : k0_pay10 (F := Ideal) v a p x7 x8 x9 x10 (ix2 e r)
    = ∑ x, x9 (ix2 e x) * k0_pay9 (F := Ideal) v a p x7 x8 (ix2 r x) + x10 (ix2 e 0) := by
  pointwise [k0_pay10]

theorem pay11_at (r : Fin 128) : k0_pay11 (F := Ideal) v a p x7 x8 x9 x10 (ix2 0 r)
    = Finset.univ.fold max ⊥ fun e => k0_pay10 (F := Ideal) v a p x7 x8 x9 x10 (ix2 e r) := by
  pointwise [k0_pay11]
  rw [bits_negInf]

theorem pay12_at (r : Fin 128) : k0_pay12 (F := Ideal) v a p x7 x8 x9 x10 (ix1 r)
    = Finset.univ.fold IntOp.minsi 2147483647#32 fun e : Fin 32 => if k0_pay10 (F := Ideal) v a p x7 x8 x9 x10 (ix2 e r) = k0_pay11 (F := Ideal) v a p x7 x8 x9 x10 (ix2 0 r) then BitVec.ofNat 32 e.val else 32#32 := by
  pointwise [k0_pay12]

/-! The rounds, from the logits `M` and the first round's positions `w`. -/

/-- The positions of the rows. -/
abbrev rows : IVec S32x128 32 := iota .tc S32x128 32 [0] iota_S32x128_d0_w32

variable (M : FVec Ideal S32x128 .f32) (w : IVec S128 32)

theorem select_eq (b c : BitVec 32) (x y : EReal) : Scalar.select (IntOp.cmpi .eq b c) x y = if b = c then x else y := by
  by_cases h : b = c
  · simp [Scalar.select, IntOp.cmpi, h]
  · have e : (b == c) = false := beq_eq_false_iff_ne.mpr h
    simp [Scalar.select, IntOp.cmpi, h, e]

theorem pay14_at (e : Fin 32) (r : Fin 128) : k0_pay14 (F := Ideal) M rows w (ix2 e r)
    = if BitVec.ofNat 32 e.val = w (ix1 r) then ⊥ else M (ix2 e r) := by
  pointwise [k0_pay14, k0_pay13]
  rw [bits_negInf, select_eq]
theorem pay15_at (r : Fin 128) : k0_pay15 (F := Ideal) M rows w (ix2 0 r) = Finset.univ.fold max ⊥ fun e => k0_pay14 (F := Ideal) M rows w (ix2 e r) := by
  pointwise [k0_pay15]
  rw [bits_negInf]
theorem pay16_at (r : Fin 128) : k0_pay16 (F := Ideal) M rows w (ix2 0 r)
    = Finset.univ.fold IntOp.minsi 2147483647#32 fun e : Fin 32 => if k0_pay14 (F := Ideal) M rows w (ix2 e r) = k0_pay15 (F := Ideal) M rows w (ix2 0 r) then BitVec.ofNat 32 e.val else 32#32 := by
  pointwise [k0_pay16]
theorem pay17_at (e : Fin 32) (r : Fin 128) : k0_pay17 (F := Ideal) M rows w (ix2 e r)
    = if BitVec.ofNat 32 e.val = k0_pay16 (F := Ideal) M rows w (ix2 0 r) then ⊥ else k0_pay14 (F := Ideal) M rows w (ix2 e r) := by
  pointwise [k0_pay17]
  rw [bits_negInf, select_eq]
theorem pay18_at (r : Fin 128) : k0_pay18 (F := Ideal) M rows w (ix2 0 r) = Finset.univ.fold max ⊥ fun e => k0_pay17 (F := Ideal) M rows w (ix2 e r) := by
  pointwise [k0_pay18]
  rw [bits_negInf]
theorem pay19_at (r : Fin 128) : k0_pay19 (F := Ideal) M rows w (ix2 0 r)
    = Finset.univ.fold IntOp.minsi 2147483647#32 fun e : Fin 32 => if k0_pay17 (F := Ideal) M rows w (ix2 e r) = k0_pay18 (F := Ideal) M rows w (ix2 0 r) then BitVec.ofNat 32 e.val else 32#32 := by
  pointwise [k0_pay19]
theorem pay20_at (e : Fin 32) (r : Fin 128) : k0_pay20 (F := Ideal) M rows w (ix2 e r)
    = if BitVec.ofNat 32 e.val = k0_pay19 (F := Ideal) M rows w (ix2 0 r) then ⊥ else k0_pay17 (F := Ideal) M rows w (ix2 e r) := by
  pointwise [k0_pay20]
  rw [bits_negInf, select_eq]
theorem pay21_at (r : Fin 128) : k0_pay21 (F := Ideal) M rows w (ix2 0 r) = Finset.univ.fold max ⊥ fun e => k0_pay20 (F := Ideal) M rows w (ix2 e r) := by
  pointwise [k0_pay21]
  rw [bits_negInf]
theorem pay22_at (r : Fin 128) : k0_pay22 (F := Ideal) M rows w (ix2 0 r)
    = Finset.univ.fold IntOp.minsi 2147483647#32 fun e : Fin 32 => if k0_pay20 (F := Ideal) M rows w (ix2 e r) = k0_pay21 (F := Ideal) M rows w (ix2 0 r) then BitVec.ofNat 32 e.val else 32#32 := by
  pointwise [k0_pay22]

/-- What is left after a round that took the `k`-th. -/
theorem left_of (L : Fin 32 → EReal) (k : Fin 32) (N N' : Fin 32 → EReal) (q : BitVec 32) (hN : ∀ e, N e = masked L k.val e)
    (hq : q = BitVec.ofNat 32 (order L k).val) (h : ∀ e : Fin 32, N' e = if BitVec.ofNat 32 e.val = q then ⊥ else N e) (e : Fin 32) :
    N' e = masked L (k.val + 1) e := by
  rw [h, hq, hN, masked_succ]
  refine if_congr ⟨fun h => Fin.ext ?_, fun h => by rw [h]⟩ rfl rfl
  have := congrArg BitVec.toNat h
  simpa only [BitVec.toNat_ofNat, Nat.mod_eq_of_lt (show e.val < 2 ^ 32 by omega), Nat.mod_eq_of_lt (show (order L k).val < 2 ^ 32 by omega)] using this

/-- A round takes the next in order. -/
theorem round_of (L : Fin 32 → EReal) (hL : ∀ e, L e ≠ ⊥) (k : Fin 32) (N : Fin 32 → EReal) (x : EReal) (q : BitVec 32) (hN : ∀ e, N e = masked L k.val e)
    (hx : x = Finset.univ.fold max ⊥ N) (hq : q = Finset.univ.fold IntOp.minsi 2147483647#32 fun e : Fin 32 => if N e = x then BitVec.ofNat 32 e.val else 32#32) :
    x = L (order L k) ∧ q = BitVec.ofNat 32 (order L k).val := by
  obtain rfl : N = masked L k.val := funext hN
  have hf := masked_first L hL k
  rw [fold_max_first _ _ hf] at hx
  subst hx
  exact ⟨masked_at L k, hq.trans (fold_min_first _ _ hf)⟩

theorem pay3_at (a b c d t : FVec Ideal S1x128 .f32) (k : Fin 4) (r : Fin 128) : k0_pay3 (F := Ideal) a b c d t (ix2 k r)
    = Ideal.div (match k with | 0 => a (ix2 0 r) | 1 => b (ix2 0 r) | 2 => c (ix2 0 r) | 3 => d (ix2 0 r)) (t (ix2 0 r)) := by
  pointwise [k0_pay3]
  match k with
  | ⟨0, _⟩ => rfl
  | ⟨1, _⟩ => rfl
  | ⟨2, _⟩ => rfl
  | ⟨3, _⟩ => rfl
theorem pay23_at (x : FVec Ideal S1x128 .f32) (r : Fin 128) : k0_pay23 (F := Ideal) x (ix2 0 r) = Ideal.exp (x (ix2 0 r) - x (ix2 0 r)) := by
  pointwise [k0_pay23]
theorem pay24_at (x : FVec Ideal S1x128 .f32) (r : Fin 128) : k0_pay24 (F := Ideal) M rows x w (ix2 0 r) = Ideal.exp (k0_pay15 (F := Ideal) M rows w (ix2 0 r) - x (ix2 0 r)) := by
  pointwise [k0_pay24]
theorem pay25_at (x : FVec Ideal S1x128 .f32) (r : Fin 128) : k0_pay25 (F := Ideal) M rows x w (ix2 0 r) = Ideal.exp (k0_pay18 (F := Ideal) M rows w (ix2 0 r) - x (ix2 0 r)) := by
  pointwise [k0_pay25]
theorem pay26_at (x : FVec Ideal S1x128 .f32) (r : Fin 128) : k0_pay26 (F := Ideal) M rows x w (ix2 0 r) = Ideal.exp (k0_pay21 (F := Ideal) M rows w (ix2 0 r) - x (ix2 0 r)) := by
  pointwise [k0_pay26]
theorem pay27_at (x : FVec Ideal S1x128 .f32) (r : Fin 128) : k0_pay27 (F := Ideal) M rows x w (ix2 0 r)
    = k0_pay23 (F := Ideal) x (ix2 0 r) + k0_pay24 (F := Ideal) M rows x w (ix2 0 r) + k0_pay25 (F := Ideal) M rows x w (ix2 0 r) + k0_pay26 (F := Ideal) M rows x w (ix2 0 r) := by
  pointwise [k0_pay27]

section

variable (r : Fin 128) (hL : ∀ e, (M (ix2 e r) : EReal) ≠ ⊥) (hw : w (ix1 r) = BitVec.ofNat 32 (order (fun e => M (ix2 e r)) 0).val)
include hL hw

theorem left1 (e : Fin 32) : k0_pay14 (F := Ideal) M rows w (ix2 e r) = masked (fun e => M (ix2 e r)) 1 e :=
  left_of (fun e => M (ix2 e r)) 0 (fun e => M (ix2 e r)) (fun e => k0_pay14 (F := Ideal) M rows w (ix2 e r)) (w (ix1 r)) (fun e => (masked_zero (fun e => M (ix2 e r)) e).symm) hw (fun e => pay14_at M w e r) e
theorem round1 : k0_pay15 (F := Ideal) M rows w (ix2 0 r) = M (ix2 (order (fun e => M (ix2 e r)) 1) r)
    ∧ k0_pay16 (F := Ideal) M rows w (ix2 0 r) = BitVec.ofNat 32 (order (fun e => M (ix2 e r)) 1).val :=
  round_of (fun e => M (ix2 e r)) hL 1 _ _ _ (left1 M w r hL hw) (pay15_at M w r) (pay16_at M w r)
theorem left2 (e : Fin 32) : k0_pay17 (F := Ideal) M rows w (ix2 e r) = masked (fun e => M (ix2 e r)) 2 e :=
  left_of (fun e => M (ix2 e r)) 1 _ (fun e => k0_pay17 (F := Ideal) M rows w (ix2 e r)) _ (left1 M w r hL hw) (round1 M w r hL hw).2 (fun e => pay17_at M w e r) e
theorem round2 : k0_pay18 (F := Ideal) M rows w (ix2 0 r) = M (ix2 (order (fun e => M (ix2 e r)) 2) r)
    ∧ k0_pay19 (F := Ideal) M rows w (ix2 0 r) = BitVec.ofNat 32 (order (fun e => M (ix2 e r)) 2).val :=
  round_of (fun e => M (ix2 e r)) hL 2 _ _ _ (left2 M w r hL hw) (pay18_at M w r) (pay19_at M w r)
theorem left3 (e : Fin 32) : k0_pay20 (F := Ideal) M rows w (ix2 e r) = masked (fun e => M (ix2 e r)) 3 e :=
  left_of (fun e => M (ix2 e r)) 2 _ (fun e => k0_pay20 (F := Ideal) M rows w (ix2 e r)) _ (left2 M w r hL hw) (round2 M w r hL hw).2 (fun e => pay20_at M w e r) e
theorem round3 : k0_pay21 (F := Ideal) M rows w (ix2 0 r) = M (ix2 (order (fun e => M (ix2 e r)) 3) r)
    ∧ k0_pay22 (F := Ideal) M rows w (ix2 0 r) = BitVec.ofNat 32 (order (fun e => M (ix2 e r)) 3).val :=
  round_of (fun e => M (ix2 e r)) hL 3 _ _ _ (left3 M w r hL hw) (pay21_at M w r) (pay22_at M w r)

/-- The picks, stacked. -/
theorem picks_at (k : Fin 4) : k0_pay2 (k0_pay13 w) (k0_pay16 (F := Ideal) M rows w) (k0_pay19 (F := Ideal) M rows w) (k0_pay22 (F := Ideal) M rows w) (ix2 k r)
    = BitVec.ofNat 32 (order (fun e => M (ix2 e r)) ⟨k.val, by omega⟩).val := by
  pointwise [k0_pay2, k0_pay13]
  match k with
  | ⟨0, _⟩ => exact hw
  | ⟨1, _⟩ => exact (round1 M w r hL hw).2
  | ⟨2, _⟩ => exact (round2 M w r hL hw).2
  | ⟨3, _⟩ => exact (round3 M w r hL hw).2

variable (x : FVec Ideal S1x128 .f32) (hx : x (ix2 0 r) = M (ix2 (order (fun e => M (ix2 e r)) 0) r))
include hx

/-- The gates, stacked. -/
theorem gates_at (k : Fin 4) : k0_pay3 (F := Ideal) (k0_pay23 x) (k0_pay24 M rows x w) (k0_pay25 M rows x w) (k0_pay26 M rows x w) (k0_pay27 M rows x w) (ix2 k r)
    = gate (fun e => M (ix2 e r)) k := by
  rw [pay3_at, pay27_at, pay23_at, pay24_at, pay25_at, pay26_at, hx, (round1 M w r hL hw).1, (round2 M w r hL hw).1, (round3 M w r hL hw).1]
  unfold gate
  rw [Fin.sum_univ_four]
  match k with
  | ⟨0, _⟩ => rfl
  | ⟨1, _⟩ => rfl
  | ⟨2, _⟩ => rfl
  | ⟨3, _⟩ => rfl

end

/-- The first round. -/
theorem round0 (r : Fin 128) (hL : ∀ e, (k0_pay10 (F := Ideal) v a p x7 x8 x9 x10 (ix2 e r) : EReal) ≠ ⊥) :
    k0_pay11 (F := Ideal) v a p x7 x8 x9 x10 (ix2 0 r) = k0_pay10 (F := Ideal) v a p x7 x8 x9 x10 (ix2 (order (fun e => k0_pay10 (F := Ideal) v a p x7 x8 x9 x10 (ix2 e r)) 0) r)
    ∧ k0_pay12 (F := Ideal) v a p x7 x8 x9 x10 (ix1 r) = BitVec.ofNat 32 (order (fun e => k0_pay10 (F := Ideal) v a p x7 x8 x9 x10 (ix2 e r)) 0).val :=
  round_of (fun e => k0_pay10 (F := Ideal) v a p x7 x8 x9 x10 (ix2 e r)) hL 0 (fun e => k0_pay10 (F := Ideal) v a p x7 x8 x9 x10 (ix2 e r)) _ _ (fun e => (masked_zero (fun e => k0_pay10 (F := Ideal) v a p x7 x8 x9 x10 (ix2 e r)) e).symm) (pay11_at v a p x7 x8 x9 x10 r) (pay12_at v a p x7 x8 x9 x10 r)

/-- The logits, from the blocks. -/
theorem logits_at (x0 : Vec Ideal S128x2048 .f32) (x1 x2 : Vec Ideal S128x1024 .bf16) (x3 : Vec Ideal S1x2048 .f32) (wg wh : Vec Ideal S2048x2048 .bf16)
    (x5 x6 : Vec Ideal S1024x2048 .bf16) (x7 : Vec Ideal S2048x2048 .bf16) (x8 : Vec Ideal S1x2048 .f32) (x9 : Vec Ideal S32x2048 .bf16) (x10 : Vec Ideal S32x1 .f32)
    (x4 : Vec Ideal S2048x4096 .bf16) (hg : ∀ x d : Fin 2048, (wg (ix2 x d) : EReal) = x4 (ix2 x ⟨d.val, by omega⟩))
    (hh : ∀ x d : Fin 2048, (wh (ix2 x d) : EReal) = x4 (ix2 x ⟨2048 + d.val, by omega⟩)) (e : Fin 32) (r : Fin 128) :
    k0_pay10 (F := Ideal) (k0_pay4 x0) (k0_pay6 x0 x3 wg x1 x5) (k0_pay7 x0 x3 wh x2 x6) x7 x8 x9 x10 (ix2 e r)
      = logit (normed (added (fun x => x0 (ix2 r x)) (fun x => x3 (ix2 0 x)) (fun k => x1 (ix2 r k)) (fun k => x2 (ix2 r k)) (fun x f => x4 (ix2 x f))
        (fun k d => x5 (ix2 k d)) (fun k d => x6 (ix2 k d)) (fun d f => x7 (ix2 d f))) (fun x => x8 (ix2 0 x))) (fun x e => x9 (ix2 e x)) (fun e => x10 (ix2 e 0)) e := by
  rw [pay10_at]
  unfold logit
  refine congrArg (· + _) (Finset.sum_congr rfl fun x _ => ?_)
  rw [pay9_at, mul_comm]
  exact congrArg (fun Y => normed Y _ x * _) (funext fun y => added_at x0 x1 x2 x3 wg wh x5 x6 x7 x4 hg hh r y)

end Cert.Kernel3Ideal.Merge

end
-- ==== Proof.G.Arr4.lean ====
/-
  The router's two results after the merge call are the functions of Top.
-/
module

public import proofs.«01_k».proof.Proof.G.Arr
public import proofs.«01_k».proof.Proof.G.Rout

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic Idealize.SL.Sem
open Idealize.ShloMosaic.Pointwise Cert.Front Cert.Merge Cert.Router

variable (x0 : Vec Ideal S128x2048 .f32) (x1 x2 : Vec Ideal S128x1024 .bf16) (x3 : Vec Ideal S1x2048 .f32)
  (x4 : Vec Ideal S2048x4096 .bf16) (x5 x6 : Vec Ideal S1024x2048 .bf16) (x7 : Vec Ideal S2048x2048 .bf16) (x8 : Vec Ideal S1x2048 .f32)
  (x9 : Vec Ideal S32x2048 .bf16) (x10 : Vec Ideal S32x1 .f32)

/-- The logits of a row, from the blocks read. -/
abbrev row (r : Fin 128) : Fin 32 → EReal :=
  logit (normed (added (fun x => x0 (ix2 r x)) (fun x => x3 (ix2 0 x)) (fun k => x1 (ix2 r k)) (fun k => x2 (ix2 r k)) (fun x f => x4 (ix2 x f))
        (fun k d => x5 (ix2 k d)) (fun k d => x6 (ix2 k d)) (fun d f => x7 (ix2 d f))) (fun x => x8 (ix2 0 x))) (fun x e => x9 (ix2 e x)) (fun e => x10 (ix2 e 0))

/-- The positions' block, from the blocks read. -/
theorem out13_at (c : Dev nD) (i : grid0.Coords) (arg1 : Memref sig .tc .vmem S128x2048 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S1x2048 .f32) (harg4 : arg4.IsWhole) (arg5 : Memref sig .tc .vmem S2048x4096 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S32x2048 .bf16) (harg10 : arg10.IsWhole) (arg11 : Memref sig .tc .vmem S32x1 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S4x128 .i32) (harg14 : arg14.IsWhole) (arg15 : Memref sig .tc .vmem S4x128 .f32) (harg15 : arg15.IsWhole) (hc0 : ¬cond0_0 i) (hc1 : cond0_1 i)
    (r : Fin 128) (hL : ∀ e, row x0 x1 x2 x3 x4 x5 x6 x7 x8 x9 x10 r e ≠ ⊥) (k : Fin 4) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 k r)
      = BitVec.ofNat 32 (order (row x0 x1 x2 x3 x4 x5 x6 x7 x8 x9 x10 r) ⟨k.val, by omega⟩).val := by
  unfold out0_A_13 kernelRun0_A
  dsimp only
  sl_unfold_words
  simp only [View.readAt_eq_ld, Memref.IsWhole.read_unread]
  have z2 : (![0, 0] : Fin 2 → ℕ) = fun _ => 0 := by decide
  simp only [View.ld_unit_zero (S := S128x2048) z2, View.ld_unit_zero (S := S1x2048) z2, View.ld_unit_zero (S := S128x1024) z2, View.ld_unit_zero (S := S1024x2048) z2, View.ld_unit_zero (S := S2048x2048) z2, View.ld_unit_zero (S := S32x2048) z2, View.ld_unit_zero (S := S32x1) z2]
  rw [View.read_writes_junk_eq_canon, View.canon_unit_zero (S := S4x128) z2]
  have h0 := fun e => logits_at x0 x1 x2 x3 _ _ x5 x6 x7 x8 x9 x10 x4 (ld_low x4 inb_S2048x4096_S2048x2048_0_0) (ld_cols x4 2048 inb_S2048x4096_S2048x2048_0_2048) e r
  have he := funext h0
  have hM := fun e => ne_of_eq_of_ne (h0 e) (hL e)
  exact (picks_at _ _ r hM (round0 _ _ _ _ _ _ _ r hM).2 k).trans (congrArg (fun L : Fin 32 → EReal => BitVec.ofNat 32 (order L ⟨k.val, by omega⟩).val) he)

/-- The gates' block, from the blocks read. -/
theorem out14_at (c : Dev nD) (i : grid0.Coords) (arg1 : Memref sig .tc .vmem S128x2048 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S1x2048 .f32) (harg4 : arg4.IsWhole) (arg5 : Memref sig .tc .vmem S2048x4096 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S32x2048 .bf16) (harg10 : arg10.IsWhole) (arg11 : Memref sig .tc .vmem S32x1 .f32) (harg11 : arg11.IsWhole) (arg12 : Memref sig .tc .vmem S128x2048 .f32) (harg12 : arg12.IsWhole) (arg13 : Memref sig .tc .vmem S128x2048 .f32) (harg13 : arg13.IsWhole) (arg14 : Memref sig .tc .vmem S4x128 .i32) (harg14 : arg14.IsWhole) (arg15 : Memref sig .tc .vmem S4x128 .f32) (harg15 : arg15.IsWhole) (hc0 : ¬cond0_0 i) (hc1 : cond0_1 i)
    (r : Fin 128) (hL : ∀ e, row x0 x1 x2 x3 x4 x5 x6 x7 x8 x9 x10 r e ≠ ⊥) (k : Fin 4) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 k r)
      = gate (row x0 x1 x2 x3 x4 x5 x6 x7 x8 x9 x10 r) k := by
  unfold out0_A_14 kernelRun0_A
  dsimp only
  sl_unfold_words
  simp only [View.readAt_eq_ld, Memref.IsWhole.read_unread]
  have z2 : (![0, 0] : Fin 2 → ℕ) = fun _ => 0 := by decide
  simp only [View.ld_unit_zero (S := S128x2048) z2, View.ld_unit_zero (S := S1x2048) z2, View.ld_unit_zero (S := S128x1024) z2, View.ld_unit_zero (S := S1024x2048) z2, View.ld_unit_zero (S := S2048x2048) z2, View.ld_unit_zero (S := S32x2048) z2, View.ld_unit_zero (S := S32x1) z2]
  rw [View.read_writes_junk_eq_canon, View.canon_unit_zero (S := S4x128) z2]
  have h0 := fun e => logits_at x0 x1 x2 x3 _ _ x5 x6 x7 x8 x9 x10 x4 (ld_low x4 inb_S2048x4096_S2048x2048_0_0) (ld_cols x4 2048 inb_S2048x4096_S2048x2048_0_2048) e r
  have he := funext h0
  have hM := fun e => ne_of_eq_of_ne (h0 e) (hL e)
  exact (gates_at _ _ r hM (round0 _ _ _ _ _ _ _ r hM).2 _ (round0 _ _ _ _ _ _ _ r hM).1 k).trans (congrArg (fun L : Fin 32 → EReal => gate L k) he)

variable (m : (ℓ : Loc nD τ sig) → Buf (Elt Ideal) ℓ) (c : Dev nD)

/-- The router's logits, from the arguments. -/
abbrev rows_of : Fin 128 → Fin 32 → EReal := logits (m ((c.tc : Thread nD τ).loc main_arg0) : Arr Sx) (m ((c.tc : Thread nD τ).loc main_arg1) : Vec Ideal Sa .bf16) (m ((c.tc : Thread nD τ).loc main_arg2) : Vec Ideal Sa .bf16) (m ((c.tc : Thread nD τ).loc main_arg3) : Arr Sg) (m ((c.tc : Thread nD τ).loc main_arg4) : Arr Sw) (m ((c.tc : Thread nD τ).loc main_arg5) : Arr Sm) (m ((c.tc : Thread nD τ).loc main_arg6) : Arr Sm) (m ((c.tc : Thread nD τ).loc main_arg7) : Arr So) (m ((c.tc : Thread nD τ).loc main_arg8) : Arr Sg) (m ((c.tc : Thread nD τ).loc main_arg9) : Vec Ideal S1x2048x32 .f32) (m ((c.tc : Thread nD τ).loc main_arg10) : Vec Ideal S1x32 .f32)

/-- The blocks' rows are the arguments'. -/
theorem row_eq (t : Fin cfg0.N) (r : Fin 128) : row (iblk m c 0 t) (iblk m c 1 t) (iblk m c 2 t) (iblk m c 3 t) (iblk m c 4 t) (iblk m c 5 t) (iblk m c 6 t) (iblk m c 7 t) (iblk m c 8 t) (iblk m c 9 t) (iblk m c 10 t) r = rows_of m c r := by
  unfold row
  simp only [fun a b => (blk0 m c t a b).trans (V_v18 m c a b),
    fun a b => (blk1 m c t a b).trans (V_v19 m c a b),
    fun a b => (blk2 m c t a b).trans (V_v20 m c a b),
    fun x => (blk3 m c t x).trans (V_v4 m c x),
    fun a b => (blk4 m c t a b).trans (V_v2 m c a b),
    fun a b => (blk5 m c t a b).trans (V_v8 m c a b),
    fun a b => (blk6 m c t a b).trans (V_v10 m c a b),
    fun a b => (blk7 m c t a b).trans (V_v12 m c a b),
    fun x => (blk8 m c t x).trans (V_v6 m c x),
    fun a b => (blk9 m c t a b).trans (V_v15 m c a b),
    fun a => (blk10 m c t a).trans (V_v17 m c a)]
  rfl

theorem emb13 (t : Fin cfg0.N) (k : Fin 4) (r : Fin 128) :
    ((cfg0.win 13).blk t).view.emb (ix2 k r : S4x128.Idx) = (ix2 k r : S4x128.Idx) := by
  blk_ext [idx t]
theorem emb14 (t : Fin cfg0.N) (k : Fin 4) (r : Fin 128) :
    ((cfg0.win 14).blk t).view.emb (ix2 k r : S4x128.Idx) = (ix2 k r : S4x128.Idx) := by
  blk_ext [idx t]

variable (hL : ∀ r e, rows_of m c r e ≠ ⊥)
include hL

/-- What the grid point leaves of the positions and of the gates. -/
theorem out13 (t : Fin cfg0.N) (k : Fin 4) (r : Fin 128) : (outsAt0 m c t).2.2.1 (ix2 k r) = BitVec.ofNat 32 (order (rows_of m c r) ⟨k.val, by omega⟩).val := by
  dsimp only [outsAt0]
  rw [out13_at _ _ _ _ _ _ _ _ _ _ _ _ _ _ _ _ _ _ _ _ _ _ _ _ _ _ _ _ _ _ _ _ _ _ _ _ _ _ _ _ _ _ _ _ _ r (fun e => by rw [row_eq m c t r]; exact hL r e), row_eq m c t r]
theorem out14 (t : Fin cfg0.N) (k : Fin 4) (r : Fin 128) : ((outsAt0 m c t).2.2.2 (ix2 k r) : EReal) = gate (rows_of m c r) k := by
  dsimp only [outsAt0]
  rw [out14_at _ _ _ _ _ _ _ _ _ _ _ _ _ _ _ _ _ _ _ _ _ _ _ _ _ _ _ _ _ _ _ _ _ _ _ _ _ _ _ _ _ _ _ _ _ r (fun e => by rw [row_eq m c t r]; exact hL r e), row_eq m c t r]

/-- The picked positions after the call. -/
theorem arr13 : (dats m 0 c).arrAt 13 cfg0.N = picksArr (rows_of m c) := by
  refine (dats m 0 c).arrAt_eq_of_covers 13 _ (by decide +kernel) fun t hf y => ?_
  rw [after0_13]
  refine Eq.trans (congrArg (outsAt0 m c t).2.2.1 (eq_ix2 (n0 := 4) (n1 := 128) y)) ?_
  refine (out13 m c hL t (y 0) (y 1)).trans (congrArg (picksArr (rows_of m c)) ?_)
  exact (eq_ix2 (n0 := 4) (n1 := 128) y).trans <| (emb13 t (y 0) (y 1)).symm.trans (congrArg ((cfg0.win 13).blk t).view.emb (eq_ix2 (n0 := 4) (n1 := 128) y).symm)

/-- The gates after the call. -/
theorem arr14 : (dats m 0 c).arrAt 14 cfg0.N = gatesArr (rows_of m c) := by
  refine (dats m 0 c).arrAt_eq_of_covers 14 _ (by decide +kernel) fun t hf y => ?_
  rw [after0_14]
  refine Eq.trans (congrArg (outsAt0 m c t).2.2.2 (eq_ix2 (n0 := 4) (n1 := 128) y)) ?_
  refine (out14 m c hL t (y 0) (y 1)).trans (congrArg (gatesArr (rows_of m c)) ?_)
  exact (eq_ix2 (n0 := 4) (n1 := 128) y).trans <| (emb14 t (y 0) (y 1)).symm.trans (congrArg ((cfg0.win 14).blk t).view.emb (eq_ix2 (n0 := 4) (n1 := 128) y).symm)

end Cert.Kernel3Ideal.Merge

end
-- ==== Proof.G.Ref4.lean ====
/-
  The router's reference, entry by entry.
-/
module

public import proofs.«01_k».proof.Proof.Gen.Reference4Ideal.Read
public import proofs.«01_k».proof.Proof.G.Ref
public import proofs.«01_k».proof.Proof.G.Top
public import proofs.«01_k».proof.Proof.Num

@[expose] public section

set_option maxRecDepth 16384

noncomputable section

namespace Cert.Reference4Ideal.Router

open Cert.Reference4Ideal Cert.Reference4Ideal.Read Idealize.ShloMosaic Idealize.ShloMosaic.TcCoe Idealize.ShloMosaic.Tactic
open Idealize.ShloMosaic.Pointwise Cert.Front Cert.Merge Cert.Router

variable (x0 : Vec Ideal S8x16x2048 .f32) (x1 x2 : Vec Ideal S8x16x1024 .bf16) (x3 : Vec Ideal S1x2048 .f32)
  (x4 : Vec Ideal S1x2048x6400 .f32) (x5 x6 : Vec Ideal S1x1024x2048 .f32) (x7 : Vec Ideal S1x2048x2048 .f32) (x8 : Vec Ideal S1x2048 .f32)
  (x9 : Vec Ideal S1x2048x32 .f32) (x10 : Vec Ideal S1x32 .f32)

/-- The norm is the merge reference's. -/
theorem v60_same : val_main_v60 (F := Ideal) x0 x1 x2 x3 x4 x5 x6 x7 x8 = Cert.Reference3Ideal.Read.val_main_v60 (F := Ideal) x0 x1 x2 x3 x4 x5 x6 x7 x8 := rfl

/-- The logits. -/
theorem v67_at (r : Fin 128) (e : Fin 32) : val_main_v67 (F := Ideal) x0 x1 x2 x3 x4 x5 x6 x7 x8 x9 x10 (ix2 r e)
    = logits x0 x1 x2 x3 x4 x5 x6 x7 x8 x9 x10 r e := by
  pointwise [val_main_v67, val_main_v66, val_main_v65, val_main_v64, val_main_v63, val_main_v62]
  rw [v60_same]
  simp only [Cert.Reference3Ideal.Merge.v60_at]
  rfl

/-- Where the sort takes an entry from. -/
theorem sort2_at {s : Shape} {α β : Type} (d : ℕ) (hd : d < s.rank) (cmp : α × β → α × β → BitVec 1) (x : s.Idx → α) (y : s.Idx → β) (j : s.Idx)
    (q : Fin (s.size ⟨d, hd⟩)) (hq : sortedFrom (fun k k' => cmp (x (j.along ⟨d, hd⟩ k), y (j.along ⟨d, hd⟩ k)) (x (j.along ⟨d, hd⟩ k'), y (j.along ⟨d, hd⟩ k')) == 1#1) (j ⟨d, hd⟩) = q) :
    (Host.sort2 s d cmp x y).1 j = x (j.along ⟨d, hd⟩ q) ∧ (Host.sort2 s d cmp x y).2 j = y (j.along ⟨d, hd⟩ q) := by
  subst hq
  unfold Host.sort2
  rw [dif_pos hd]
  exact ⟨rfl, rfl⟩

attribute [local irreducible] sortedFrom Host.sort2

/-- A row's four greatest, and their positions. -/
theorem topk_at (L : Fin 128 → Fin 32 → EReal) (X : FVec Ideal S128x32 .f32) (hX : ∀ r e, X (ix2 r e) = L r e)
    (h : S128x32.Slices (fun _ => 0) S128x4) (r : Fin 128) (k : Fin 4) :
    (Host.topK S128x4 1 (FloatOps.cmpfTotal (F := Ideal) (φ := .f32) .gt) X h).1 (ix2 r k) = L r (order (L r) ⟨k.val, by omega⟩)
    ∧ (Host.topK S128x4 1 (FloatOps.cmpfTotal (F := Ideal) (φ := .f32) .gt) X h).2 (ix2 r k) = BitVec.ofNat 32 (order (L r) ⟨k.val, by omega⟩).val := by
  have hj : (fun a => ⟨0 + ((ix2 r k : S128x4.Idx) (a.cast h.1.symm)).val, Nat.lt_of_lt_of_le (Nat.add_lt_add_left ((ix2 r k : S128x4.Idx) _).isLt _) (h.2 a)⟩ : S128x32.Idx)
      = ix2 r ⟨k.val, by omega⟩ := funext fun a => Fin.ext (by
    match a with
    | ⟨0, _⟩ => exact Nat.zero_add _
    | ⟨1, _⟩ => exact Nat.zero_add _)
  have al : ∀ (e' e : Fin 32), Shape.Idx.along (ix2 r e' : S128x32.Idx) 1 e = ix2 r e := fun e' e => funext fun a => by
    match a with
    | ⟨0, _⟩ => rfl
    | ⟨1, _⟩ => rfl
  have ho : ∀ j : Fin 32, sortedFrom (fun a b => FloatOps.cmpfTotal (F := Ideal) (φ := .f32) .gt (X (Shape.Idx.along (ix2 r j : S128x32.Idx) 1 a)) (X (Shape.Idx.along (ix2 r j : S128x32.Idx) 1 b)) == 1#1) j = order (L r) j := by
    intro j
    have e : ∀ a : Fin 32, X (Shape.Idx.along (ix2 r j : S128x32.Idx) 1 a) = L r a := fun a => (congrArg X (al j a)).trans (hX r a)
    exact congrArg (fun R : Fin 32 → Fin 32 → Bool => sortedFrom R j) (funext fun a => funext fun b =>
      congrArg₂ (fun x y => FloatOps.cmpfTotal (F := Ideal) (φ := .f32) .gt x y == 1#1) (e a) (e b))
  have hd : 1 < S128x32.rank := by decide
  have hk : k.val < 32 := by omega
  have hs := sort2_at (s := S128x32) 1 hd (fun l r => FloatOps.cmpfTotal (F := Ideal) (φ := .f32) .gt l.1 r.1) X
    (fun i => if hd : 1 < S128x32.rank then iotaInDim S128x32 32 ⟨1, hd⟩ i else 0#32) (ix2 r ⟨k.val, hk⟩) (order (L r) ⟨k.val, hk⟩) (ho ⟨k.val, hk⟩)
  unfold Host.topK extractStridedSlice
  dsimp only
  rw [hj, hs.1, hs.2]
  refine ⟨(congrArg X (al _ _)).trans (hX _ _), ?_⟩
  rw [dif_pos (by decide)]
  refine (congrArg (iotaInDim S128x32 32 1) (al ⟨k.val, hk⟩ (order (L r) ⟨k.val, hk⟩))).trans ?_
  rfl

theorem values_at (r : Fin 128) (k : Fin 4) : val_main_values (F := Ideal) x0 x1 x2 x3 x4 x5 x6 x7 x8 x9 x10 (ix2 r k)
    = logits x0 x1 x2 x3 x4 x5 x6 x7 x8 x9 x10 r (order (logits x0 x1 x2 x3 x4 x5 x6 x7 x8 x9 x10 r) ⟨k.val, by omega⟩) :=
  (topk_at (logits x0 x1 x2 x3 x4 x5 x6 x7 x8 x9 x10) _ (v67_at x0 x1 x2 x3 x4 x5 x6 x7 x8 x9 x10) _ r k).1
theorem indices_at (r : Fin 128) (k : Fin 4) : val_main_indices (F := Ideal) x0 x1 x2 x3 x4 x5 x6 x7 x8 x9 x10 (ix2 r k)
    = BitVec.ofNat 32 (order (logits x0 x1 x2 x3 x4 x5 x6 x7 x8 x9 x10 r) ⟨k.val, by omega⟩).val :=
  (topk_at (logits x0 x1 x2 x3 x4 x5 x6 x7 x8 x9 x10) _ (v67_at x0 x1 x2 x3 x4 x5 x6 x7 x8 x9 x10) _ r k).2

/-- The picked positions. -/
theorem v68_at (k : Fin 4) (r : Fin 128) : val_main_v68 (F := Ideal) x0 x1 x2 x3 x4 x5 x6 x7 x8 x9 x10 (ix2 k r)
    = BitVec.ofNat 32 (order (logits x0 x1 x2 x3 x4 x5 x6 x7 x8 x9 x10 r) ⟨k.val, by omega⟩).val := by
  pointwise [val_main_v68]
  exact indices_at x0 x1 x2 x3 x4 x5 x6 x7 x8 x9 x10 r k

/-- The greatest of a row's four is the first. -/
theorem v69_at (r : Fin 128) : val_main_v69 (F := Ideal) x0 x1 x2 x3 x4 x5 x6 x7 x8 x9 x10 (ix1 r)
    = logits x0 x1 x2 x3 x4 x5 x6 x7 x8 x9 x10 r (order (logits x0 x1 x2 x3 x4 x5 x6 x7 x8 x9 x10 r) 0) := by
  pointwise [val_main_v69, val_main_cst_9]
  rw [bits_negInf]
  simp only [values_at]
  refine le_antisymm ((Finset.fold_max_le _).mpr ⟨bot_le, fun k _ => order_le _ _⟩) ((Finset.le_fold_max _).mpr (.inr ⟨0, Finset.mem_univ _, le_rfl⟩))

/-- The gates. -/
theorem v80_at (k : Fin 4) (r : Fin 128) : val_main_v80 (F := Ideal) x0 x1 x2 x3 x4 x5 x6 x7 x8 x9 x10 (ix2 k r)
    = gate (logits x0 x1 x2 x3 x4 x5 x6 x7 x8 x9 x10 r) k := by
  pointwise [val_main_v80, val_main_v79, val_main_v78, val_main_v77, val_main_v76, val_main_v75, val_main_v74, val_main_v73, val_main_v72, val_main_v71, val_main_v70, val_main_cst_10, val_main_cst_11]
  rw [bits_negInf, max_eq_right bot_le]
  simp only [values_at, v69_at]
  rfl

/-- The two results as arrays. -/
theorem v68_eq : val_main_v68 (F := Ideal) x0 x1 x2 x3 x4 x5 x6 x7 x8 x9 x10 = picksArr (logits x0 x1 x2 x3 x4 x5 x6 x7 x8 x9 x10) :=
  funext fun i => (congrArg _ (eq_ix2 (n0 := 4) (n1 := 128) i)).trans (v68_at x0 x1 x2 x3 x4 x5 x6 x7 x8 x9 x10 (i 0) (i 1))
theorem v80_eq : val_main_v80 (F := Ideal) x0 x1 x2 x3 x4 x5 x6 x7 x8 x9 x10 = gatesArr (logits x0 x1 x2 x3 x4 x5 x6 x7 x8 x9 x10) :=
  funext fun i => (congrArg _ (eq_ix2 (n0 := 4) (n1 := 128) i)).trans (v80_at x0 x1 x2 x3 x4 x5 x6 x7 x8 x9 x10 (i 0) (i 1))

end Cert.Reference4Ideal.Router

end
-- ==== Proof.G.Pre4.lean ====
/-
  Where the precondition `router_finite` holds, no logit is −∞.
-/
module

public import proofs.«01_k».proof.Proof.Gen.Pre_router_finite
public import proofs.«01_k».proof.Proof.Pre
public import proofs.«01_k».proof.Proof.Num
public import proofs.«01_k».proof.Proof.G.Spec

@[expose] public section

noncomputable section

namespace Cert.Router

open Idealize.ShloMosaic Idealize.ShloMosaic.Pointwise Cert.Front Cert.Merge

variable (x0 : Arr Sx) (x1 x2 : Vec Ideal Sa .bf16) (x3 : Arr Sg) (x4 : Arr Sw) (x5 x6 : Arr Sm) (x7 : Arr So) (x8 : Arr Sg)
  (x9 : Arr Cert.Pre_router_finite.S1x2048x32) (x10 : Arr Cert.Pre_router_finite.S1x32)

theorem router_nums (h : Cert.Pre_router_finite.fn (F := Ideal) x0 x1 x2 x3 x4 x5 x6 x7 x8 x9 x10 = fun _ => 1#1) :
    (∀ i, IsNum (x8 i)) ∧ (∀ i, IsNum (x9 i)) ∧ (∀ i, (x10 i : EReal) ≠ ⊥) := by
  have j : Cert.Pre_router_finite.S_.Idx := fun a => a.elim0
  have e := congrFun h j
  unfold Cert.Pre_router_finite.fn at e
  dsimp only at e
  obtain ⟨e, e10⟩ := and_one e
  obtain ⟨e8, e9⟩ := and_one e
  refine ⟨nums_of_lt x8 _ _ _ j e8 fun _ => bits_inf, nums_of_lt x9 _ _ _ j e9 fun _ => bits_inf, fun i => ?_⟩
  have e1 : BitVec.ofBool (decide (Ideal.ofBits .f32 0xFF800000#32 < (x10 i : EReal))) = 1#1 := Host.reduce_andi_all _ _ _ _ j e10 i
  rw [bits_negInf] at e1
  intro hb
  rw [hb, decide_eq_false (lt_irrefl _)] at e1
  exact absurd e1 (by decide)

theorem sq_nonneg' (y : EReal) : 0 ≤ y * y := by
  rcases le_total 0 y with h | h
  · exact mul_nonneg h h
  · rw [← neg_mul_neg]
    exact mul_nonneg (EReal.neg_nonneg.mpr h) (EReal.neg_nonneg.mpr h)

/-- Where an entry is infinite, the sum of the squares is. -/
theorem sum_sq_top (Y : Fin 2048 → EReal) (x : Fin 2048) (h : ¬ IsNum (Y x)) : ∑ x, Y x * Y x = ⊤ := by
  have hx : Y x * Y x = ⊤ := by
    generalize Y x = y at h
    induction y with
    | bot => exact EReal.bot_mul_bot
    | top => exact EReal.top_mul_top
    | coe r => exact absurd ⟨r, rfl⟩ h
  exact top_le_iff.mp (hx ▸ Finset.single_le_sum (f := fun x => Y x * Y x) (fun x _ => sq_nonneg' (Y x)) (Finset.mem_univ x))

/-- The norm's rows are numbers whatever the rows are: where an entry is infinite, the factor is zero. -/
theorem normed_num (Y G : Fin 2048 → EReal) (hG : ∀ x, IsNum (G x)) (n : Fin 2048) : IsNum (normed Y G n) := by
  obtain ⟨e, he, hee⟩ := bits_eps
  unfold normed
  refine IsNum.mul ?_ (hG n)
  by_cases hY : ∀ x, IsNum (Y x)
  · choose r hr using hY
    refine IsNum.mul ⟨r n, hr n⟩ ?_
    have : Ideal.rsqrt (Ideal.div (∑ x, Y x * Y x) (Ideal.ofBits .f32 0x45000000#32) + Ideal.ofBits .f32 0x3727C5AC#32)
        = Ideal.rsqrt (((∑ d, r d * r d) * (1 / 2048) + e : ℝ) : EReal) := by
      rw [bits_2048, hee, Ideal.div_coe (by norm_num)]
      simp only [hr, ← EReal.coe_mul, coe_sum, ← EReal.coe_add]
    rw [this]
    refine isNum_rsqrt ?_
    have : 0 ≤ ∑ d, r d * r d := Finset.sum_nonneg fun d _ => mul_self_nonneg _
    positivity
  · obtain ⟨x, hx⟩ := not_forall.mp hY
    rw [sum_sq_top Y x hx, bits_2048, hee, Ideal.div_coe (by norm_num), EReal.top_mul_coe_of_pos (by norm_num), EReal.top_add_coe]
    show IsNum (Y n * 0)
    rw [mul_zero]
    exact isNum_zero

/-- No logit is −∞. -/
theorem logit_num (h : Cert.Pre_router_finite.fn (F := Ideal) x0 x1 x2 x3 x4 x5 x6 x7 x8 x9 x10 = fun _ => 1#1) (r : Fin 128) (e : Fin 32) :
    logits x0 x1 x2 x3 x4 x5 x6 x7 x8 x9 x10 r e ≠ ⊥ := by
  obtain ⟨h8, h9, h10⟩ := router_nums x0 x1 x2 x3 x4 x5 x6 x7 x8 x9 x10 h
  have hn : IsNum (∑ x, norm x0 x1 x2 x3 x4 x5 x6 x7 x8 (smp r) (tok r) x * x9 (ix3 0 x e)) :=
    IsNum.sum fun x => (normed_num _ _ (fun _ => h8 _) x).mul (h9 _)
  obtain ⟨q, hq⟩ := hn
  unfold logits logit
  rw [hq]
  exact fun hb => (EReal.add_eq_bot_iff.mp hb).elim (EReal.coe_ne_bot q) (h10 _)

end Cert.Router

end
-- ==== Proof.G.Same.lean ====
/-
  The program with the router's results is the program with the residual sum and its norm: only the results named differ.
-/
module

public import proofs.«01_k».proof.Proof.Gen.Kernel4Ideal
public import proofs.«01_k».proof.Proof.Gen.Kernel3Ideal.Value
public import Idealize.ShloMosaic.Lib.Pointwise
public import Idealize.ShloMosaic.Lib.Tactic
public import Idealize.ShloMosaic.Adequacy

@[expose] public section

set_option maxRecDepth 16384

noncomputable section

namespace Cert.Router

open Idealize.ShloMosaic Idealize.ShloMosaic.Tactic Idealize.SL.Sem

theorem main_same (c : Dev Cert.Kernel4Ideal.nD) : Cert.Kernel4Ideal.main (F := Ideal) c = Cert.Kernel3Ideal.main (F := Ideal) c := by
  sl_kernel_rfl
theorem defs_same : Cert.Kernel4Ideal.defs (F := Ideal) = Cert.Kernel3Ideal.defs (F := Ideal) := by
  sl_kernel_rfl

end Cert.Router

end
-- ==== Proof.G.Claims4.lean ====
/-
  The claims about the merge call's other two results, the router's picks and gates: each program's frame, and the equality of the
  kernel's and the reference's two results over the extended reals.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel3Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_router_finite
public import proofs.«01_k».proof.Proof.G.Arr4
public import proofs.«01_k».proof.Proof.G.Ref4
public import proofs.«01_k».proof.Proof.G.Pre4
public import proofs.«01_k».proof.Proof.G.Same
public import Idealize.ShloMosaic.Adequacy

@[expose] public section

set_option maxRecDepth 16384

noncomputable section

namespace Cert.Router

open Idealize.ShloMosaic Idealize.SL.Sem

theorem frame_kernel : Cert.quiescent_Kernel4 (hKernel4 := Cert.Kernel4.Gen.facts) := fun m g _ => Cert.Kernel4.Gen.frame m g

theorem frame_ideal : Cert.quiescent_Kernel4Ideal (hKernel4Ideal := Cert.Kernel4Ideal.Gen.facts) :=
  fun m g _ => Cert.Kernel4Ideal.Gen.frame m g

/-- The reference declares no semaphore. -/
theorem frame_ref : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

/-- The runs of the program are those of the merge's program. -/
theorem run_same : θ_run (Cert.Kernel4Ideal.defs (F := Ideal)) (onTc (τ := Cert.Kernel4Ideal.τ) (Cert.Kernel4Ideal.main (F := Ideal)))
    = θ_run (Cert.Kernel3Ideal.defs (F := Ideal)) (onTc (τ := Cert.Kernel3Ideal.τ) (Cert.Kernel3Ideal.main (F := Ideal))) :=
  congrArg₂ (fun d p => θ_run d (onTc (τ := Cert.Kernel3Ideal.τ) p)) defs_same (funext main_same)

set_option maxHeartbeats 4000000 in
/-- Kernel and reference end with the same two arrays. -/
theorem algebraic : Cert.algebraic_Kernel4Ideal_Reference4Ideal_pre_router_finite (hKernel4Ideal := Cert.Kernel4Ideal.Gen.facts)
    (hReference4Ideal := Cert.Reference4Ideal.Gen.facts) (hPre_router_finite := Cert.Pre_router_finite.Gen.facts) := by
  intro m g m' g' hp ha
  have hL : ∀ c r e, Cert.Kernel3Ideal.Merge.rows_of m c r e ≠ ⊥ := fun c => logit_num _ _ _ _ _ _ _ _ _ _ _ (hp c)
  refine ⟨fun c => (Cert.Kernel3Ideal.Gen.dats m 0 c).arrAt 13 Cert.Kernel3Ideal.cfg0.N,
    fun c => (Cert.Kernel3Ideal.Gen.dats m 0 c).arrAt 14 Cert.Kernel3Ideal.cfg0.N, ?_,
    (θ_run Cert.Reference4Ideal.defs _ _).mono (fun r h c => ?_) (Cert.Reference4Ideal.Value.run (F := Ideal) m' g')⟩
  · rw [run_same]
    exact (θ_run Cert.Kernel3Ideal.defs _ _).mono (fun r h c => (h c).2.2) (Cert.Kernel3Ideal.Value.run_blocks (F := Ideal) m g)
  obtain ⟨r0, r1, hk⟩ := h c
  obtain ⟨a0, a1, a2, a3, a4, a5, a6, a7, a8, a9, a10⟩ := ha c
  refine ⟨r0.trans ((Cert.Reference4Ideal.Read.val_main_v68_eq m' c).trans (Eq.trans ?_ (Cert.Kernel3Ideal.Merge.arr13 m c (hL c)).symm)),
    r1.trans ((Cert.Reference4Ideal.Read.val_main_v80_eq m' c).trans (Eq.trans ?_ (Cert.Kernel3Ideal.Merge.arr14 m c (hL c)).symm)), hk⟩
  · rw [a0, a1, a2, a3, a4, a5, a6, a7, a8, a9, a10]
    exact Cert.Reference4Ideal.Router.v68_eq _ _ _ _ _ _ _ _ _ _ _
  · rw [a0, a1, a2, a3, a4, a5, a6, a7, a8, a9, a10]
    exact Cert.Reference4Ideal.Router.v80_eq _ _ _ _ _ _ _ _ _ _ _

end Cert.Router

end
-- ==== Proof.lean ====
/-
  The certificate of the front call, of the expert feed-forward call and of the merge call with its router: each program's frame, and the equality
  of the kernel's and the reference's results over the extended reals. For the front call `KI/Arr.lean` says what the kernel's
  arrays hold, `RI/Arr.lean` what the reference's hold, `Pre.lean` what the precondition gives; for the feed-forward call these
  are `M/Arr.lean`, `M/Ref.lean` and `M/Pre.lean`, put together in `M/Claims.lean`; for the merge, which needs no precondition,
  `G/Arr.lean` and `G/Ref.lean`, put together in `G/Claims.lean`; for
  the router's two results `G/Arr4.lean`, `G/Ref4.lean` and `G/Pre4.lean`, put together in `G/Claims4.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_in_range
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_router_finite
public import proofs.«01_k».proof.Proof.K.Frame
public import proofs.«01_k».proof.Proof.KI.Arr
public import proofs.«01_k».proof.Proof.RI.Arr
public import proofs.«01_k».proof.Proof.Pre
public import proofs.«01_k».proof.Proof.M.Claims
public import proofs.«01_k».proof.Proof.G.Claims
public import proofs.«01_k».proof.Proof.G.Claims4
public import Idealize.ShloMosaic.Adequacy
public import Idealize.ShloMosaic.Init

@[expose] public section

noncomputable section

namespace Cert.Proof

open Idealize.ShloMosaic Idealize.ShloMosaic.Pointwise Idealize.SL.Sem Cert.Front Cert.KernelIdeal.Front

/-- The reference runs, its arguments unchanged; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

set_option maxHeartbeats 4000000 in
/-- Where the arguments are numbers, kernel and reference end with the same five arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have hn := fun c => finite_nums _ _ _ _ _ _ _ _ _ _ _ (hp c)
  have hz := fun c => z_num (hn c).1 (hn c).2.2.2.1 (hn c).2.2.2.2.1
  refine ⟨fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N,
    fun c => (Cert.KernelIdeal.Gen.dats m 0 c).arrAt 17 Cert.KernelIdeal.cfg0.N, fun c => (Cert.KernelIdeal.Gen.dats m 0 c).arrAt 18 Cert.KernelIdeal.cfg0.N,
    Cert.KernelIdeal.Value.run_blocks (F := Ideal) m g,
    (θ_run Cert.ReferenceIdeal.defs _ _).mono (fun r h c => ?_)
      (Cert.ReferenceIdeal.Front.run_arrays m' g' (fun c => ?_) (fun c => ?_))⟩
  · obtain ⟨r0, r1, r2, r3, r4, hk⟩ := h c
    obtain ⟨_, n1, n3, _, _, n6, n7, n8⟩ := hn c
    obtain ⟨a0, a1, a2, a3, a4, a5, a6, a7, a8, a9, a10⟩ := ha c
    refine ⟨r0.trans (Eq.trans ?_ (arr14 m c (hz c) n1 n6 n7 n8).symm), r1.trans (Eq.trans ?_ (arr15 m c).symm),
      r2.trans (Eq.trans ?_ (arr16 m c (hz c)).symm), r3.trans (Eq.trans ?_ (arr17 m c).symm), r4.trans (Eq.trans ?_ (arr18 m c).symm), hk⟩
    · rw [a0, a1, a2, a4, a5, a6, a7, a8]
    · rw [a0, a3, a4, a5, a9, a10]
    · rw [a0, a1, a4, a5, a7]
    · rw [a0, a2, a4, a5]
    · rw [a0, a3, a4, a5]
  · obtain ⟨a0, a1, a2, a3, a4, a5, _⟩ := ha c
    rw [a0, a4, a5]
    exact hz c
  · obtain ⟨a0, a1, a2, a3, _⟩ := ha c
    rw [a3]
    exact (hn c).2.2.1

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_in_range.Gen.facts, Cert.Pre_router_finite.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, Cert.Moe.frame_kernel, Cert.Moe.frame_ideal, Cert.Moe.frame_ref,
  Cert.Merge.frame_kernel, Cert.Merge.frame_ideal, Cert.Merge.frame_ref,
  Cert.Router.frame_kernel, Cert.Router.frame_ideal, fun m g _ => Cert.Router.frame_ideal m g trivial,
  Cert.Router.frame_ref, fun m g _ => Cert.Router.frame_ref m g trivial,
  trivial, algebraic, trivial, Cert.Moe.algebraic, trivial, Cert.Merge.algebraic, trivial, Cert.Router.algebraic⟩

end Cert.Proof

end
